-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.2.2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.2.2.2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.2.2.2.2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.2.2.2.2.2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.2.2.2.2.2.2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.2.2.2.2.2.2.2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.2.2.2.2.2.2.2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.2.2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.2.2.2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.2.2.2.2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.2.2.2.2.2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.2.2.2.2.2.2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.2.2.2.2.2.2.2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.2.2.2.2.2.2.2.2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.2.2.2.2.2.2.2.2.2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.2.2.2.2.2.2.2.2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x128 : Shape := ⟨2, ![1, 128]⟩
abbrev S192x128 : Shape := ⟨2, ![192, 128]⟩
abbrev S192x64 : Shape := ⟨2, ![192, 64]⟩
abbrev S192 : Shape := ⟨1, ![192]⟩
abbrev S128x256 : Shape := ⟨2, ![128, 256]⟩
abbrev S256 : Shape := ⟨1, ![256]⟩
abbrev S256x16 : Shape := ⟨2, ![256, 16]⟩
abbrev S16 : Shape := ⟨1, ![16]⟩
abbrev S80x8 : Shape := ⟨2, ![80, 8]⟩
abbrev S8 : Shape := ⟨1, ![8]⟩
abbrev S8x1 : Shape := ⟨2, ![8, 1]⟩
abbrev S1 : Shape := ⟨1, ![1]⟩
abbrev S64x64 : Shape := ⟨2, ![64, 64]⟩
abbrev S64 : Shape := ⟨1, ![64]⟩
abbrev S_ : Shape := ⟨0, ![]⟩

class Facts : Prop where
  bcast_S_S1x128 : S_.BroadcastsInDim S1x128 (![] : Fin 0 → Fin S1x128.rank)
  bcast_S_S192x128 : S_.BroadcastsInDim S192x128 (![] : Fin 0 → Fin S192x128.rank)
  bcast_S_S192x64 : S_.BroadcastsInDim S192x64 (![] : Fin 0 → Fin S192x64.rank)
  bcast_S_S192 : S_.BroadcastsInDim S192 (![] : Fin 0 → Fin S192.rank)
  bcast_S_S128x256 : S_.BroadcastsInDim S128x256 (![] : Fin 0 → Fin S128x256.rank)
  bcast_S_S256 : S_.BroadcastsInDim S256 (![] : Fin 0 → Fin S256.rank)
  bcast_S_S256x16 : S_.BroadcastsInDim S256x16 (![] : Fin 0 → Fin S256x16.rank)
  bcast_S_S16 : S_.BroadcastsInDim S16 (![] : Fin 0 → Fin S16.rank)
  bcast_S_S80x8 : S_.BroadcastsInDim S80x8 (![] : Fin 0 → Fin S80x8.rank)
  bcast_S_S8 : S_.BroadcastsInDim S8 (![] : Fin 0 → Fin S8.rank)
  bcast_S_S8x1 : S_.BroadcastsInDim S8x1 (![] : Fin 0 → Fin S8x1.rank)
  bcast_S_S1 : S_.BroadcastsInDim S1 (![] : Fin 0 → Fin S1.rank)
  bcast_S_S64x64 : S_.BroadcastsInDim S64x64 (![] : Fin 0 → Fin S64x64.rank)
  bcast_S_S64 : S_.BroadcastsInDim S64 (![] : Fin 0 → Fin S64.rank)

variable [Facts]

def fn_part3 {F : FTy → Type} [FloatOps F] (main_arg18 : FVec F S64 .f32) (main_arg19 : FVec F S64x64 .f32) (main_arg20 : FVec F S64 .f32) (main_v2 : IVec S1x128 1) (main_v5 : IVec S192x128 1) (main_v8 : IVec S192x64 1) (main_v11 : IVec S192 1) (main_v14 : IVec S192 1) (main_v17 : IVec S128x256 1) (main_v20 : IVec S256 1) (main_v23 : IVec S256x16 1) (main_v26 : IVec S16 1) (main_v29 : IVec S80x8 1) (main_v32 : IVec S8 1) (main_v35 : IVec S8x1 1) (main_v38 : IVec S1 1) (main_v41 : IVec S80x8 1) (main_v44 : IVec S8 1) (main_v47 : IVec S8x1 1) (main_v50 : IVec S1 1) (main_v53 : IVec S64x64 1) : IVec S1x128 1 × IVec S192x128 1 × IVec S192x64 1 × IVec S192 1 × IVec S192 1 × IVec S128x256 1 × IVec S256 1 × IVec S256x16 1 × IVec S16 1 × IVec S80x8 1 × IVec S8 1 × IVec S8x1 1 × IVec S1 1 × IVec S80x8 1 × IVec S8 1 × IVec S8x1 1 × IVec S1 1 × IVec S64x64 1 × IVec S64 1 × IVec S64x64 1 × IVec S64 1 :=
  let main_v54 : FVec F S64 .f32 := Host.absf main_arg18
  let main_cst_17 : FVec F S_ .f32 := constant S_ .f32 0x7F800000#32
  let main_v55 : FVec F S64 .f32 := broadcastInDim S64 ![] bcast_S_S64 main_cst_17
  let main_v56 : IVec S64 1 := cmpf .olt main_v54 main_v55
  let main_v57 : FVec F S64x64 .f32 := Host.absf main_arg19
  let main_cst_18 : FVec F S_ .f32 := constant S_ .f32 0x7F800000#32
  let main_v58 : FVec F S64x64 .f32 := broadcastInDim S64x64 ![] bcast_S_S64x64 main_cst_18
  let main_v59 : IVec S64x64 1 := cmpf .olt main_v57 main_v58
  let main_v60 : FVec F S64 .f32 := Host.absf main_arg20
  let main_cst_19 : FVec F S_ .f32 := constant S_ .f32 0x7F800000#32
  let main_v61 : FVec F S64 .f32 := broadcastInDim S64 ![] bcast_S_S64 main_cst_19
  let main_v62 : IVec S64 1 := cmpf .olt main_v60 main_v61
  (main_v2, main_v5, main_v8, main_v11, main_v14, main_v17, main_v20, main_v23, main_v26, main_v29, main_v32, main_v35, main_v38, main_v41, main_v44, main_v47, main_v50, main_v53, main_v56, main_v59, main_v62)

def fn_part2 {F : FTy → Type} [FloatOps F] (main_arg12 : FVec F S1 .f32) (main_arg13 : FVec F S80x8 .f32) (main_arg14 : FVec F S8 .f32) (main_arg15 : FVec F S8x1 .f32) (main_arg16 : FVec F S1 .f32) (main_arg17 : FVec F S64x64 .f32) (main_arg18 : FVec F S64 .f32) (main_arg19 : FVec F S64x64 .f32) (main_arg20 : FVec F S64 .f32) (main_v2 : IVec S1x128 1) (main_v5 : IVec S192x128 1) (main_v8 : IVec S192x64 1) (main_v11 : IVec S192 1) (main_v14 : IVec S192 1) (main_v17 : IVec S128x256 1) (main_v20 : IVec S256 1) (main_v23 : IVec S256x16 1) (main_v26 : IVec S16 1) (main_v29 : IVec S80x8 1) (main_v32 : IVec S8 1) (main_v35 : IVec S8x1 1) : IVec S1x128 1 × IVec S192x128 1 × IVec S192x64 1 × IVec S192 1 × IVec S192 1 × IVec S128x256 1 × IVec S256 1 × IVec S256x16 1 × IVec S16 1 × IVec S80x8 1 × IVec S8 1 × IVec S8x1 1 × IVec S1 1 × IVec S80x8 1 × IVec S8 1 × IVec S8x1 1 × IVec S1 1 × IVec S64x64 1 × IVec S64 1 × IVec S64x64 1 × IVec S64 1 :=
  let main_v36 : FVec F S1 .f32 := Host.absf main_arg12
  let main_cst_11 : FVec F S_ .f32 := constant S_ .f32 0x7F800000#32
  let main_v37 : FVec F S1 .f32 := broadcastInDim S1 ![] bcast_S_S1 main_cst_11
  let main_v38 : IVec S1 1 := cmpf .olt main_v36 main_v37
  let main_v39 : FVec F S80x8 .f32 := Host.absf main_arg13
  let main_cst_12 : FVec F S_ .f32 := constant S_ .f32 0x7F800000#32
  let main_v40 : FVec F S80x8 .f32 := broadcastInDim S80x8 ![] bcast_S_S80x8 main_cst_12
  let main_v41 : IVec S80x8 1 := cmpf .olt main_v39 main_v40
  let main_v42 : FVec F S8 .f32 := Host.absf main_arg14
  let main_cst_13 : FVec F S_ .f32 := constant S_ .f32 0x7F800000#32
  let main_v43 : FVec F S8 .f32 := broadcastInDim S8 ![] bcast_S_S8 main_cst_13
  let main_v44 : IVec S8 1 := cmpf .olt main_v42 main_v43
  let main_v45 : FVec F S8x1 .f32 := Host.absf main_arg15
  let main_cst_14 : FVec F S_ .f32 := constant S_ .f32 0x7F800000#32
  let main_v46 : FVec F S8x1 .f32 := broadcastInDim S8x1 ![] bcast_S_S8x1 main_cst_14
  let main_v47 : IVec S8x1 1 := cmpf .olt main_v45 main_v46
  let main_v48 : FVec F S1 .f32 := Host.absf main_arg16
  let main_cst_15 : FVec F S_ .f32 := constant S_ .f32 0x7F800000#32
  let main_v49 : FVec F S1 .f32 := broadcastInDim S1 ![] bcast_S_S1 main_cst_15
  let main_v50 : IVec S1 1 := cmpf .olt main_v48 main_v49
  let main_v51 : FVec F S64x64 .f32 := Host.absf main_arg17
  let main_cst_16 : FVec F S_ .f32 := constant S_ .f32 0x7F800000#32
  let main_v52 : FVec F S64x64 .f32 := broadcastInDim S64x64 ![] bcast_S_S64x64 main_cst_16
  let main_v53 : IVec S64x64 1 := cmpf .olt main_v51 main_v52
  fn_part3 (F := F) main_arg18 main_arg19 main_arg20 main_v2 main_v5 main_v8 main_v11 main_v14 main_v17 main_v20 main_v23 main_v26 main_v29 main_v32 main_v35 main_v38 main_v41 main_v44 main_v47 main_v50 main_v53

def fn_part1 {F : FTy → Type} [FloatOps F] (main_arg6 : FVec F S256 .f32) (main_arg7 : FVec F S256x16 .f32) (main_arg8 : FVec F S16 .f32) (main_arg9 : FVec F S80x8 .f32) (main_arg10 : FVec F S8 .f32) (main_arg11 : FVec F S8x1 .f32) (main_arg12 : FVec F S1 .f32) (main_arg13 : FVec F S80x8 .f32) (main_arg14 : FVec F S8 .f32) (main_arg15 : FVec F S8x1 .f32) (main_arg16 : FVec F S1 .f32) (main_arg17 : FVec F S64x64 .f32) (main_arg18 : FVec F S64 .f32) (main_arg19 : FVec F S64x64 .f32) (main_arg20 : FVec F S64 .f32) (main_v2 : IVec S1x128 1) (main_v5 : IVec S192x128 1) (main_v8 : IVec S192x64 1) (main_v11 : IVec S192 1) (main_v14 : IVec S192 1) (main_v17 : IVec S128x256 1) : IVec S1x128 1 × IVec S192x128 1 × IVec S192x64 1 × IVec S192 1 × IVec S192 1 × IVec S128x256 1 × IVec S256 1 × IVec S256x16 1 × IVec S16 1 × IVec S80x8 1 × IVec S8 1 × IVec S8x1 1 × IVec S1 1 × IVec S80x8 1 × IVec S8 1 × IVec S8x1 1 × IVec S1 1 × IVec S64x64 1 × IVec S64 1 × IVec S64x64 1 × IVec S64 1 :=
  let main_v18 : FVec F S256 .f32 := Host.absf main_arg6
  let main_cst_5 : FVec F S_ .f32 := constant S_ .f32 0x7F800000#32
  let main_v19 : FVec F S256 .f32 := broadcastInDim S256 ![] bcast_S_S256 main_cst_5
  let main_v20 : IVec S256 1 := cmpf .olt main_v18 main_v19
  let main_v21 : FVec F S256x16 .f32 := Host.absf main_arg7
  let main_cst_6 : FVec F S_ .f32 := constant S_ .f32 0x7F800000#32
  let main_v22 : FVec F S256x16 .f32 := broadcastInDim S256x16 ![] bcast_S_S256x16 main_cst_6
  let main_v23 : IVec S256x16 1 := cmpf .olt main_v21 main_v22
  let main_v24 : FVec F S16 .f32 := Host.absf main_arg8
  let main_cst_7 : FVec F S_ .f32 := constant S_ .f32 0x7F800000#32
  let main_v25 : FVec F S16 .f32 := broadcastInDim S16 ![] bcast_S_S16 main_cst_7
  let main_v26 : IVec S16 1 := cmpf .olt main_v24 main_v25
  let main_v27 : FVec F S80x8 .f32 := Host.absf main_arg9
  let main_cst_8 : FVec F S_ .f32 := constant S_ .f32 0x7F800000#32
  let main_v28 : FVec F S80x8 .f32 := broadcastInDim S80x8 ![] bcast_S_S80x8 main_cst_8
  let main_v29 : IVec S80x8 1 := cmpf .olt main_v27 main_v28
  let main_v30 : FVec F S8 .f32 := Host.absf main_arg10
  let main_cst_9 : FVec F S_ .f32 := constant S_ .f32 0x7F800000#32
  let main_v31 : FVec F S8 .f32 := broadcastInDim S8 ![] bcast_S_S8 main_cst_9
  let main_v32 : IVec S8 1 := cmpf .olt main_v30 main_v31
  let main_v33 : FVec F S8x1 .f32 := Host.absf main_arg11
  let main_cst_10 : FVec F S_ .f32 := constant S_ .f32 0x7F800000#32
  let main_v34 : FVec F S8x1 .f32 := broadcastInDim S8x1 ![] bcast_S_S8x1 main_cst_10
  let main_v35 : IVec S8x1 1 := cmpf .olt main_v33 main_v34
  fn_part2 (F := F) main_arg12 main_arg13 main_arg14 main_arg15 main_arg16 main_arg17 main_arg18 main_arg19 main_arg20 main_v2 main_v5 main_v8 main_v11 main_v14 main_v17 main_v20 main_v23 main_v26 main_v29 main_v32 main_v35

def fn {F : FTy → Type} [FloatOps F] (main_arg0 : FVec F S1x128 .f32) (main_arg1 : FVec F S192x128 .f32) (main_arg2 : FVec F S192x64 .f32) (main_arg3 : FVec F S192 .f32) (main_arg4 : FVec F S192 .f32) (main_arg5 : FVec F S128x256 .f32) (main_arg6 : FVec F S256 .f32) (main_arg7 : FVec F S256x16 .f32) (main_arg8 : FVec F S16 .f32) (main_arg9 : FVec F S80x8 .f32) (main_arg10 : FVec F S8 .f32) (main_arg11 : FVec F S8x1 .f32) (main_arg12 : FVec F S1 .f32) (main_arg13 : FVec F S80x8 .f32) (main_arg14 : FVec F S8 .f32) (main_arg15 : FVec F S8x1 .f32) (main_arg16 : FVec F S1 .f32) (main_arg17 : FVec F S64x64 .f32) (main_arg18 : FVec F S64 .f32) (main_arg19 : FVec F S64x64 .f32) (main_arg20 : FVec F S64 .f32) : IVec S1x128 1 × IVec S192x128 1 × IVec S192x64 1 × IVec S192 1 × IVec S192 1 × IVec S128x256 1 × IVec S256 1 × IVec S256x16 1 × IVec S16 1 × IVec S80x8 1 × IVec S8 1 × IVec S8x1 1 × IVec S1 1 × IVec S80x8 1 × IVec S8 1 × IVec S8x1 1 × IVec S1 1 × IVec S64x64 1 × IVec S64 1 × IVec S64x64 1 × IVec S64 1 :=
  let main_v0 : FVec F S1x128 .f32 := Host.absf main_arg0
  let main_cst : FVec F S_ .f32 := constant S_ .f32 0x7F800000#32
  let main_v1 : FVec F S1x128 .f32 := broadcastInDim S1x128 ![] bcast_S_S1x128 main_cst
  let main_v2 : IVec S1x128 1 := cmpf .olt main_v0 main_v1
  let main_v3 : FVec F S192x128 .f32 := Host.absf main_arg1
  let main_cst_0 : FVec F S_ .f32 := constant S_ .f32 0x7F800000#32
  let main_v4 : FVec F S192x128 .f32 := broadcastInDim S192x128 ![] bcast_S_S192x128 main_cst_0
  let main_v5 : IVec S192x128 1 := cmpf .olt main_v3 main_v4
  let main_v6 : FVec F S192x64 .f32 := Host.absf main_arg2
  let main_cst_1 : FVec F S_ .f32 := constant S_ .f32 0x7F800000#32
  let main_v7 : FVec F S192x64 .f32 := broadcastInDim S192x64 ![] bcast_S_S192x64 main_cst_1
  let main_v8 : IVec S192x64 1 := cmpf .olt main_v6 main_v7
  let main_v9 : FVec F S192 .f32 := Host.absf main_arg3
  let main_cst_2 : FVec F S_ .f32 := constant S_ .f32 0x7F800000#32
  let main_v10 : FVec F S192 .f32 := broadcastInDim S192 ![] bcast_S_S192 main_cst_2
  let main_v11 : IVec S192 1 := cmpf .olt main_v9 main_v10
  let main_v12 : FVec F S192 .f32 := Host.absf main_arg4
  let main_cst_3 : FVec F S_ .f32 := constant S_ .f32 0x7F800000#32
  let main_v13 : FVec F S192 .f32 := broadcastInDim S192 ![] bcast_S_S192 main_cst_3
  let main_v14 : IVec S192 1 := cmpf .olt main_v12 main_v13
  let main_v15 : FVec F S128x256 .f32 := Host.absf main_arg5
  let main_cst_4 : FVec F S_ .f32 := constant S_ .f32 0x7F800000#32
  let main_v16 : FVec F S128x256 .f32 := broadcastInDim S128x256 ![] bcast_S_S128x256 main_cst_4
  let main_v17 : IVec S128x256 1 := cmpf .olt main_v15 main_v16
  fn_part1 (F := F) main_arg6 main_arg7 main_arg8 main_arg9 main_arg10 main_arg11 main_arg12 main_arg13 main_arg14 main_arg15 main_arg16 main_arg17 main_arg18 main_arg19 main_arg20 main_v2 main_v5 main_v8 main_v11 main_v14 main_v17
-- ==== Kernel.lean ====
abbrev S1x128 : Shape := ⟨2, ![1, 128]⟩
abbrev S192x128 : Shape := ⟨2, ![192, 128]⟩
abbrev S192x64 : Shape := ⟨2, ![192, 64]⟩
abbrev S192 : Shape := ⟨1, ![192]⟩
abbrev S128x256 : Shape := ⟨2, ![128, 256]⟩
abbrev S256 : Shape := ⟨1, ![256]⟩
abbrev S256x16 : Shape := ⟨2, ![256, 16]⟩
abbrev S16 : Shape := ⟨1, ![16]⟩
abbrev S80x8 : Shape := ⟨2, ![80, 8]⟩
abbrev S8 : Shape := ⟨1, ![8]⟩
abbrev S8x1 : Shape := ⟨2, ![8, 1]⟩
abbrev S1 : Shape := ⟨1, ![1]⟩
abbrev S64x64 : Shape := ⟨2, ![64, 64]⟩
abbrev S64 : Shape := ⟨1, ![64]⟩
abbrev S16x8 : Shape := ⟨2, ![16, 8]⟩
abbrev S16x16 : Shape := ⟨2, ![16, 16]⟩
abbrev S64x192 : Shape := ⟨2, ![64, 192]⟩
abbrev S1x8 : Shape := ⟨2, ![1, 8]⟩
abbrev S128x192 : Shape := ⟨2, ![128, 192]⟩
abbrev S1x192 : Shape := ⟨2, ![1, 192]⟩
abbrev S64x256 : Shape := ⟨2, ![64, 256]⟩
abbrev S1x256 : Shape := ⟨2, ![1, 256]⟩
abbrev S64x8 : Shape := ⟨2, ![64, 8]⟩
abbrev S1x1 : Shape := ⟨2, ![1, 1]⟩
abbrev S1x64 : Shape := ⟨2, ![1, 64]⟩
abbrev S512x64 : Shape := ⟨2, ![512, 64]⟩
abbrev S512x256 : Shape := ⟨2, ![512, 256]⟩
abbrev S512x8 : Shape := ⟨2, ![512, 8]⟩
abbrev S16384x128 : Shape := ⟨2, ![16384, 128]⟩
abbrev S128x8 : Shape := ⟨2, ![128, 8]⟩
abbrev S128x1x8 : Shape := ⟨3, ![128, 1, 8]⟩
abbrev S128x64 : Shape := ⟨2, ![128, 64]⟩
abbrev S128x128 : Shape := ⟨2, ![128, 128]⟩
abbrev S128x1x256 : Shape := ⟨3, ![128, 1, 256]⟩
abbrev S1x128x256 : Shape := ⟨3, ![1, 128, 256]⟩
abbrev S128x128x256 : Shape := ⟨3, ![128, 128, 256]⟩
abbrev S16384x256 : Shape := ⟨2, ![16384, 256]⟩
abbrev S16384x16 : Shape := ⟨2, ![16384, 16]⟩
abbrev S16384x8 : Shape := ⟨2, ![16384, 8]⟩
abbrev S128x128x8 : Shape := ⟨3, ![128, 128, 8]⟩
abbrev S1x1x8 : Shape := ⟨3, ![1, 1, 8]⟩
abbrev S1x32 : Shape := ⟨2, ![1, 32]⟩
abbrev S128x32 : Shape := ⟨2, ![128, 32]⟩
abbrev S16384x32 : Shape := ⟨2, ![16384, 32]⟩
abbrev S128x128x32 : Shape := ⟨3, ![128, 128, 32]⟩
abbrev S128x1x32 : Shape := ⟨3, ![128, 1, 32]⟩
abbrev S1x1x32 : Shape := ⟨3, ![1, 1, 32]⟩
abbrev S128 : Shape := ⟨1, ![128]⟩
abbrev S128x1 : Shape := ⟨2, ![128, 1]⟩

abbrev nBuf : Space → Nat
  | .hbm => 57
  | .vmem => 33
  | .smem => 0
  | _ => 0

abbrev bufTy : (tb : Table) → Fin (tcTables nBuf tb) → BufTy
  | .hbm, ⟨0, _⟩ => ⟨S1x128, .f32⟩
  | .hbm, ⟨1, _⟩ => ⟨S192x128, .f32⟩
  | .hbm, ⟨2, _⟩ => ⟨S192x64, .f32⟩
  | .hbm, ⟨3, _⟩ => ⟨S192, .f32⟩
  | .hbm, ⟨4, _⟩ => ⟨S192, .f32⟩
  | .hbm, ⟨5, _⟩ => ⟨S128x256, .f32⟩
  | .hbm, ⟨6, _⟩ => ⟨S256, .f32⟩
  | .hbm, ⟨7, _⟩ => ⟨S256x16, .f32⟩
  | .hbm, ⟨8, _⟩ => ⟨S16, .f32⟩
  | .hbm, ⟨9, _⟩ => ⟨S80x8, .f32⟩
  | .hbm, ⟨10, _⟩ => ⟨S8, .f32⟩
  | .hbm, ⟨11, _⟩ => ⟨S8x1, .f32⟩
  | .hbm, ⟨12, _⟩ => ⟨S1, .f32⟩
  | .hbm, ⟨13, _⟩ => ⟨S80x8, .f32⟩
  | .hbm, ⟨14, _⟩ => ⟨S8, .f32⟩
  | .hbm, ⟨15, _⟩ => ⟨S8x1, .f32⟩
  | .hbm, ⟨16, _⟩ => ⟨S1, .f32⟩
  | .hbm, ⟨17, _⟩ => ⟨S64x64, .f32⟩
  | .hbm, ⟨18, _⟩ => ⟨S64, .f32⟩
  | .hbm, ⟨19, _⟩ => ⟨S64x64, .f32⟩
  | .hbm, ⟨20, _⟩ => ⟨S64, .f32⟩
  | .hbm, ⟨21, _⟩ => ⟨S16x8, .f32⟩
  | .hbm, ⟨22, _⟩ => ⟨S16x8, .f32⟩
  | .hbm, ⟨23, _⟩ => ⟨S16x16, .f32⟩
  | .hbm, ⟨24, _⟩ => ⟨S256x16, .f32⟩
  | .hbm, ⟨25, _⟩ => ⟨S256x16, .bf16⟩
  | .hbm, ⟨26, _⟩ => ⟨S256x16, .f32⟩
  | .hbm, ⟨27, _⟩ => ⟨S256x16, .f32⟩
  | .hbm, ⟨28, _⟩ => ⟨S256x16, .bf16⟩
  | .hbm, ⟨29, _⟩ => ⟨S64x192, .f32⟩
  | .hbm, ⟨30, _⟩ => ⟨S64x192, .bf16⟩
  | .hbm, ⟨31, _⟩ => ⟨S64x192, .f32⟩
  | .hbm, ⟨32, _⟩ => ⟨S64x192, .f32⟩
  | .hbm, ⟨33, _⟩ => ⟨S64x192, .bf16⟩
  | .hbm, ⟨34, _⟩ => ⟨S16, .f32⟩
  | .hbm, ⟨35, _⟩ => ⟨S8, .f32⟩
  | .hbm, ⟨36, _⟩ => ⟨S8, .f32⟩
  | .hbm, ⟨37, _⟩ => ⟨S1x8, .f32⟩
  | .hbm, ⟨38, _⟩ => ⟨S8, .f32⟩
  | .hbm, ⟨39, _⟩ => ⟨S8, .f32⟩
  | .hbm, ⟨40, _⟩ => ⟨S1x8, .f32⟩
  | .hbm, ⟨41, _⟩ => ⟨S128x192, .f32⟩
  | .hbm, ⟨42, _⟩ => ⟨S1x192, .f32⟩
  | .hbm, ⟨43, _⟩ => ⟨S1x192, .f32⟩
  | .hbm, ⟨44, _⟩ => ⟨S64x256, .f32⟩
  | .hbm, ⟨45, _⟩ => ⟨S64x256, .f32⟩
  | .hbm, ⟨46, _⟩ => ⟨S1x256, .f32⟩
  | .hbm, ⟨47, _⟩ => ⟨S64x8, .f32⟩
  | .hbm, ⟨48, _⟩ => ⟨S64x8, .f32⟩
  | .hbm, ⟨49, _⟩ => ⟨S1x8, .f32⟩
  | .hbm, ⟨50, _⟩ => ⟨S1x1, .f32⟩
  | .hbm, ⟨51, _⟩ => ⟨S1x8, .f32⟩
  | .hbm, ⟨52, _⟩ => ⟨S1x1, .f32⟩
  | .hbm, ⟨53, _⟩ => ⟨S1x64, .f32⟩
  | .hbm, ⟨54, _⟩ => ⟨S1x64, .f32⟩
  | .hbm, ⟨55, _⟩ => ⟨S1x64, .f32⟩
  | .hbm, ⟨56, _⟩ => ⟨S64, .f32⟩
  | .local _ .vmem, ⟨0, _⟩ => ⟨S1x128, .f32⟩
  | .local _ .vmem, ⟨1, _⟩ => ⟨S128x192, .f32⟩
  | .local _ .vmem, ⟨2, _⟩ => ⟨S64x192, .bf16⟩
  | .local _ .vmem, ⟨3, _⟩ => ⟨S64x192, .bf16⟩
  | .local _ .vmem, ⟨4, _⟩ => ⟨S1x192, .f32⟩
  | .local _ .vmem, ⟨5, _⟩ => ⟨S1x192, .f32⟩
  | .local _ .vmem, ⟨6, _⟩ => ⟨S64x256, .f32⟩
  | .local _ .vmem, ⟨7, _⟩ => ⟨S64x256, .f32⟩
  | .local _ .vmem, ⟨8, _⟩ => ⟨S1x256, .f32⟩
  | .local _ .vmem, ⟨9, _⟩ => ⟨S256x16, .bf16⟩
  | .local _ .vmem, ⟨10, _⟩ => ⟨S256x16, .bf16⟩
  | .local _ .vmem, ⟨11, _⟩ => ⟨S64x8, .f32⟩
  | .local _ .vmem, ⟨12, _⟩ => ⟨S1x8, .f32⟩
  | .local _ .vmem, ⟨13, _⟩ => ⟨S64x8, .f32⟩
  | .local _ .vmem, ⟨14, _⟩ => ⟨S1x8, .f32⟩
  | .local _ .vmem, ⟨15, _⟩ => ⟨S1x8, .f32⟩
  | .local _ .vmem, ⟨16, _⟩ => ⟨S1x1, .f32⟩
  | .local _ .vmem, ⟨17, _⟩ => ⟨S1x8, .f32⟩
  | .local _ .vmem, ⟨18, _⟩ => ⟨S1x1, .f32⟩
  | .local _ .vmem, ⟨19, _⟩ => ⟨S64x64, .f32⟩
  | .local _ .vmem, ⟨20, _⟩ => ⟨S1x64, .f32⟩
  | .local _ .vmem, ⟨21, _⟩ => ⟨S64x64, .f32⟩
  | .local _ .vmem, ⟨22, _⟩ => ⟨S1x64, .f32⟩
  | .local _ .vmem, ⟨23, _⟩ => ⟨S1x64, .f32⟩
  | .local _ .vmem, ⟨24, _⟩ => ⟨S512x64, .f32⟩
  | .local _ .vmem, ⟨25, _⟩ => ⟨S512x256, .f32⟩
  | .local _ .vmem, ⟨26, _⟩ => ⟨S512x256, .f32⟩
  | .local _ .vmem, ⟨27, _⟩ => ⟨S512x8, .f32⟩
  | .local _ .vmem, ⟨28, _⟩ => ⟨S512x64, .f32⟩
  | .local _ .vmem, ⟨29, _⟩ => ⟨S16384x128, .f32⟩
  | .local _ .vmem, ⟨30, _⟩ => ⟨S512x64, .f32⟩
  | .local _ .vmem, ⟨31, _⟩ => ⟨S512x64, .f32⟩
  | .local _ .vmem, ⟨32, _⟩ => ⟨S512x8, .f32⟩
  | _, _ => ⟨S1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_scratch6 : Ref sig .tc := ⟨.vmem, 30, rfl⟩
abbrev cc0_scratch7 : Ref sig .tc := ⟨.vmem, 31, rfl⟩
abbrev cc0_scratch8 : Ref sig .tc := ⟨.vmem, 32, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c512_i32 : BitVec 32 := 512#32
  let v11 : BitVec 32 := Scalar.addi c0_i32 c512_i32
  let c1_i32 : BitVec 32 := 1#32
  ⟨c0_i32, v11, c1_i32⟩
def k0_off1 (k0_t1 : Fin k0_t1_loop.trips) : Fin 2 → Nat :=
  let c0_i32 : BitVec 32 := 0#32
  let c1_i32 : BitVec 32 := 1#32
  let arg33 : BitVec 32 := Scf.iv c0_i32 c1_i32 k0_t1
  let v112 : Index := Scalar.indexCast arg33
  let c0_76 : Index := 0#32
  ![v112.toNat, 0]
@[reducible] def k0_t2_loop : Scf.Loop 32 :=
  let c0_i32_35 : BitVec 32 := 0#32
  let c4_i32 : BitVec 32 := 4#32
  let v49 : BitVec 32 := Scalar.addi c0_i32_35 c4_i32
  let c1_i32_36 : BitVec 32 := 1#32
  ⟨c0_i32_35, v49, c1_i32_36⟩
def k0_off2 (k0_t2 : Fin k0_t2_loop.trips) : Fin 2 → Nat :=
  let c0_i32_35 : BitVec 32 := 0#32
  let c1_i32_36 : BitVec 32 := 1#32
  let arg33 : BitVec 32 := Scf.iv c0_i32_35 c1_i32_36 k0_t2
  let c128_i32 : BitVec 32 := 128#32
  let v79 : BitVec 32 := Scalar.muli arg33 c128_i32
  let v80 : Index := Scalar.indexCast v79
  let c0_64 : Index := 0#32
  ![v80.toNat, 0]
def k0_off3 (k0_t2 : Fin k0_t2_loop.trips) : Fin 2 → Nat :=
  let c0_i32_35 : BitVec 32 := 0#32
  let c1_i32_36 : BitVec 32 := 1#32
  let arg33 : BitVec 32 := Scf.iv c0_i32_35 c1_i32_36 k0_t2
  let c128_i32_65 : BitVec 32 := 128#32
  let v82 : BitVec 32 := Scalar.muli arg33 c128_i32_65
  let v83 : Index := Scalar.indexCast v82
  let c0_66 : Index := 0#32
  ![v83.toNat, 0]
def k0_off4 (k0_t2 : Fin k0_t2_loop.trips) : Fin 2 → Nat :=
  let c0_i32_35 : BitVec 32 := 0#32
  let c1_i32_36 : BitVec 32 := 1#32
  let arg33 : BitVec 32 := Scf.iv c0_i32_35 c1_i32_36 k0_t2
  let c128_i32_67 : BitVec 32 := 128#32
  let v86 : BitVec 32 := Scalar.muli arg33 c128_i32_67
  let v87 : Index := Scalar.indexCast v86
  let c0_68 : Index := 0#32
  ![v87.toNat, 0]
@[reducible] def k0_t3_loop : Scf.Loop 32 :=
  let c0_i32_70 : BitVec 32 := 0#32
  let c4_i32_71 : BitVec 32 := 4#32
  let v93 : BitVec 32 := Scalar.addi c0_i32_70 c4_i32_71
  let c1_i32_72 : BitVec 32 := 1#32
  ⟨c0_i32_70, v93, c1_i32_72⟩
def k0_off5 (k0_t3 : Fin k0_t3_loop.trips) : Fin 2 → Nat :=
  let c0_i32_70 : BitVec 32 := 0#32
  let c1_i32_72 : BitVec 32 := 1#32
  let arg34 : BitVec 32 := Scf.iv c0_i32_70 c1_i32_72 k0_t3
  let c128_i32_74 : BitVec 32 := 128#32
  let v94 : BitVec 32 := Scalar.muli arg34 c128_i32_74
  let v95 : Index := Scalar.indexCast v94
  let c0_75 : Index := 0#32
  ![v95.toNat, 0]
def k0_cond17 (k0_t2 : Fin k0_t2_loop.trips) : BitVec 1 :=
  let c0_i32_35 : BitVec 32 := 0#32
  let c1_i32_36 : BitVec 32 := 1#32
  let arg33 : BitVec 32 := Scf.iv c0_i32_35 c1_i32_36 k0_t2
  let c0_i32_115 : BitVec 32 := 0#32
  let v195 : BitVec 1 := Scalar.cmpi .eq arg33 c0_i32_115
  let v196 : BitVec 32 := Scalar.extui v195
  let c0_i32_116 : BitVec 32 := 0#32
  let v197 : BitVec 1 := Scalar.cmpi .ne v196 c0_i32_116
  v197

def k0_off6 (k0_t3 : Fin k0_t3_loop.trips) : Fin 2 → Nat :=
  let c0_i32_70 : BitVec 32 := 0#32
  let c1_i32_72 : BitVec 32 := 1#32
  let arg34 : BitVec 32 := Scf.iv c0_i32_70 c1_i32_72 k0_t3
  let c128_i32_119 : BitVec 32 := 128#32
  let v201 : BitVec 32 := Scalar.muli arg34 c128_i32_119
  let v202 : Index := Scalar.indexCast v201
  let c0_120 : Index := 0#32
  ![v202.toNat, 0]
def k0_cond18 (k0_t2 : Fin k0_t2_loop.trips) : BitVec 1 :=
  let c0_i32_35 : BitVec 32 := 0#32
  let c1_i32_36 : BitVec 32 := 1#32
  let arg33 : BitVec 32 := Scf.iv c0_i32_35 c1_i32_36 k0_t2
  let c0_i32_117 : BitVec 32 := 0#32
  let v198 : BitVec 1 := Scalar.cmpi .sgt arg33 c0_i32_117
  let v199 : BitVec 32 := Scalar.extui v198
  let c0_i32_118 : BitVec 32 := 0#32
  let v200 : BitVec 1 := Scalar.cmpi .ne v199 c0_i32_118
  v200

def k0_off7 (k0_t3 : Fin k0_t3_loop.trips) : Fin 2 → Nat :=
  let c0_i32_70 : BitVec 32 := 0#32
  let c1_i32_72 : BitVec 32 := 1#32
  let arg34 : BitVec 32 := Scf.iv c0_i32_70 c1_i32_72 k0_t3
  let c128_i32_119 : BitVec 32 := 128#32
  let v201 : BitVec 32 := Scalar.muli arg34 c128_i32_119
  let v202 : Index := Scalar.indexCast v201
  let c0_120 : Index := 0#32
  ![v202.toNat, 0]
@[reducible] def k0_t4_loop : Scf.Loop 32 :=
  let c0_i32_58 : BitVec 32 := 0#32
  let c4_i32_59 : BitVec 32 := 4#32
  let v76 : BitVec 32 := Scalar.addi c0_i32_58 c4_i32_59
  let c1_i32_60 : BitVec 32 := 1#32
  ⟨c0_i32_58, v76, c1_i32_60⟩
def k0_off8 (k0_t4 : Fin k0_t4_loop.trips) : Fin 2 → Nat :=
  let c0_i32_58 : BitVec 32 := 0#32
  let c1_i32_60 : BitVec 32 := 1#32
  let arg33 : BitVec 32 := Scf.iv c0_i32_58 c1_i32_60 k0_t4
  let c128_i32 : BitVec 32 := 128#32
  let v79 : BitVec 32 := Scalar.muli arg33 c128_i32
  let v80 : Index := Scalar.indexCast v79
  let c0_64 : Index := 0#32
  ![v80.toNat, 0]
def k0_off9 (k0_t4 : Fin k0_t4_loop.trips) : Fin 2 → Nat :=
  let c0_i32_58 : BitVec 32 := 0#32
  let c1_i32_60 : BitVec 32 := 1#32
  let arg33 : BitVec 32 := Scf.iv c0_i32_58 c1_i32_60 k0_t4
  let c128_i32_84 : BitVec 32 := 128#32
  let v144 : BitVec 32 := Scalar.muli arg33 c128_i32_84
  let v145 : Index := Scalar.indexCast v144
  let c0_85 : Index := 0#32
  ![v145.toNat, 0]
abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S256x16 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S256x16 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S64x8 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x8 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S64x8 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x8 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x8 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x8 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S64x64 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x64 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S64x64 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x64 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x64 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
-- ==== ReferenceIdeal.lean ====
abbrev S1x128 : Shape := ⟨2, ![1, 128]⟩
abbrev S192x128 : Shape := ⟨2, ![192, 128]⟩
abbrev S192x64 : Shape := ⟨2, ![192, 64]⟩
abbrev S192 : Shape := ⟨1, ![192]⟩
abbrev S128x256 : Shape := ⟨2, ![128, 256]⟩
abbrev S256 : Shape := ⟨1, ![256]⟩
abbrev S256x16 : Shape := ⟨2, ![256, 16]⟩
abbrev S16 : Shape := ⟨1, ![16]⟩
abbrev S80x8 : Shape := ⟨2, ![80, 8]⟩
abbrev S8 : Shape := ⟨1, ![8]⟩
abbrev S8x1 : Shape := ⟨2, ![8, 1]⟩
abbrev S1 : Shape := ⟨1, ![1]⟩
abbrev S64x64 : Shape := ⟨2, ![64, 64]⟩
abbrev S64 : Shape := ⟨1, ![64]⟩
abbrev S128 : Shape := ⟨1, ![128]⟩
abbrev S128x192 : Shape := ⟨2, ![128, 192]⟩
abbrev S_ : Shape := ⟨0, ![]⟩
abbrev S512x64 : Shape := ⟨2, ![512, 64]⟩
abbrev S64x192 : Shape := ⟨2, ![64, 192]⟩
abbrev S1x64 : Shape := ⟨2, ![1, 64]⟩
abbrev S512x511 : Shape := ⟨2, ![512, 511]⟩
abbrev S512x511x1 : Shape := ⟨3, ![512, 511, 1]⟩
abbrev S512x511x64 : Shape := ⟨3, ![512, 511, 64]⟩
abbrev S512x511x128 : Shape := ⟨3, ![512, 511, 128]⟩
abbrev S512x511x256 : Shape := ⟨3, ![512, 511, 256]⟩
abbrev S1x1x256 : Shape := ⟨3, ![1, 1, 256]⟩
abbrev S512x511x16 : Shape := ⟨3, ![512, 511, 16]⟩
abbrev S1x1x16 : Shape := ⟨3, ![1, 1, 16]⟩
abbrev S512x511x80 : Shape := ⟨3, ![512, 511, 80]⟩
abbrev S512x511x8 : Shape := ⟨3, ![512, 511, 8]⟩
abbrev S1x1x8 : Shape := ⟨3, ![1, 1, 8]⟩
abbrev S1x1x1 : Shape := ⟨3, ![1, 1, 1]⟩
abbrev S1x1x64 : Shape := ⟨3, ![1, 1, 64]⟩

abbrev nBuf : Space → Nat
  | .hbm => 195
  | .vmem => 0
  | .smem => 0
  | _ => 0

abbrev hbmTy0_0 (i : Nat) : BufTy := match i % 128 with
  | 0 => ⟨S1x128, .f32⟩
  | 1 => ⟨S192x128, .f32⟩
  | 2 => ⟨S192x64, .f32⟩
  | 3 => ⟨S192, .f32⟩
  | 4 => ⟨S192, .f32⟩
  | 5 => ⟨S128x256, .f32⟩
  | 6 => ⟨S256, .f32⟩
  | 7 => ⟨S256x16, .f32⟩
  | 8 => ⟨S16, .f32⟩
  | 9 => ⟨S80x8, .f32⟩
  | 10 => ⟨S8, .f32⟩
  | 11 => ⟨S8x1, .f32⟩
  | 12 => ⟨S1, .f32⟩
  | 13 => ⟨S80x8, .f32⟩
  | 14 => ⟨S8, .f32⟩
  | 15 => ⟨S8x1, .f32⟩
  | 16 => ⟨S1, .f32⟩
  | 17 => ⟨S64x64, .f32⟩
  | 18 => ⟨S64, .f32⟩
  | 19 => ⟨S64x64, .f32⟩
  | 20 => ⟨S64, .f32⟩
  | 21 => ⟨S128, .f32⟩
  | 22 => ⟨S128x192, .f32⟩
  | 23 => ⟨S192, .f32⟩
  | 24 => ⟨S192, .f32⟩
  | 25 => ⟨S_, .f32⟩
  | 26 => ⟨S64, .f32⟩
  | 27 => ⟨S_, .f32⟩
  | 28 => ⟨S512x64, .f32⟩
  | 29 => ⟨S_, .i32⟩
  | 30 => ⟨S192x64, .f32⟩
  | 31 => ⟨S192, .f32⟩
  | 32 => ⟨S192, .f32⟩
  | 33 => ⟨S_, .i32⟩
  | 34 => ⟨S64, .f32⟩
  | 35 => ⟨S512x64, .f32⟩
  | 36 => ⟨S_, .i32⟩
  | 37 => ⟨S_, .i1⟩
  | 38 => ⟨S64x192, .f32⟩
  | 39 => ⟨S192, .f32⟩
  | 40 => ⟨S192, .f32⟩
  | 41 => ⟨S64, .f32⟩
  | 42 => ⟨S64, .f32⟩
  | 43 => ⟨S64, .f32⟩
  | 44 => ⟨S64, .f32⟩
  | 45 => ⟨S64, .f32⟩
  | 46 => ⟨S_, .f32⟩
  | 47 => ⟨S64, .f32⟩
  | 48 => ⟨S64, .f32⟩
  | 49 => ⟨S_, .f32⟩
  | 50 => ⟨S64, .f32⟩
  | 51 => ⟨S64, .f32⟩
  | 52 => ⟨S64, .f32⟩
  | 53 => ⟨S64, .f32⟩
  | 54 => ⟨S64, .f32⟩
  | 55 => ⟨S64, .f32⟩
  | 56 => ⟨S64, .f32⟩
  | 57 => ⟨S_, .f32⟩
  | 58 => ⟨S64, .f32⟩
  | 59 => ⟨S64, .f32⟩
  | 60 => ⟨S_, .f32⟩
  | 61 => ⟨S64, .f32⟩
  | 62 => ⟨S64, .f32⟩
  | 63 => ⟨S64, .f32⟩
  | 64 => ⟨S64, .f32⟩
  | 65 => ⟨S64, .f32⟩
  | 66 => ⟨S64, .f32⟩
  | 67 => ⟨S64, .f32⟩
  | 68 => ⟨S_, .f32⟩
  | 69 => ⟨S64, .f32⟩
  | 70 => ⟨S64, .f32⟩
  | 71 => ⟨S64, .f32⟩
  | 72 => ⟨S64, .f32⟩
  | 73 => ⟨S64, .f32⟩
  | 74 => ⟨S1x64, .f32⟩
  | 75 => ⟨S_, .i32⟩
  | 76 => ⟨S512x64, .f32⟩
  | 77 => ⟨S_, .i32⟩
  | 78 => ⟨S_, .i32⟩
  | 79 => ⟨S512x511, .i32⟩
  | 80 => ⟨S512x511, .i32⟩
  | 81 => ⟨S512x511, .i1⟩
  | 82 => ⟨S512x511, .i32⟩
  | 83 => ⟨S512x511, .i32⟩
  | 84 => ⟨S_, .i32⟩
  | 85 => ⟨S512x511, .i32⟩
  | 86 => ⟨S512x511, .i1⟩
  | 87 => ⟨S_, .i32⟩
  | 88 => ⟨S512x511, .i32⟩
  | 89 => ⟨S512x511, .i32⟩
  | 90 => ⟨S512x511, .i32⟩
  | 91 => ⟨S512x511x1, .i32⟩
  | 92 => ⟨S512x511x64, .f32⟩
  | 93 => ⟨S_, .i32⟩
  | 94 => ⟨S512x511, .i32⟩
  | 95 => ⟨S512x511, .i1⟩
  | 96 => ⟨S_, .i32⟩
  | 97 => ⟨S512x511, .i32⟩
  | 98 => ⟨S512x511, .i32⟩
  | 99 => ⟨S512x511, .i32⟩
  | 100 => ⟨S512x511x1, .i32⟩
  | 101 => ⟨S512x511x64, .f32⟩
  | 102 => ⟨S512x511x128, .f32⟩
  | 103 => ⟨S512x511x256, .f32⟩
  | 104 => ⟨S1x1x256, .f32⟩
  | 105 => ⟨S512x511x256, .f32⟩
  | 106 => ⟨S512x511x256, .f32⟩
  | 107 => ⟨S_, .f32⟩
  | 108 => ⟨S512x511x256, .f32⟩
  | 109 => ⟨S512x511x256, .f32⟩
  | 110 => ⟨S512x511x16, .f32⟩
  | 111 => ⟨S1x1x16, .f32⟩
  | 112 => ⟨S512x511x16, .f32⟩
  | 113 => ⟨S512x511x16, .f32⟩
  | 114 => ⟨S_, .i32⟩
  | 115 => ⟨S512x511, .i32⟩
  | 116 => ⟨S512x511, .i1⟩
  | 117 => ⟨S_, .i32⟩
  | 118 => ⟨S512x511, .i32⟩
  | 119 => ⟨S512x511, .i32⟩
  | 120 => ⟨S512x511, .i32⟩
  | 121 => ⟨S512x511x1, .i32⟩
  | 122 => ⟨S512x511x64, .f32⟩
  | 123 => ⟨S512x511x80, .f32⟩
  | 124 => ⟨S512x511x8, .f32⟩
  | 125 => ⟨S1x1x8, .f32⟩
  | 126 => ⟨S512x511x8, .f32⟩
  | 127 => ⟨S512x511x8, .f32⟩
  | _ => ⟨S1x128, .f32⟩

abbrev hbmTy0_1 (i : Nat) : BufTy := match i % 128 with
  | 0 => ⟨S_, .f32⟩
  | 1 => ⟨S512x511x8, .f32⟩
  | 2 => ⟨S512x511x8, .f32⟩
  | 3 => ⟨S512x511x1, .f32⟩
  | 4 => ⟨S1x1x1, .f32⟩
  | 5 => ⟨S512x511x1, .f32⟩
  | 6 => ⟨S512x511x1, .f32⟩
  | 7 => ⟨S512x511x64, .f32⟩
  | 8 => ⟨S1x1x64, .f32⟩
  | 9 => ⟨S512x511x64, .f32⟩
  | 10 => ⟨S512x511x64, .f32⟩
  | 11 => ⟨S512x511x64, .f32⟩
  | 12 => ⟨S512x511x64, .f32⟩
  | 13 => ⟨S_, .f32⟩
  | 14 => ⟨S512x64, .f32⟩
  | 15 => ⟨S_, .i32⟩
  | 16 => ⟨S512x511, .i32⟩
  | 17 => ⟨S512x511, .i1⟩
  | 18 => ⟨S_, .i32⟩
  | 19 => ⟨S512x511, .i32⟩
  | 20 => ⟨S512x511, .i32⟩
  | 21 => ⟨S512x511, .i32⟩
  | 22 => ⟨S512x511x1, .i32⟩
  | 23 => ⟨S512x64, .f32⟩
  | 24 => ⟨S_, .f32⟩
  | 25 => ⟨S512x64, .f32⟩
  | 26 => ⟨S512x64, .f32⟩
  | 27 => ⟨S_, .i32⟩
  | 28 => ⟨S512x511, .i32⟩
  | 29 => ⟨S512x511, .i1⟩
  | 30 => ⟨S_, .i32⟩
  | 31 => ⟨S512x511, .i32⟩
  | 32 => ⟨S512x511, .i32⟩
  | 33 => ⟨S512x511, .i32⟩
  | 34 => ⟨S512x511x1, .i32⟩
  | 35 => ⟨S512x511x64, .f32⟩
  | 36 => ⟨S512x511x80, .f32⟩
  | 37 => ⟨S512x511x8, .f32⟩
  | 38 => ⟨S1x1x8, .f32⟩
  | 39 => ⟨S512x511x8, .f32⟩
  | 40 => ⟨S512x511x8, .f32⟩
  | 41 => ⟨S_, .f32⟩
  | 42 => ⟨S512x511x8, .f32⟩
  | 43 => ⟨S512x511x8, .f32⟩
  | 44 => ⟨S512x511x1, .f32⟩
  | 45 => ⟨S1x1x1, .f32⟩
  | 46 => ⟨S512x511x1, .f32⟩
  | 47 => ⟨S512x511x1, .f32⟩
  | 48 => ⟨S512x511x64, .f32⟩
  | 49 => ⟨S1x1x64, .f32⟩
  | 50 => ⟨S512x511x64, .f32⟩
  | 51 => ⟨S512x511x64, .f32⟩
  | 52 => ⟨S512x511x64, .f32⟩
  | 53 => ⟨S512x511x64, .f32⟩
  | 54 => ⟨S_, .f32⟩
  | 55 => ⟨S512x64, .f32⟩
  | 56 => ⟨S_, .i32⟩
  | 57 => ⟨S512x511, .i32⟩
  | 58 => ⟨S512x511, .i1⟩
  | 59 => ⟨S_, .i32⟩
  | 60 => ⟨S512x511, .i32⟩
  | 61 => ⟨S512x511, .i32⟩
  | 62 => ⟨S512x511, .i32⟩
  | 63 => ⟨S512x511x1, .i32⟩
  | 64 => ⟨S512x64, .f32⟩
  | 65 => ⟨S_, .f32⟩
  | 66 => ⟨S64, .f32⟩
  | _ => ⟨S1x128, .f32⟩

abbrev hbmTy (i : Nat) : BufTy := match i / 128 with
  | 0 => hbmTy0_0 i
  | 1 => hbmTy0_1 i
  | _ => ⟨S1x128, .f32⟩

abbrev bufTy : (tb : Table) → Fin (tcTables nBuf tb) → BufTy
  | .hbm, ⟨i, _⟩ => hbmTy i
  | _, _ => ⟨S1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_cst : Ref sig .tc := ⟨.hbm, 25, rfl⟩
abbrev main_v4 : Ref sig .tc := ⟨.hbm, 26, rfl⟩
abbrev main_cst_0 : Ref sig .tc := ⟨.hbm, 27, rfl⟩
abbrev main_v5 : Ref sig .tc := ⟨.hbm, 28, rfl⟩
abbrev main_c : Ref sig .tc := ⟨.hbm, 29, rfl⟩
abbrev main_v6_0 : Ref sig .tc := ⟨.hbm, 30, rfl⟩
abbrev main_v6_1 : Ref sig .tc := ⟨.hbm, 31, rfl⟩
abbrev main_v6_2 : Ref sig .tc := ⟨.hbm, 32, rfl⟩
abbrev main_v6_3 : Ref sig .tc := ⟨.hbm, 33, rfl⟩
abbrev main_v6_4 : Ref sig .tc := ⟨.hbm, 34, rfl⟩
abbrev main_v6_5 : Ref sig .tc := ⟨.hbm, 35, rfl⟩
abbrev main_while0c_c_25 : Ref sig .tc := ⟨.hbm, 36, rfl⟩
abbrev main_while0c_v104 : Ref sig .tc := ⟨.hbm, 37, rfl⟩
abbrev main_while0b_v104 : Ref sig .tc := ⟨.hbm, 38, rfl⟩
abbrev main_while0b_v105 : Ref sig .tc := ⟨.hbm, 39, rfl⟩
abbrev main_while0b_v106 : Ref sig .tc := ⟨.hbm, 40, rfl⟩
abbrev main_while0b_v107 : Ref sig .tc := ⟨.hbm, 41, rfl⟩
abbrev main_while0b_v108 : Ref sig .tc := ⟨.hbm, 42, rfl⟩
abbrev main_while0b_v109 : Ref sig .tc := ⟨.hbm, 43, rfl⟩
abbrev main_while0b_v110 : Ref sig .tc := ⟨.hbm, 44, rfl⟩
abbrev main_while0b_v111 : Ref sig .tc := ⟨.hbm, 45, rfl⟩
abbrev main_while0b_cst_25 : Ref sig .tc := ⟨.hbm, 46, rfl⟩
abbrev main_while0b_v112 : Ref sig .tc := ⟨.hbm, 47, rfl⟩
abbrev main_while0b_v113 : Ref sig .tc := ⟨.hbm, 48, rfl⟩
abbrev main_while0b_cst_26 : Ref sig .tc := ⟨.hbm, 49, rfl⟩
abbrev main_while0b_v114 : Ref sig .tc := ⟨.hbm, 50, rfl⟩
abbrev main_while0b_v115 : Ref sig .tc := ⟨.hbm, 51, rfl⟩
abbrev main_while0b_v116 : Ref sig .tc := ⟨.hbm, 52, rfl⟩
abbrev main_while0b_v117 : Ref sig .tc := ⟨.hbm, 53, rfl⟩
abbrev main_while0b_v118 : Ref sig .tc := ⟨.hbm, 54, rfl⟩
abbrev main_while0b_v119 : Ref sig .tc := ⟨.hbm, 55, rfl⟩
abbrev main_while0b_v120 : Ref sig .tc := ⟨.hbm, 56, rfl⟩
abbrev main_while0b_cst_27 : Ref sig .tc := ⟨.hbm, 57, rfl⟩
abbrev main_while0b_v121 : Ref sig .tc := ⟨.hbm, 58, rfl⟩
abbrev main_while0b_v122 : Ref sig .tc := ⟨.hbm, 59, rfl⟩
abbrev main_while0b_cst_28 : Ref sig .tc := ⟨.hbm, 60, rfl⟩
abbrev main_while0b_v123 : Ref sig .tc := ⟨.hbm, 61, rfl⟩
abbrev main_while0b_v124 : Ref sig .tc := ⟨.hbm, 62, rfl⟩
abbrev main_while0b_v125 : Ref sig .tc := ⟨.hbm, 63, rfl⟩
abbrev main_while0b_v126 : Ref sig .tc := ⟨.hbm, 64, rfl⟩
abbrev main_while0b_v127 : Ref sig .tc := ⟨.hbm, 65, rfl⟩
abbrev main_while0b_v128 : Ref sig .tc := ⟨.hbm, 66, rfl⟩
abbrev main_while0b_v129 : Ref sig .tc := ⟨.hbm, 67, rfl⟩
abbrev main_while0b_cst_29 : Ref sig .tc := ⟨.hbm, 68, rfl⟩
abbrev main_while0b_v130 : Ref sig .tc := ⟨.hbm, 69, rfl⟩
abbrev main_while0b_v131 : Ref sig .tc := ⟨.hbm, 70, rfl⟩
abbrev main_while0b_v132 : Ref sig .tc := ⟨.hbm, 71, rfl⟩
abbrev main_while0b_v133 : Ref sig .tc := ⟨.hbm, 72, rfl⟩
abbrev main_while0b_v134 : Ref sig .tc := ⟨.hbm, 73, rfl⟩
abbrev main_while0b_call0_v0 : Ref sig .tc := ⟨.hbm, 74, rfl⟩
abbrev main_while0b_call0_c : Ref sig .tc := ⟨.hbm, 75, rfl⟩
abbrev main_while0b_v135 : Ref sig .tc := ⟨.hbm, 76, rfl⟩
abbrev main_while0b_c_30 : Ref sig .tc := ⟨.hbm, 77, rfl⟩
abbrev main_while0b_v136 : Ref sig .tc := ⟨.hbm, 78, rfl⟩
abbrev main_v7 : Ref sig .tc := ⟨.hbm, 79, rfl⟩
abbrev main_v8 : Ref sig .tc := ⟨.hbm, 80, rfl⟩
abbrev main_v9 : Ref sig .tc := ⟨.hbm, 81, rfl⟩
abbrev main_v10 : Ref sig .tc := ⟨.hbm, 82, rfl⟩
abbrev main_v11 : Ref sig .tc := ⟨.hbm, 83, rfl⟩
abbrev main_c_1 : Ref sig .tc := ⟨.hbm, 84, rfl⟩
abbrev main_v12 : Ref sig .tc := ⟨.hbm, 85, rfl⟩
abbrev main_v13 : Ref sig .tc := ⟨.hbm, 86, rfl⟩
abbrev main_c_2 : Ref sig .tc := ⟨.hbm, 87, rfl⟩
abbrev main_v14 : Ref sig .tc := ⟨.hbm, 88, rfl⟩
abbrev main_v15 : Ref sig .tc := ⟨.hbm, 89, rfl⟩
abbrev main_v16 : Ref sig .tc := ⟨.hbm, 90, rfl⟩
abbrev main_v17 : Ref sig .tc := ⟨.hbm, 91, rfl⟩
abbrev main_v18 : Ref sig .tc := ⟨.hbm, 92, rfl⟩
abbrev main_c_3 : Ref sig .tc := ⟨.hbm, 93, rfl⟩
abbrev main_v19 : Ref sig .tc := ⟨.hbm, 94, rfl⟩
abbrev main_v20 : Ref sig .tc := ⟨.hbm, 95, rfl⟩
abbrev main_c_4 : Ref sig .tc := ⟨.hbm, 96, rfl⟩
abbrev main_v21 : Ref sig .tc := ⟨.hbm, 97, rfl⟩
abbrev main_v22 : Ref sig .tc := ⟨.hbm, 98, rfl⟩
abbrev main_v23 : Ref sig .tc := ⟨.hbm, 99, rfl⟩
abbrev main_v24 : Ref sig .tc := ⟨.hbm, 100, rfl⟩
abbrev main_v25 : Ref sig .tc := ⟨.hbm, 101, rfl⟩
abbrev main_v26 : Ref sig .tc := ⟨.hbm, 102, rfl⟩
abbrev main_v27 : Ref sig .tc := ⟨.hbm, 103, rfl⟩
abbrev main_v28 : Ref sig .tc := ⟨.hbm, 104, rfl⟩
abbrev main_v29 : Ref sig .tc := ⟨.hbm, 105, rfl⟩
abbrev main_v30 : Ref sig .tc := ⟨.hbm, 106, rfl⟩
abbrev main_cst_5 : Ref sig .tc := ⟨.hbm, 107, rfl⟩
abbrev main_v31 : Ref sig .tc := ⟨.hbm, 108, rfl⟩
abbrev main_v32 : Ref sig .tc := ⟨.hbm, 109, rfl⟩
abbrev main_v33 : Ref sig .tc := ⟨.hbm, 110, rfl⟩
abbrev main_v34 : Ref sig .tc := ⟨.hbm, 111, rfl⟩
abbrev main_v35 : Ref sig .tc := ⟨.hbm, 112, rfl⟩
abbrev main_v36 : Ref sig .tc := ⟨.hbm, 113, rfl⟩
abbrev main_c_6 : Ref sig .tc := ⟨.hbm, 114, rfl⟩
abbrev main_v37 : Ref sig .tc := ⟨.hbm, 115, rfl⟩
abbrev main_v38 : Ref sig .tc := ⟨.hbm, 116, rfl⟩
abbrev main_c_7 : Ref sig .tc := ⟨.hbm, 117, rfl⟩
abbrev main_v39 : Ref sig .tc := ⟨.hbm, 118, rfl⟩
abbrev main_v40 : Ref sig .tc := ⟨.hbm, 119, rfl⟩
abbrev main_v41 : Ref sig .tc := ⟨.hbm, 120, rfl⟩
abbrev main_v42 : Ref sig .tc := ⟨.hbm, 121, rfl⟩
abbrev main_v43 : Ref sig .tc := ⟨.hbm, 122, rfl⟩
abbrev main_v44 : Ref sig .tc := ⟨.hbm, 123, rfl⟩
abbrev main_v45 : Ref sig .tc := ⟨.hbm, 124, rfl⟩
abbrev main_v46 : Ref sig .tc := ⟨.hbm, 125, rfl⟩
abbrev main_v47 : Ref sig .tc := ⟨.hbm, 126, rfl⟩
abbrev main_v48 : Ref sig .tc := ⟨.hbm, 127, rfl⟩
abbrev main_cst_8 : Ref sig .tc := ⟨.hbm, 128, rfl⟩
abbrev main_v49 : Ref sig .tc := ⟨.hbm, 129, rfl⟩
abbrev main_v50 : Ref sig .tc := ⟨.hbm, 130, rfl⟩
abbrev main_v51 : Ref sig .tc := ⟨.hbm, 131, rfl⟩
abbrev main_v52 : Ref sig .tc := ⟨.hbm, 132, rfl⟩
abbrev main_v53 : Ref sig .tc := ⟨.hbm, 133, rfl⟩
abbrev main_v54 : Ref sig .tc := ⟨.hbm, 134, rfl⟩
abbrev main_v55 : Ref sig .tc := ⟨.hbm, 135, rfl⟩
abbrev main_v56 : Ref sig .tc := ⟨.hbm, 136, rfl⟩
abbrev main_v57 : Ref sig .tc := ⟨.hbm, 137, rfl⟩
abbrev main_v58 : Ref sig .tc := ⟨.hbm, 138, rfl⟩
abbrev main_v59 : Ref sig .tc := ⟨.hbm, 139, rfl⟩
abbrev main_v60 : Ref sig .tc := ⟨.hbm, 140, rfl⟩
abbrev main_cst_9 : Ref sig .tc := ⟨.hbm, 141, rfl⟩
abbrev main_v61 : Ref sig .tc := ⟨.hbm, 142, rfl⟩
abbrev main_c_10 : Ref sig .tc := ⟨.hbm, 143, rfl⟩
abbrev main_v62 : Ref sig .tc := ⟨.hbm, 144, rfl⟩
abbrev main_v63 : Ref sig .tc := ⟨.hbm, 145, rfl⟩
abbrev main_c_11 : Ref sig .tc := ⟨.hbm, 146, rfl⟩
abbrev main_v64 : Ref sig .tc := ⟨.hbm, 147, rfl⟩
abbrev main_v65 : Ref sig .tc := ⟨.hbm, 148, rfl⟩
abbrev main_v66 : Ref sig .tc := ⟨.hbm, 149, rfl⟩
abbrev main_v67 : Ref sig .tc := ⟨.hbm, 150, rfl⟩
abbrev main_v68 : Ref sig .tc := ⟨.hbm, 151, rfl⟩
abbrev main_cst_12 : Ref sig .tc := ⟨.hbm, 152, rfl⟩
abbrev main_v69 : Ref sig .tc := ⟨.hbm, 153, rfl⟩
abbrev main_v70 : Ref sig .tc := ⟨.hbm, 154, rfl⟩
abbrev main_c_13 : Ref sig .tc := ⟨.hbm, 155, rfl⟩
abbrev main_v71 : Ref sig .tc := ⟨.hbm, 156, rfl⟩
abbrev main_v72 : Ref sig .tc := ⟨.hbm, 157, rfl⟩
abbrev main_c_14 : Ref sig .tc := ⟨.hbm, 158, rfl⟩
abbrev main_v73 : Ref sig .tc := ⟨.hbm, 159, rfl⟩
abbrev main_v74 : Ref sig .tc := ⟨.hbm, 160, rfl⟩
abbrev main_v75 : Ref sig .tc := ⟨.hbm, 161, rfl⟩
abbrev main_v76 : Ref sig .tc := ⟨.hbm, 162, rfl⟩
abbrev main_v77 : Ref sig .tc := ⟨.hbm, 163, rfl⟩
abbrev main_v78 : Ref sig .tc := ⟨.hbm, 164, rfl⟩
abbrev main_v79 : Ref sig .tc := ⟨.hbm, 165, rfl⟩
abbrev main_v80 : Ref sig .tc := ⟨.hbm, 166, rfl⟩
abbrev main_v81 : Ref sig .tc := ⟨.hbm, 167, rfl⟩
abbrev main_v82 : Ref sig .tc := ⟨.hbm, 168, rfl⟩
abbrev main_cst_15 : Ref sig .tc := ⟨.hbm, 169, rfl⟩
abbrev main_v83 : Ref sig .tc := ⟨.hbm, 170, rfl⟩
abbrev main_v84 : Ref sig .tc := ⟨.hbm, 171, rfl⟩
abbrev main_v85 : Ref sig .tc := ⟨.hbm, 172, rfl⟩
abbrev main_v86 : Ref sig .tc := ⟨.hbm, 173, rfl⟩
abbrev main_v87 : Ref sig .tc := ⟨.hbm, 174, rfl⟩
abbrev main_v88 : Ref sig .tc := ⟨.hbm, 175, rfl⟩
abbrev main_v89 : Ref sig .tc := ⟨.hbm, 176, rfl⟩
abbrev main_v90 : Ref sig .tc := ⟨.hbm, 177, rfl⟩
abbrev main_v91 : Ref sig .tc := ⟨.hbm, 178, rfl⟩
abbrev main_v92 : Ref sig .tc := ⟨.hbm, 179, rfl⟩
abbrev main_v93 : Ref sig .tc := ⟨.hbm, 180, rfl⟩
abbrev main_v94 : Ref sig .tc := ⟨.hbm, 181, rfl⟩
abbrev main_cst_16 : Ref sig .tc := ⟨.hbm, 182, rfl⟩
abbrev main_v95 : Ref sig .tc := ⟨.hbm, 183, rfl⟩
abbrev main_c_17 : Ref sig .tc := ⟨.hbm, 184, rfl⟩
abbrev main_v96 : Ref sig .tc := ⟨.hbm, 185, rfl⟩
abbrev main_v97 : Ref sig .tc := ⟨.hbm, 186, rfl⟩
abbrev main_c_18 : Ref sig .tc := ⟨.hbm, 187, rfl⟩
abbrev main_v98 : Ref sig .tc := ⟨.hbm, 188, rfl⟩
abbrev main_v99 : Ref sig .tc := ⟨.hbm, 189, rfl⟩
abbrev main_v100 : Ref sig .tc := ⟨.hbm, 190, rfl⟩
abbrev main_v101 : Ref sig .tc := ⟨.hbm, 191, rfl⟩
abbrev main_v102 : Ref sig .tc := ⟨.hbm, 192, rfl⟩
abbrev main_cst_19 : Ref sig .tc := ⟨.hbm, 193, rfl⟩
abbrev main_v103 : Ref sig .tc := ⟨.hbm, 194, rfl⟩

abbrev nD : Nat := 1
abbrev τ : Topo := Topo.v7x

variable {F : FTy → Type} [FloatOps F]

abbrev main_while0_count : Scf.Loop 32 := ⟨0#32, 512#32, 1#32⟩
-- ==== Proof.Spec.lean ====
module

public import proofs.«01_k».proof.Defs
public import proofs.«01_k».proof.Proof.Gen.KernelIdeal
public import proofs.«01_k».proof.Proof.Gen.KernelIdeal.Skeleton
public import Idealize.ShloMosaic.Lib.ValueIdxCore

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

/-! # What the kernel computes, as functions of the blocks it is given

Each definition is one stage of the kernel's body, with the operations the body applies and nothing about buffers. The
run (`Proof/Trips.lean`, `Proof/Run.lean`) shows that the buffers hold these values; the value proof starts from them. -/

/-- Rows `128·i … 128·i + 127` of an array of 512 rows. -/
def blk {α : Type} {n : Nat} (x : (⟨2, ![512, n]⟩ : Shape).Idx → α) (i : ℕ) : (⟨2, ![128, n]⟩ : Shape).Idx → α :=
  fun y => x (ix2 ⟨(128 * i + (y 0).val) % 512, Nat.mod_lt _ (by omega)⟩ (y 1))

/-- The hidden state after `k` steps of the recurrence. -/
def hid (x0 : FVec F S1x128 .f32) (x1 : FVec F S128x192 .f32) (x2 x3 : FVec F S64x192 .bf16) (x4 x5 : FVec F S1x192 .f32) : ℕ → FVec F S1x64 .f32
  | 0 => k0_pay30
  | k + 1 => k0_pay31 x0 x1 x4 (hid x0 x1 x2 x3 x4 x5 k) x2 x3 x2 x5

/-- The node table: row `r` is the hidden state after `r + 1` steps. -/
def nodes (x0 : FVec F S1x128 .f32) (x1 : FVec F S128x192 .f32) (x2 x3 : FVec F S64x192 .bf16) (x4 x5 : FVec F S1x192 .f32) : FVec F S512x64 .f32 :=
  fun y => hid x0 x1 x2 x3 x4 x5 ((y 0).val + 1) (ix2 0 (y 1))

/-- Both layers' projections of the edge features of one pair of blocks. -/
def pairU (p q : FVec F S128x256 .f32) (x9 x10 : FVec F S256x16 .bf16) : FVec F S16384x16 .f32 := k0_pay6 p q x9 x10 x9

/-- The second layer's half of `pairU`. -/
def pairU1 (p q : FVec F S128x256 .f32) (x9 x10 : FVec F S256x16 .bf16) : FVec F S16384x8 .f32 := k0_pay7 p q x9 x10 x9

/-- Trip `i` of the outer loop as a trip number. -/
def tI (i : ℕ) : Fin k0_t2_loop.trips := ⟨i % 4, by have h : 4 ≤ k0_t2_loop.trips := by decide +kernel
                                                    exact lt_of_lt_of_le (Nat.mod_lt _ (by omega)) h⟩

/-- What source block `i` adds to target block `j` in the first convolution. -/
def pairAcc (p q : FVec F S128x256 .f32) (x9 x10 : FVec F S256x16 .bf16) (w : FVec F S128x8 .f32) (mm : FVec F S128x64 .f32)
    (x15 : FVec F S1x8 .f32) (x16 : FVec F S1x1 .f32) (i : Fin k0_t2_loop.trips) (j : ℕ) : FVec F S128x64 .f32 :=
  k0_pay24 (k0_pay37 w) mm (k0_pay38 i) (Scf.iv 0#32 1#32 j) (pairU p q x9 x10) x15 x16

/-- What the second layer keeps of every pair of blocks: the columns `8·n … 8·n + 7` belong to the pair `n = 4·i + j`. -/
def keepU (P Q : FVec F S512x256 .f32) (x9 x10 : FVec F S256x16 .bf16) : FVec F S16384x128 .f32 :=
  fun y => pairU1 (blk P ((y 1).val / 8 / 4)) (blk Q ((y 1).val / 8 % 4)) x9 x10 (ix2 (y 0) ⟨(y 1).val % 8, Nat.mod_lt _ (by omega)⟩)

/-- Target block `j` of the first convolution after the source blocks `0 … n`. -/
def sumB (P Q : FVec F S512x256 .f32) (W : FVec F S512x8 .f32) (M : FVec F S512x64 .f32) (x9 x10 : FVec F S256x16 .bf16)
    (x15 : FVec F S1x8 .f32) (x16 : FVec F S1x1 .f32) (j : ℕ) : ℕ → FVec F S128x64 .f32
  | 0 => pairAcc (blk P 0) (blk Q j) x9 x10 (blk W 0) (blk M 0) x15 x16 (tI 0) j
  | n + 1 => k0_pay39 (pairAcc (blk P (n + 1)) (blk Q j) x9 x10 (blk W (n + 1)) (blk M (n + 1)) x15 x16 (tI (n + 1)) j)
      (sumB P Q W M x9 x10 x15 x16 j n)

/-- The first convolution's table after the source blocks `0 … n`. -/
def outT (P Q : FVec F S512x256 .f32) (W : FVec F S512x8 .f32) (M : FVec F S512x64 .f32) (x9 x10 : FVec F S256x16 .bf16)
    (x15 : FVec F S1x8 .f32) (x16 : FVec F S1x1 .f32) (n : ℕ) : FVec F S512x64 .f32 :=
  fun y => sumB P Q W M x9 x10 x15 x16 ((y 0).val / 128) n (ix2 ⟨(y 0).val % 128, Nat.mod_lt _ (by omega)⟩ (y 1))

/-- Columns `32·k … 32·k + 31` of what the second layer keeps. -/
def cols32 {α : Type} (x : (⟨2, ![16384, 128]⟩ : Shape).Idx → α) (k : ℕ) : (⟨2, ![16384, 32]⟩ : Shape).Idx → α :=
  fun y => x (ix2 (y 0) ⟨(32 * k + (y 1).val) % 128, Nat.mod_lt _ (by omega)⟩)

/-- One trip of the last loop: what source block `k` adds to the running total `acc`. -/
def lastStep (w : FVec F S128x8 .f32) (u : FVec F S16384x32 .f32) (mm : FVec F S128x64 .f32) (x17 : FVec F S1x8 .f32) (x18 : FVec F S1x1 .f32)
    (k : ℕ) (acc : FVec F S1x64 .f32) : FVec F S1x64 .f32 :=
  k0_pay5 acc (Scf.iv 0#32 1#32 k) (k0_pay26 (k0_pay3 x17) w u) (k0_pay27 (k0_pay3 x17) w u)
    (iota .tc S128x128x32 32 [0] iota_S128x128x32_d0_w32) (iota .tc S128x128x32 32 [1] iota_S128x128x32_d1_w32) k0_pay28 k0_pay29 1#32 x18 mm

/-- The running total after `k` trips of the last loop. -/
def lastT (W : FVec F S512x8 .f32) (U : FVec F S16384x128 .f32) (M : FVec F S512x64 .f32) (x17 : FVec F S1x8 .f32) (x18 : FVec F S1x1 .f32) :
    ℕ → FVec F S1x64 .f32
  | 0 => k0_pay4
  | k + 1 => lastStep (blk W k) (cols32 U k) (blk M k) x17 x18 k (lastT W U M x17 x18 k)

section Whole
variable (x0 : FVec F S1x128 .f32) (x1 : FVec F S128x192 .f32) (x2 : FVec F S64x192 .bf16) (x3 : FVec F S64x192 .bf16) (x4 : FVec F S1x192 .f32) (x5 : FVec F S1x192 .f32) (x6 : FVec F S64x256 .f32) (x7 : FVec F S64x256 .f32) (x8 : FVec F S1x256 .f32) (x9 : FVec F S256x16 .bf16) (x10 : FVec F S256x16 .bf16) (x11 : FVec F S64x8 .f32) (x12 : FVec F S1x8 .f32) (x13 : FVec F S64x8 .f32) (x14 : FVec F S1x8 .f32) (x15 : FVec F S1x8 .f32) (x16 : FVec F S1x1 .f32) (x17 : FVec F S1x8 .f32) (x18 : FVec F S1x1 .f32) (x19 : FVec F S64x64 .f32) (x20 : FVec F S1x64 .f32) (x21 : FVec F S64x64 .f32) (x22 : FVec F S1x64 .f32)

/-- The node table from the blocks. -/
def tNodes : FVec F S512x64 .f32 := nodes x0 x1 x2 x3 x4 x5
/-- The source half of the edge layer. -/
def tP : FVec F S512x256 .f32 := k0_pay33 (tNodes x0 x1 x2 x3 x4 x5) x6
/-- The target half of the edge layer, with its bias. -/
def tQ : FVec F S512x256 .f32 := k0_pay34 (tNodes x0 x1 x2 x3 x4 x5) x7 x8
/-- The first layer's node term of the attention. -/
def tW0 : FVec F S512x8 .f32 := k0_pay35 (tNodes x0 x1 x2 x3 x4 x5) x11 x12
/-- The first layer's messages. -/
def tM0 : FVec F S512x64 .f32 := k0_pay36 (tNodes x0 x1 x2 x3 x4 x5) x19 x20
/-- What the second layer keeps of the pairs. -/
def tU : FVec F S16384x128 .f32 := keepU (tP x0 x1 x2 x3 x4 x5 x6) (tQ x0 x1 x2 x3 x4 x5 x7 x8) x9 x10
/-- The first convolution before its maximum with zero. -/
def tOut : FVec F S512x64 .f32 :=
  outT (tP x0 x1 x2 x3 x4 x5 x6) (tQ x0 x1 x2 x3 x4 x5 x7 x8) (tW0 x0 x1 x2 x3 x4 x5 x11 x12) (tM0 x0 x1 x2 x3 x4 x5 x19 x20) x9 x10 x15 x16 3
/-- The second layer's messages. -/
def tM1 : FVec F S512x64 .f32 := k0_pay1 (k0_pay41 (tOut x0 x1 x2 x3 x4 x5 x6 x7 x8 x9 x10 x11 x12 x15 x16 x19 x20) x21 x22)
/-- The second layer's node term of the attention. -/
def tW1 : FVec F S512x8 .f32 := k0_pay2 (k0_pay40 (tOut x0 x1 x2 x3 x4 x5 x6 x7 x8 x9 x10 x11 x12 x15 x16 x19 x20)) x13 x14
/-- THE RESULT of the kernel on its 23 blocks. -/
def result : FVec F S1x64 .f32 :=
  lastT (tW1 x0 x1 x2 x3 x4 x5 x6 x7 x8 x9 x10 x11 x12 x13 x14 x15 x16 x19 x20) (tU x0 x1 x2 x3 x4 x5 x6 x7 x8 x9 x10)
    (tM1 x0 x1 x2 x3 x4 x5 x6 x7 x8 x9 x10 x11 x12 x15 x16 x19 x20 x21 x22) x17 x18 4
end Whole

end Cert.Proof.KernelIdeal

end
-- ==== Proof.Trip3.lean ====
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Spec
public import Idealize.ShloMosaic.Lib.VecWindow

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

/-- The resource algebra the run is stated at: points-tos of the staged buffers, no counters beside them. -/
local notation "𝕄G" => MT nD τ sig Unit (Elt F) ℕ (UR sig nD τ) ℕ

/-! # One trip of the loop over pairs of blocks -/

/-- A vector cast to its own shape is itself. -/
theorem shapeCast_same {α : Type} {s : Shape} (x : s.Idx → α) (h : s.ShapeCasts s) : shapeCast s x h = x := by
  funext i; exact congrArg x (by simp [Shape.reshapeEquiv])

/-- The printed test that the pair number `4·i + j` is `k`. -/
theorem pair_test : ∀ (i : Fin k0_t2_loop.trips) (j : Fin k0_t3_loop.trips) (k : Fin 16),
    (Scalar.cmpi .ne (Scalar.extui (Scalar.cmpi .eq (Scalar.addi (Scalar.muli (Scf.iv 0#32 1#32 i) 4#32) (Scf.iv 0#32 1#32 j)) (BitVec.ofNat 32 k.val)) : BitVec 32) 0#32 = 1#1)
      ↔ 4 * i.val + j.val = k.val := by decide +kernel

/-- A guarded store of eight columns: the guard holds for one pair number, and its payload is the pair's. -/
theorem guard_cols {Val : EltTy → Type} {e : EltTy} (v : View sig .tc .vmem S16384x128 e) (idx k o : ℕ) {p : Prop} [Decidable p] {g : v.ty.Contents Val}
    {inb : ∀ a, (![0, o] : Fin 2 → ℕ) a + S16384x8.size a ≤ S16384x128.size a} {w : S16384x8.Idx → Val e} (U : S16384x8.Idx → Val e) (R : S16384x128.Idx → Val e)
    (ho : o = 8 * k) (hp : p ↔ idx = k) (hw : w = U)
    (hg : ∀ y : S16384x128.Idx, v.read Val g y = if (y 1).val / 8 = idx ∧ idx < k then U (ix2 (y 0) ⟨(y 1).val % 8, Nat.mod_lt _ (by omega)⟩) else R y) :
    ∀ y : S16384x128.Idx, v.read Val (if hc : p then v.writes Val g [⟨Rect.unit (s := S16384x128) ![0, o] S16384x8.size inb, w⟩] else g) y
      = if (y 1).val / 8 = idx ∧ idx < k + 1 then U (ix2 (y 0) ⟨(y 1).val % 8, Nat.mod_lt _ (by omega)⟩) else R y := by
  intro y
  by_cases h : p
  · rw [dif_pos h]
    have hk := hp.1 h
    by_cases hy : (y 1).val / 8 = idx
    · rw [if_pos ⟨hy, by omega⟩, ← hw]
      refine View.read_writes_cons_hit_of_coords v g (Rect.unit (s := S16384x128) ![0, o] S16384x8.size inb) w [] (ix2 (y 0) ⟨(y 1).val % 8, Nat.mod_lt _ (by omega)⟩) y fun a => ?_
      match a with
      | ⟨0, _⟩ => exact (Nat.zero_add _).symm.trans (congrArg _ (Nat.one_mul _).symm)
      | ⟨1, _⟩ =>
        have h1 : (y 1).val = o + 1 * ((y 1).val % 8) := by omega
        exact h1
    · rw [if_neg (fun h => hy h.1)]
      refine (View.read_writes_cons_miss_of_axis v g _ [] y 1 o 8 rfl rfl rfl ?_).trans ?_
      · have : (y 1).val / 8 < o / 8 ∨ o / 8 < (y 1).val / 8 := by omega
        omega
      · exact (hg y).trans (if_neg (fun h => hy h.1))
  · rw [dif_neg h, hg y]
    have hk : idx ≠ k := fun e => h (hp.2 e)
    have e : ((y 1).val / 8 = idx ∧ idx < k) ↔ ((y 1).val / 8 = idx ∧ idx < k + 1) := by omega
    simp only [e]

/-- The block a load of 128 rows reads. -/
theorem readAt_blk {sp : Space} {Val : EltTy → Type} {e : EltTy} {n : ℕ} (v : View sig .tc sp ⟨2, ![512, n]⟩ e) (f : v.ty.Contents Val) {off : Fin 2 → ℕ}
    (inb : ∀ a, off a + (⟨2, ![128, n]⟩ : Shape).size a ≤ (⟨2, ![512, n]⟩ : Shape).size a) (i : ℕ) (h : off = ![128 * i, 0]) (hi : i < 4) :
    v.readAt Val (Rect.unit (s := ⟨2, ![512, n]⟩) off (⟨2, ![128, n]⟩ : Shape).size inb).toLoadRect f = blk (v.read Val f) i := by
  subst h
  funext y
  refine congrArg (v.read Val f) (funext fun a => Fin.ext ?_)
  match a with
  | ⟨0, _⟩ =>
    have h0 : (y 0).val < 128 := (y 0).isLt
    have h1 : 128 * i + 1 * (y 0).val = (128 * i + (y 0).val) % 512 := by omega
    exact h1
  | ⟨1, _⟩ =>
    have h1 : 0 + 1 * (y 1).val = (y 1).val := by omega
    exact h1

/-- A store of 128 rows, read at an element. -/
theorem read_store_rows {sp : Space} {Val : EltTy → Type} {e : EltTy} {n : ℕ} (v : View sig .tc sp ⟨2, ![512, n]⟩ e) (f : v.ty.Contents Val) {off : Fin 2 → ℕ}
    (inb : ∀ a, off a + (⟨2, ![128, n]⟩ : Shape).size a ≤ (⟨2, ![512, n]⟩ : Shape).size a) (i : ℕ) (h : off = ![128 * i, 0])
    (w : (⟨2, ![128, n]⟩ : Shape).Idx → Val e) (y : (⟨2, ![512, n]⟩ : Shape).Idx) :
    v.read Val (v.writes Val f [⟨Rect.unit (s := ⟨2, ![512, n]⟩) off (⟨2, ![128, n]⟩ : Shape).size inb, w⟩]) y
      = if (y 0).val / 128 = i then w (ix2 ⟨(y 0).val % 128, Nat.mod_lt _ (by omega)⟩ (y 1)) else v.read Val f y := by
  subst h
  by_cases hy : (y 0).val / 128 = i
  · rw [if_pos hy]
    refine View.read_writes_cons_hit_of_coords v f (Rect.unit (s := ⟨2, ![512, n]⟩) ![128 * i, 0] (⟨2, ![128, n]⟩ : Shape).size inb) w [] (ix2 ⟨(y 0).val % 128, Nat.mod_lt _ (by omega)⟩ (y 1)) y fun a => ?_
    match a with
    | ⟨0, _⟩ =>
      have h1 : (y 0).val = 128 * i + 1 * ((y 0).val % 128) := by omega
      exact h1
    | ⟨1, _⟩ =>
      have h1 : (y 1).val = 0 + 1 * (y 1).val := by omega
      exact h1
  · rw [if_neg hy]
    refine View.read_writes_cons_miss_of_axis v f _ [] y 0 (128 * i) 128 rfl rfl rfl ?_
    omega

/-- The first source block starts each target block's sum … -/
theorem start_test : ∀ i : Fin k0_t2_loop.trips, k0_cond17 i = 1#1 ↔ i.val = 0 := by decide +kernel
/-- … and the later ones add to it. -/
theorem add_test : ∀ i : Fin k0_t2_loop.trips, k0_cond18 i = 1#1 ↔ i.val ≠ 0 := by decide +kernel

/-- ONE TRIP: the pair's eight columns are kept, and the target block's sum is started or added to. -/
theorem trip_t3 (c : Dev nD) (arg0 : Memref sig .tc .vmem S1x128 .f32) (harg0 : arg0.IsWhole) (arg1 : Memref sig .tc .vmem S128x192 .f32) (harg1 : arg1.IsWhole) (arg2 : Memref sig .tc .vmem S64x192 .bf16) (harg2 : arg2.IsWhole) (arg3 : Memref sig .tc .vmem S64x192 .bf16) (harg3 : arg3.IsWhole) (arg4 : Memref sig .tc .vmem S1x192 .f32) (harg4 : arg4.IsWhole) (arg5 : Memref sig .tc .vmem S1x192 .f32) (harg5 : arg5.IsWhole) (arg6 : Memref sig .tc .vmem S64x256 .f32) (harg6 : arg6.IsWhole) (arg7 : Memref sig .tc .vmem S64x256 .f32) (harg7 : arg7.IsWhole) (arg8 : Memref sig .tc .vmem S1x256 .f32) (harg8 : arg8.IsWhole) (arg9 : Memref sig .tc .vmem S256x16 .bf16) (harg9 : arg9.IsWhole) (arg10 : Memref sig .tc .vmem S256x16 .bf16) (harg10 : arg10.IsWhole) (arg11 : Memref sig .tc .vmem S64x8 .f32) (harg11 : arg11.IsWhole) (arg12 : Memref sig .tc .vmem S1x8 .f32) (harg12 : arg12.IsWhole) (arg13 : Memref sig .tc .vmem S64x8 .f32) (harg13 : arg13.IsWhole) (arg14 : Memref sig .tc .vmem S1x8 .f32) (harg14 : arg14.IsWhole) (arg15 : Memref sig .tc .vmem S1x8 .f32) (harg15 : arg15.IsWhole) (arg16 : Memref sig .tc .vmem S1x1 .f32) (harg16 : arg16.IsWhole) (arg17 : Memref sig .tc .vmem S1x8 .f32) (harg17 : arg17.IsWhole) (arg18 : Memref sig .tc .vmem S1x1 .f32) (harg18 : arg18.IsWhole) (arg19 : Memref sig .tc .vmem S64x64 .f32) (harg19 : arg19.IsWhole) (arg20 : Memref sig .tc .vmem S1x64 .f32) (harg20 : arg20.IsWhole) (arg21 : Memref sig .tc .vmem S64x64 .f32) (harg21 : arg21.IsWhole) (arg22 : Memref sig .tc .vmem S1x64 .f32) (harg22 : arg22.IsWhole) (arg23 : Memref sig .tc .vmem S1x64 .f32) (harg23 : arg23.IsWhole) (arg24 : Memref sig .tc .vmem S512x64 .f32) (harg24 : arg24.IsWhole) (arg25 : Memref sig .tc .vmem S512x256 .f32) (harg25 : arg25.IsWhole) (arg26 : Memref sig .tc .vmem S512x256 .f32) (harg26 : arg26.IsWhole) (arg27 : Memref sig .tc .vmem S512x8 .f32) (harg27 : arg27.IsWhole) (arg28 : Memref sig .tc .vmem S512x64 .f32) (harg28 : arg28.IsWhole) (arg29 : Memref sig .tc .vmem S16384x128 .f32) (harg29 : arg29.IsWhole) (arg30 : Memref sig .tc .vmem S512x64 .f32) (harg30 : arg30.IsWhole) (arg31 : Memref sig .tc .vmem S512x64 .f32) (harg31 : arg31.IsWhole) (arg32 : Memref sig .tc .vmem S512x8 .f32) (harg32 : arg32.IsWhole) (v13 : Vec F S512x64 .f32) (i : Fin k0_t2_loop.trips) (v81 : Vec F S128x256 .f32) (v84 : Vec F S128x8 .f32) (v88 : Vec F S128x64 .f32)
  (X9 : BufTy.Contents (Elt F) arg9.view.ty) (X10 : BufTy.Contents (Elt F) arg10.view.ty) (X15 : BufTy.Contents (Elt F) arg15.view.ty) (X16 : BufTy.Contents (Elt F) arg16.view.ty) (X26 : BufTy.Contents (Elt F) arg26.view.ty) (f29 : BufTy.Contents (Elt F) arg29.view.ty) (f30 : BufTy.Contents (Elt F) arg30.view.ty) (j : Fin k0_t3_loop.trips) :
  iprop((arg9.view.loc (c : Thread nD τ) ↦[arg9.view.set]{fullShare} X9) ∗ (arg10.view.loc (c : Thread nD τ) ↦[arg10.view.set]{fullShare} X10) ∗ (arg15.view.loc (c : Thread nD τ) ↦[arg15.view.set]{fullShare} X15) ∗ (arg16.view.loc (c : Thread nD τ) ↦[arg16.view.set]{fullShare} X16) ∗ (arg26.view.loc (c : Thread nD τ) ↦[arg26.view.set]{fullShare} X26) ∗ (arg29.view.loc (c : Thread nD τ) ↦[arg29.view.set]{fullShare} f29) ∗ (arg30.view.loc (c : Thread nD τ) ↦[arg30.view.set]{fullShare} f30))
  ⊢ wp (M := 𝕄G) frame (wpE (defs₀ (F := F)) Variants.none (c : Thread nD τ) none) Set.univ
     (k0_t3_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v13 i (Scf.iv 0#32 1#32 i) v81 v84 v88 j ())
     (fun _ => iprop((arg9.view.loc (c : Thread nD τ) ↦[arg9.view.set]{fullShare} X9) ∗ (arg10.view.loc (c : Thread nD τ) ↦[arg10.view.set]{fullShare} X10) ∗ (arg15.view.loc (c : Thread nD τ) ↦[arg15.view.set]{fullShare} X15) ∗ (arg16.view.loc (c : Thread nD τ) ↦[arg16.view.set]{fullShare} X16) ∗ (arg26.view.loc (c : Thread nD τ) ↦[arg26.view.set]{fullShare} X26)
       ∗ (∃ f, (arg29.view.loc (c : Thread nD τ) ↦[arg29.view.set]{fullShare} f) ∗ ⌜∀ y : S16384x128.Idx, arg29.view.read (Elt F) f y = if (y 1).val / 8 = 4 * i.val + j.val
            then pairU1 v81 (blk (arg26.view.read (Elt F) X26) j.val) (arg9.view.read (Elt F) X9) (arg10.view.read (Elt F) X10) (ix2 (y 0) ⟨(y 1).val % 8, Nat.mod_lt _ (by omega)⟩) else arg29.view.read (Elt F) f29 y⌝)
       ∗ (∃ f, (arg30.view.loc (c : Thread nD τ) ↦[arg30.view.set]{fullShare} f) ∗ ⌜∀ y : S512x64.Idx, arg30.view.read (Elt F) f y = if (y 0).val / 128 = j.val
            then (if i.val = 0 then pairAcc v81 (blk (arg26.view.read (Elt F) X26) j.val) (arg9.view.read (Elt F) X9) (arg10.view.read (Elt F) X10) v84 v88 (arg15.view.read (Elt F) X15) (arg16.view.read (Elt F) X16) i j.val
                  else k0_pay39 (pairAcc v81 (blk (arg26.view.read (Elt F) X26) j.val) (arg9.view.read (Elt F) X9) (arg10.view.read (Elt F) X10) v84 v88 (arg15.view.read (Elt F) X15) (arg16.view.read (Elt F) X16) i j.val) (blk (arg30.view.read (Elt F) f30) j.val))
                (ix2 ⟨(y 0).val % 128, Nat.mod_lt _ (by omega)⟩ (y 1)) else arg30.view.read (Elt F) f30 y⌝))) := by
  have hj : j.val < 4 := Nat.lt_of_lt_of_le j.isLt k0_t3_abs.2.1
  have hi : i.val < 4 := Nat.lt_of_lt_of_le i.isLt k0_t2_abs.2.1
  unfold k0_t3_body
  iintro ⟨H9, H10, H15, H16, H26, H29, H30⟩
  sl_exec
  sl_step
  isplitl [H9]; · iexact H9
  isplitl [H10]; · iexact H10
  isplitl [H15]; · iexact H15
  isplitl [H16]; · iexact H16
  isplitl [H26]; · iexact H26
  isplitl [H29]
  · iexists _; isplitl [H29]; · iexact H29
    ipureintro
    intro y
    have h7 : k0_pay7 v81 (View.readAt (Elt F) arg26.view (Rect.unit (s := S512x256) (k0_off5 j) S128x256.size (k0_off5_inb j)).toLoadRect X26)
        (View.readAt (Elt F) arg9.view (Rect.unit (s := S256x16) ![0, 0] S256x16.size inb_S256x16_S256x16_0_0).toLoadRect X9)
        (View.readAt (Elt F) arg10.view (Rect.unit (s := S256x16) ![0, 0] S256x16.size inb_S256x16_S256x16_0_0).toLoadRect X10)
        (View.readAt (Elt F) arg9.view (Rect.unit (s := S256x16) ![0, 0] S256x16.size inb_S256x16_S256x16_0_0).toLoadRect X9)
        = pairU1 v81 (blk (arg26.view.read (Elt F) X26) j.val) (arg9.view.read (Elt F) X9) (arg10.view.read (Elt F) X10) := by
      rw [readAt_blk _ _ _ j.val (k0_off5_eq j) hj, View.readAt_full, View.readAt_full]; rfl
    refine ((guard_cols arg29.view (4 * i.val + j.val) 15 120 _ _ rfl (pair_test i j 15) ((shapeCast_same _ _).trans h7)
      (guard_cols arg29.view (4 * i.val + j.val) 14 112 _ _ rfl (pair_test i j 14) ((shapeCast_same _ _).trans h7)
      (guard_cols arg29.view (4 * i.val + j.val) 13 104 _ _ rfl (pair_test i j 13) ((shapeCast_same _ _).trans h7)
      (guard_cols arg29.view (4 * i.val + j.val) 12 96 _ _ rfl (pair_test i j 12) ((shapeCast_same _ _).trans h7)
      (guard_cols arg29.view (4 * i.val + j.val) 11 88 _ _ rfl (pair_test i j 11) ((shapeCast_same _ _).trans h7)
      (guard_cols arg29.view (4 * i.val + j.val) 10 80 _ _ rfl (pair_test i j 10) ((shapeCast_same _ _).trans h7)
      (guard_cols arg29.view (4 * i.val + j.val) 9 72 _ _ rfl (pair_test i j 9) ((shapeCast_same _ _).trans h7)
      (guard_cols arg29.view (4 * i.val + j.val) 8 64 _ _ rfl (pair_test i j 8) ((shapeCast_same _ _).trans h7)
      (guard_cols arg29.view (4 * i.val + j.val) 7 56 _ _ rfl (pair_test i j 7) ((shapeCast_same _ _).trans h7)
      (guard_cols arg29.view (4 * i.val + j.val) 6 48 _ _ rfl (pair_test i j 6) ((shapeCast_same _ _).trans h7)
      (guard_cols arg29.view (4 * i.val + j.val) 5 40 _ _ rfl (pair_test i j 5) ((shapeCast_same _ _).trans h7)
      (guard_cols arg29.view (4 * i.val + j.val) 4 32 _ _ rfl (pair_test i j 4) ((shapeCast_same _ _).trans h7)
      (guard_cols arg29.view (4 * i.val + j.val) 3 24 _ _ rfl (pair_test i j 3) ((shapeCast_same _ _).trans h7)
      (guard_cols arg29.view (4 * i.val + j.val) 2 16 _ _ rfl (pair_test i j 2) ((shapeCast_same _ _).trans h7)
      (guard_cols arg29.view (4 * i.val + j.val) 1 8 _ _ rfl (pair_test i j 1) ((shapeCast_same _ _).trans h7)
      (guard_cols arg29.view (4 * i.val + j.val) 0 0 _ _ rfl (pair_test i j 0) ((shapeCast_same _ _).trans h7)
      (fun y => (if_neg (fun h => absurd h.2 (Nat.not_lt_zero _))).symm))))))))))))))))) y).trans ?_
    have e : (y 1).val / 8 = 4 * i.val + j.val ∧ 4 * i.val + j.val < 15 + 1 ↔ (y 1).val / 8 = 4 * i.val + j.val := by omega
    simp only [e]
  · iexists _; isplitl [H30]; · iexact H30
    ipureintro
    intro y
    have h24 : trip_t3.sl.r_2 arg9 arg10 arg15 arg16 arg26 i v81 v84 v88 X9 X10 X15 X16 X26 j
        = pairAcc v81 (blk (arg26.view.read (Elt F) X26) j.val) (arg9.view.read (Elt F) X9) (arg10.view.read (Elt F) X10) v84 v88 (arg15.view.read (Elt F) X15) (arg16.view.read (Elt F) X16) i j.val := by
      unfold trip_t3.sl.r_2 trip_t3.sl.r
      rw [readAt_blk _ _ _ j.val (k0_off5_eq j) hj, View.readAt_full, View.readAt_full, View.readAt_full, View.readAt_full]; rfl
    by_cases h0 : i.val = 0
    · rw [dif_neg (fun h => (add_test i).1 h h0), dif_pos ((start_test i).2 h0)]
      refine (read_store_rows arg30.view f30 _ j.val (k0_off6_eq j) _ y).trans ?_
      rw [if_pos h0]
      exact if_congr Iff.rfl (congrFun ((shapeCast_same _ _).trans h24) _) rfl
    · rw [dif_pos ((add_test i).2 h0), dif_neg (fun h => h0 ((start_test i).1 h))]
      refine (read_store_rows arg30.view f30 _ j.val (k0_off7_eq j) _ y).trans ?_
      rw [if_neg h0, h24]
      unfold trip_t3.sl.v203_1
      rw [dif_neg (fun h => h0 ((start_test i).1 h)), readAt_blk _ _ _ j.val (k0_off7_eq j) hj]

end Cert.Proof.KernelIdeal
end
-- ==== Proof.Trip2.lean ====
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Spec
public import proofs.«01_k».proof.Proof.Trip3

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

/-- The resource algebra the run is stated at: points-tos of the staged buffers, no counters beside them. -/
local notation "𝕄G" => MT nD τ sig Unit (Elt F) ℕ (UR sig nD τ) ℕ

/-! # The loop over target blocks, and one trip of the loop over source blocks -/

/-- What source block `i` makes of target block `j`: it starts the sum, or adds to what was there (`g`). -/
def newB (p : FVec F S128x256 .f32) (Q : FVec F S512x256 .f32) (x9 x10 : FVec F S256x16 .bf16) (w : FVec F S128x8 .f32) (mm : FVec F S128x64 .f32)
    (x15 : FVec F S1x8 .f32) (x16 : FVec F S1x1 .f32) (i : Fin k0_t2_loop.trips) (g : FVec F S512x64 .f32) (j : ℕ) : FVec F S128x64 .f32 :=
  if i.val = 0 then pairAcc p (blk Q j) x9 x10 w mm x15 x16 i j else k0_pay39 (pairAcc p (blk Q j) x9 x10 w mm x15 x16 i j) (blk g j)

/-- The columns of the pair of a source block and target block `n`. -/
def colA (p : FVec F S128x256 .f32) (Q : FVec F S512x256 .f32) (x9 x10 : FVec F S256x16 .bf16) (n : ℕ) : S16384x128.Idx → F .f32 :=
  fun y => pairU1 p (blk Q n) x9 x10 (ix2 (y 0) ⟨(y 1).val % 8, Nat.mod_lt _ (by omega)⟩)

/-- The rows of target block `n`. -/
def rowB (p : FVec F S128x256 .f32) (Q : FVec F S512x256 .f32) (x9 x10 : FVec F S256x16 .bf16) (w : FVec F S128x8 .f32) (mm : FVec F S128x64 .f32)
    (x15 : FVec F S1x8 .f32) (x16 : FVec F S1x1 .f32) (i : Fin k0_t2_loop.trips) (g : FVec F S512x64 .f32) (n : ℕ) : S512x64.Idx → F .f32 :=
  fun y => newB p Q x9 x10 w mm x15 x16 i g n (ix2 ⟨(y 0).val % 128, Nat.mod_lt _ (by omega)⟩ (y 1))

/-- The kept columns, after one more pair. -/
theorem cols_step {α : Type} (i k : ℕ) (A : ℕ → S16384x128.Idx → α) (r r' g : S16384x128.Idx → α)
    (h : ∀ y : S16384x128.Idx, r y = if 4 * i ≤ (y 1).val / 8 ∧ (y 1).val / 8 < 4 * i + k then A ((y 1).val / 8 - 4 * i) y else g y)
    (h' : ∀ y : S16384x128.Idx, r' y = if (y 1).val / 8 = 4 * i + k then A k y else r y) (y : S16384x128.Idx) :
    r' y = if 4 * i ≤ (y 1).val / 8 ∧ (y 1).val / 8 < 4 * i + (k + 1) then A ((y 1).val / 8 - 4 * i) y else g y := by
  refine (h' y).trans ?_
  by_cases e : (y 1).val / 8 = 4 * i + k
  · rw [if_pos e, if_pos (by omega)]
    have : (y 1).val / 8 - 4 * i = k := by omega
    rw [this]
  · rw [if_neg e, h y]
    by_cases e' : 4 * i ≤ (y 1).val / 8 ∧ (y 1).val / 8 < 4 * i + k
    · rw [if_pos e', if_pos (by omega)]
    · rw [if_neg e', if_neg (by omega)]

/-- The target table, after one more block. -/
theorem rows_step {α : Type} (k : ℕ) (B : ℕ → S512x64.Idx → α) (r r' g : S512x64.Idx → α)
    (h : ∀ y : S512x64.Idx, r y = if (y 0).val / 128 < k then B ((y 0).val / 128) y else g y)
    (h' : ∀ y : S512x64.Idx, r' y = if (y 0).val / 128 = k then B k y else r y) (y : S512x64.Idx) :
    r' y = if (y 0).val / 128 < k + 1 then B ((y 0).val / 128) y else g y := by
  refine (h' y).trans ?_
  by_cases e : (y 0).val / 128 = k
  · rw [if_pos e, if_pos (by omega), e]
  · rw [if_neg e, h y]
    by_cases e' : (y 0).val / 128 < k
    · rw [if_pos e', if_pos (by omega)]
    · rw [if_neg e', if_neg (by omega)]

/-- A block not yet reached is as it was. -/
theorem blk_kept {α : Type} (k : ℕ) (hk : k < 4) (B : ℕ → S512x64.Idx → α) (r g : S512x64.Idx → α)
    (h : ∀ y : S512x64.Idx, r y = if (y 0).val / 128 < k then B ((y 0).val / 128) y else g y) : blk r k = blk g k := by
  funext y
  refine (h _).trans (if_neg ?_)
  have h0 : (y 0).val < 128 := (y 0).isLt
  change ¬ ((128 * k + (y 0).val) % 512) / 128 < k
  omega

/-- Before target block `k`: the blocks before it are done. -/
def inv3 (c : Dev nD) (arg9 : Memref sig .tc .vmem S256x16 .bf16) (arg10 : Memref sig .tc .vmem S256x16 .bf16) (arg15 : Memref sig .tc .vmem S1x8 .f32) (arg16 : Memref sig .tc .vmem S1x1 .f32) (arg26 : Memref sig .tc .vmem S512x256 .f32) (arg29 : Memref sig .tc .vmem S16384x128 .f32) (arg30 : Memref sig .tc .vmem S512x64 .f32) (X9 : BufTy.Contents (Elt F) arg9.view.ty) (X10 : BufTy.Contents (Elt F) arg10.view.ty) (X15 : BufTy.Contents (Elt F) arg15.view.ty) (X16 : BufTy.Contents (Elt F) arg16.view.ty) (X26 : BufTy.Contents (Elt F) arg26.view.ty) (i : Fin k0_t2_loop.trips) (v81 : Vec F S128x256 .f32) (v84 : Vec F S128x8 .f32) (v88 : Vec F S128x64 .f32)
    (G29 : BufTy.Contents (Elt F) arg29.view.ty) (G30 : BufTy.Contents (Elt F) arg30.view.ty) (k : ℕ) : sProp 𝕄G :=
  iprop((arg9.view.loc (c : Thread nD τ) ↦[arg9.view.set]{fullShare} X9) ∗ (arg10.view.loc (c : Thread nD τ) ↦[arg10.view.set]{fullShare} X10) ∗ (arg15.view.loc (c : Thread nD τ) ↦[arg15.view.set]{fullShare} X15) ∗ (arg16.view.loc (c : Thread nD τ) ↦[arg16.view.set]{fullShare} X16) ∗ (arg26.view.loc (c : Thread nD τ) ↦[arg26.view.set]{fullShare} X26)
    ∗ (∃ f, (arg29.view.loc (c : Thread nD τ) ↦[arg29.view.set]{fullShare} f) ∗ ⌜∀ y : S16384x128.Idx, arg29.view.read (Elt F) f y = if 4 * i.val ≤ (y 1).val / 8 ∧ (y 1).val / 8 < 4 * i.val + k
        then colA v81 (arg26.view.read (Elt F) X26) (arg9.view.read (Elt F) X9) (arg10.view.read (Elt F) X10) ((y 1).val / 8 - 4 * i.val) y else arg29.view.read (Elt F) G29 y⌝)
    ∗ (∃ f, (arg30.view.loc (c : Thread nD τ) ↦[arg30.view.set]{fullShare} f) ∗ ⌜∀ y : S512x64.Idx, arg30.view.read (Elt F) f y = if (y 0).val / 128 < k
        then rowB v81 (arg26.view.read (Elt F) X26) (arg9.view.read (Elt F) X9) (arg10.view.read (Elt F) X10) v84 v88 (arg15.view.read (Elt F) X15) (arg16.view.read (Elt F) X16) i (arg30.view.read (Elt F) G30) ((y 0).val / 128) y
        else arg30.view.read (Elt F) G30 y⌝))

/-- One trip keeps it. -/
theorem step3 (c : Dev nD) (arg0 : Memref sig .tc .vmem S1x128 .f32) (harg0 : arg0.IsWhole) (arg1 : Memref sig .tc .vmem S128x192 .f32) (harg1 : arg1.IsWhole) (arg2 : Memref sig .tc .vmem S64x192 .bf16) (harg2 : arg2.IsWhole) (arg3 : Memref sig .tc .vmem S64x192 .bf16) (harg3 : arg3.IsWhole) (arg4 : Memref sig .tc .vmem S1x192 .f32) (harg4 : arg4.IsWhole) (arg5 : Memref sig .tc .vmem S1x192 .f32) (harg5 : arg5.IsWhole) (arg6 : Memref sig .tc .vmem S64x256 .f32) (harg6 : arg6.IsWhole) (arg7 : Memref sig .tc .vmem S64x256 .f32) (harg7 : arg7.IsWhole) (arg8 : Memref sig .tc .vmem S1x256 .f32) (harg8 : arg8.IsWhole) (arg9 : Memref sig .tc .vmem S256x16 .bf16) (harg9 : arg9.IsWhole) (arg10 : Memref sig .tc .vmem S256x16 .bf16) (harg10 : arg10.IsWhole) (arg11 : Memref sig .tc .vmem S64x8 .f32) (harg11 : arg11.IsWhole) (arg12 : Memref sig .tc .vmem S1x8 .f32) (harg12 : arg12.IsWhole) (arg13 : Memref sig .tc .vmem S64x8 .f32) (harg13 : arg13.IsWhole) (arg14 : Memref sig .tc .vmem S1x8 .f32) (harg14 : arg14.IsWhole) (arg15 : Memref sig .tc .vmem S1x8 .f32) (harg15 : arg15.IsWhole) (arg16 : Memref sig .tc .vmem S1x1 .f32) (harg16 : arg16.IsWhole) (arg17 : Memref sig .tc .vmem S1x8 .f32) (harg17 : arg17.IsWhole) (arg18 : Memref sig .tc .vmem S1x1 .f32) (harg18 : arg18.IsWhole) (arg19 : Memref sig .tc .vmem S64x64 .f32) (harg19 : arg19.IsWhole) (arg20 : Memref sig .tc .vmem S1x64 .f32) (harg20 : arg20.IsWhole) (arg21 : Memref sig .tc .vmem S64x64 .f32) (harg21 : arg21.IsWhole) (arg22 : Memref sig .tc .vmem S1x64 .f32) (harg22 : arg22.IsWhole) (arg23 : Memref sig .tc .vmem S1x64 .f32) (harg23 : arg23.IsWhole) (arg24 : Memref sig .tc .vmem S512x64 .f32) (harg24 : arg24.IsWhole) (arg25 : Memref sig .tc .vmem S512x256 .f32) (harg25 : arg25.IsWhole) (arg26 : Memref sig .tc .vmem S512x256 .f32) (harg26 : arg26.IsWhole) (arg27 : Memref sig .tc .vmem S512x8 .f32) (harg27 : arg27.IsWhole) (arg28 : Memref sig .tc .vmem S512x64 .f32) (harg28 : arg28.IsWhole) (arg29 : Memref sig .tc .vmem S16384x128 .f32) (harg29 : arg29.IsWhole) (arg30 : Memref sig .tc .vmem S512x64 .f32) (harg30 : arg30.IsWhole) (arg31 : Memref sig .tc .vmem S512x64 .f32) (harg31 : arg31.IsWhole) (arg32 : Memref sig .tc .vmem S512x8 .f32) (harg32 : arg32.IsWhole) (v13 : Vec F S512x64 .f32) (X9 : BufTy.Contents (Elt F) arg9.view.ty) (X10 : BufTy.Contents (Elt F) arg10.view.ty) (X15 : BufTy.Contents (Elt F) arg15.view.ty) (X16 : BufTy.Contents (Elt F) arg16.view.ty) (X26 : BufTy.Contents (Elt F) arg26.view.ty) (i : Fin k0_t2_loop.trips) (v81 : Vec F S128x256 .f32) (v84 : Vec F S128x8 .f32) (v88 : Vec F S128x64 .f32)
    (G29 : BufTy.Contents (Elt F) arg29.view.ty) (G30 : BufTy.Contents (Elt F) arg30.view.ty) (k : Fin k0_t3_loop.trips) :
    inv3 c arg9 arg10 arg15 arg16 arg26 arg29 arg30 X9 X10 X15 X16 X26 i v81 v84 v88 G29 G30 k.val
    ⊢ wp (M := 𝕄G) frame (wpE (defs₀ (F := F)) Variants.none (c : Thread nD τ) none) Set.univ
     (k0_t3_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v13 i (Scf.iv 0#32 1#32 i) v81 v84 v88 k ()) (fun _ => inv3 c arg9 arg10 arg15 arg16 arg26 arg29 arg30 X9 X10 X15 X16 X26 i v81 v84 v88 G29 G30 (k.val + 1)) := by
  have hk : k.val < 4 := Nat.lt_of_lt_of_le k.isLt k0_t3_abs.2.1
  unfold inv3
  iintro ⟨H9, H10, H15, H16, H26, ⟨%f29, H29, %h29⟩, ⟨%f30, H30, %h30⟩⟩
  iapply (wp_wand_r Idealize.ShloMosaic.frame (wpE (defs₀ (F := F)) Variants.none (c : Thread nD τ) none) Set.univ)
  isplitl [H9 H10 H15 H16 H26 H29 H30]
  · iapply (trip_t3 (F := F) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v13 i v81 v84 v88 X9 X10 X15 X16 X26 f29 f30 k)
    isplitl [H9]; · iexact H9
    isplitl [H10]; · iexact H10
    isplitl [H15]; · iexact H15
    isplitl [H16]; · iexact H16
    isplitl [H26]; · iexact H26
    isplitl [H29]; · iexact H29
    iexact H30
  · iintro %_ ⟨H9, H10, H15, H16, H26, ⟨%g29, H29, %e29⟩, ⟨%g30, H30, %e30⟩⟩
    isplitl [H9]; · iexact H9
    isplitl [H10]; · iexact H10
    isplitl [H15]; · iexact H15
    isplitl [H16]; · iexact H16
    isplitl [H26]; · iexact H26
    isplitl [H29]
    · iexists g29; isplitl [H29]; · iexact H29
      ipureintro
      exact cols_step i.val k.val (colA v81 (arg26.view.read (Elt F) X26) (arg9.view.read (Elt F) X9) (arg10.view.read (Elt F) X10)) _ _ _ h29 e29
    · iexists g30; isplitl [H30]; · iexact H30
      ipureintro
      rw [blk_kept k.val hk (rowB v81 (arg26.view.read (Elt F) X26) (arg9.view.read (Elt F) X9) (arg10.view.read (Elt F) X10) v84 v88 (arg15.view.read (Elt F) X15) (arg16.view.read (Elt F) X16) i (arg30.view.read (Elt F) G30)) _ _ h30] at e30
      exact rows_step k.val (rowB v81 (arg26.view.read (Elt F) X26) (arg9.view.read (Elt F) X9) (arg10.view.read (Elt F) X10) v84 v88 (arg15.view.read (Elt F) X15) (arg16.view.read (Elt F) X16) i (arg30.view.read (Elt F) G30)) _ _ _ h30 e30

/-- The columns kept after source block `i`. -/
theorem cols_all (i : ℕ) (P Q : FVec F S512x256 .f32) (x9 x10 : FVec F S256x16 .bf16) (r r' : S16384x128.Idx → F .f32)
    (A : ℕ → S16384x128.Idx → F .f32) (hA : ∀ n y, A n y = pairU1 (blk P i) (blk Q n) x9 x10 (ix2 (y 0) ⟨(y 1).val % 8, Nat.mod_lt _ (by omega)⟩))
    (h : ∀ y : S16384x128.Idx, (y 1).val / 8 < 4 * i → r y = keepU P Q x9 x10 y)
    (h' : ∀ y : S16384x128.Idx, r' y = if 4 * i ≤ (y 1).val / 8 ∧ (y 1).val / 8 < 4 * i + 4 then A ((y 1).val / 8 - 4 * i) y else r y)
    (y : S16384x128.Idx) (hy : (y 1).val / 8 < 4 * (i + 1)) : r' y = keepU P Q x9 x10 y := by
  rw [h' y]
  by_cases e : 4 * i ≤ (y 1).val / 8
  · rw [if_pos (by omega), hA]
    have e1 : (y 1).val / 8 / 4 = i := by omega
    have e2 : (y 1).val / 8 % 4 = (y 1).val / 8 - 4 * i := by omega
    unfold keepU
    rw [e1, e2]
  · rw [if_neg (by omega), h y (by omega)]

/-- The target table after source block `i`. -/
theorem rows_all (i : Fin k0_t2_loop.trips) (hi : i.val < 4) (P Q : FVec F S512x256 .f32) (W : FVec F S512x8 .f32) (M : FVec F S512x64 .f32) (x9 x10 : FVec F S256x16 .bf16)
    (x15 : FVec F S1x8 .f32) (x16 : FVec F S1x1 .f32) (r r' : S512x64.Idx → F .f32)
    (h : 0 < i.val → ∀ y : S512x64.Idx, r y = outT P Q W M x9 x10 x15 x16 (i.val - 1) y)
    (h' : ∀ y : S512x64.Idx, r' y = if (y 0).val / 128 < 4
      then newB (blk P i.val) Q x9 x10 (blk W i.val) (blk M i.val) x15 x16 i r ((y 0).val / 128) (ix2 ⟨(y 0).val % 128, Nat.mod_lt _ (by omega)⟩ (y 1)) else r y)
    (y : S512x64.Idx) : r' y = outT P Q W M x9 x10 x15 x16 (i.val + 1 - 1) y := by
  have hy : (y 0).val < 512 := (y 0).isLt
  rw [h' y, if_pos (by omega)]
  obtain ⟨n, hn⟩ := i
  unfold newB outT
  have ei : ∀ m (hm : m < k0_t2_loop.trips), m < 4 → tI m = ⟨m, hm⟩ := fun m hm h4 => Fin.ext (Nat.mod_eq_of_lt h4)
  cases n with
  | zero =>
    rw [if_pos rfl, ← ei 0 hn (by omega)]
    rfl
  | succ m =>
    rw [if_neg (Nat.succ_ne_zero m)]
    have eb : blk r ((y 0).val / 128) = sumB P Q W M x9 x10 x15 x16 ((y 0).val / 128) m := by
      funext z
      have h0 : (z 0).val < 128 := (z 0).isLt
      refine (h (Nat.succ_pos m) _).trans ?_
      have e1 : (128 * ((y 0).val / 128) + (z 0).val) % 512 / 128 = (y 0).val / 128 := by omega
      have e2 : (128 * ((y 0).val / 128) + (z 0).val) % 512 % 128 = (z 0).val := by omega
      change sumB P Q W M x9 x10 x15 x16 ((128 * ((y 0).val / 128) + (z 0).val) % 512 / 128) m (ix2 ⟨(128 * ((y 0).val / 128) + (z 0).val) % 512 % 128, _⟩ (z 1)) = _
      simp only [e1, e2]
      exact congrArg _ (eq_ix2 z).symm
    rw [eb]
    dsimp only
    rw [← ei (m + 1) hn hi]
    rfl

/-- Before source block `n`: the columns of the pairs before it are kept, and every target block has the sum of the
    source blocks before it. -/
def inv2 (c : Dev nD) (arg9 : Memref sig .tc .vmem S256x16 .bf16) (arg10 : Memref sig .tc .vmem S256x16 .bf16) (arg15 : Memref sig .tc .vmem S1x8 .f32) (arg16 : Memref sig .tc .vmem S1x1 .f32) (arg25 : Memref sig .tc .vmem S512x256 .f32) (arg26 : Memref sig .tc .vmem S512x256 .f32) (arg27 : Memref sig .tc .vmem S512x8 .f32) (arg28 : Memref sig .tc .vmem S512x64 .f32) (arg29 : Memref sig .tc .vmem S16384x128 .f32) (arg30 : Memref sig .tc .vmem S512x64 .f32) (X9 : BufTy.Contents (Elt F) arg9.view.ty) (X10 : BufTy.Contents (Elt F) arg10.view.ty) (X15 : BufTy.Contents (Elt F) arg15.view.ty) (X16 : BufTy.Contents (Elt F) arg16.view.ty) (X25 : BufTy.Contents (Elt F) arg25.view.ty) (X26 : BufTy.Contents (Elt F) arg26.view.ty) (X27 : BufTy.Contents (Elt F) arg27.view.ty) (X28 : BufTy.Contents (Elt F) arg28.view.ty) (n : ℕ) : sProp 𝕄G :=
  iprop((arg9.view.loc (c : Thread nD τ) ↦[arg9.view.set]{fullShare} X9) ∗ (arg10.view.loc (c : Thread nD τ) ↦[arg10.view.set]{fullShare} X10) ∗ (arg15.view.loc (c : Thread nD τ) ↦[arg15.view.set]{fullShare} X15) ∗ (arg16.view.loc (c : Thread nD τ) ↦[arg16.view.set]{fullShare} X16) ∗ (arg25.view.loc (c : Thread nD τ) ↦[arg25.view.set]{fullShare} X25) ∗ (arg26.view.loc (c : Thread nD τ) ↦[arg26.view.set]{fullShare} X26) ∗ (arg27.view.loc (c : Thread nD τ) ↦[arg27.view.set]{fullShare} X27) ∗ (arg28.view.loc (c : Thread nD τ) ↦[arg28.view.set]{fullShare} X28)
    ∗ (∃ f, (arg29.view.loc (c : Thread nD τ) ↦[arg29.view.set]{fullShare} f) ∗ ⌜∀ y : S16384x128.Idx, (y 1).val / 8 < 4 * n → arg29.view.read (Elt F) f y = keepU (arg25.view.read (Elt F) X25) (arg26.view.read (Elt F) X26) (arg9.view.read (Elt F) X9) (arg10.view.read (Elt F) X10) y⌝)
    ∗ (∃ f, (arg30.view.loc (c : Thread nD τ) ↦[arg30.view.set]{fullShare} f) ∗ ⌜∀ y : S512x64.Idx, 0 < n → arg30.view.read (Elt F) f y = outT (arg25.view.read (Elt F) X25) (arg26.view.read (Elt F) X26) (arg27.view.read (Elt F) X27) (arg28.view.read (Elt F) X28) (arg9.view.read (Elt F) X9) (arg10.view.read (Elt F) X10) (arg15.view.read (Elt F) X15) (arg16.view.read (Elt F) X16) (n - 1) y⌝))

/-- One trip keeps it. -/
theorem step2 (c : Dev nD) (arg0 : Memref sig .tc .vmem S1x128 .f32) (harg0 : arg0.IsWhole) (arg1 : Memref sig .tc .vmem S128x192 .f32) (harg1 : arg1.IsWhole) (arg2 : Memref sig .tc .vmem S64x192 .bf16) (harg2 : arg2.IsWhole) (arg3 : Memref sig .tc .vmem S64x192 .bf16) (harg3 : arg3.IsWhole) (arg4 : Memref sig .tc .vmem S1x192 .f32) (harg4 : arg4.IsWhole) (arg5 : Memref sig .tc .vmem S1x192 .f32) (harg5 : arg5.IsWhole) (arg6 : Memref sig .tc .vmem S64x256 .f32) (harg6 : arg6.IsWhole) (arg7 : Memref sig .tc .vmem S64x256 .f32) (harg7 : arg7.IsWhole) (arg8 : Memref sig .tc .vmem S1x256 .f32) (harg8 : arg8.IsWhole) (arg9 : Memref sig .tc .vmem S256x16 .bf16) (harg9 : arg9.IsWhole) (arg10 : Memref sig .tc .vmem S256x16 .bf16) (harg10 : arg10.IsWhole) (arg11 : Memref sig .tc .vmem S64x8 .f32) (harg11 : arg11.IsWhole) (arg12 : Memref sig .tc .vmem S1x8 .f32) (harg12 : arg12.IsWhole) (arg13 : Memref sig .tc .vmem S64x8 .f32) (harg13 : arg13.IsWhole) (arg14 : Memref sig .tc .vmem S1x8 .f32) (harg14 : arg14.IsWhole) (arg15 : Memref sig .tc .vmem S1x8 .f32) (harg15 : arg15.IsWhole) (arg16 : Memref sig .tc .vmem S1x1 .f32) (harg16 : arg16.IsWhole) (arg17 : Memref sig .tc .vmem S1x8 .f32) (harg17 : arg17.IsWhole) (arg18 : Memref sig .tc .vmem S1x1 .f32) (harg18 : arg18.IsWhole) (arg19 : Memref sig .tc .vmem S64x64 .f32) (harg19 : arg19.IsWhole) (arg20 : Memref sig .tc .vmem S1x64 .f32) (harg20 : arg20.IsWhole) (arg21 : Memref sig .tc .vmem S64x64 .f32) (harg21 : arg21.IsWhole) (arg22 : Memref sig .tc .vmem S1x64 .f32) (harg22 : arg22.IsWhole) (arg23 : Memref sig .tc .vmem S1x64 .f32) (harg23 : arg23.IsWhole) (arg24 : Memref sig .tc .vmem S512x64 .f32) (harg24 : arg24.IsWhole) (arg25 : Memref sig .tc .vmem S512x256 .f32) (harg25 : arg25.IsWhole) (arg26 : Memref sig .tc .vmem S512x256 .f32) (harg26 : arg26.IsWhole) (arg27 : Memref sig .tc .vmem S512x8 .f32) (harg27 : arg27.IsWhole) (arg28 : Memref sig .tc .vmem S512x64 .f32) (harg28 : arg28.IsWhole) (arg29 : Memref sig .tc .vmem S16384x128 .f32) (harg29 : arg29.IsWhole) (arg30 : Memref sig .tc .vmem S512x64 .f32) (harg30 : arg30.IsWhole) (arg31 : Memref sig .tc .vmem S512x64 .f32) (harg31 : arg31.IsWhole) (arg32 : Memref sig .tc .vmem S512x8 .f32) (harg32 : arg32.IsWhole) (v13 : Vec F S512x64 .f32) (X9 : BufTy.Contents (Elt F) arg9.view.ty) (X10 : BufTy.Contents (Elt F) arg10.view.ty) (X15 : BufTy.Contents (Elt F) arg15.view.ty) (X16 : BufTy.Contents (Elt F) arg16.view.ty) (X25 : BufTy.Contents (Elt F) arg25.view.ty) (X26 : BufTy.Contents (Elt F) arg26.view.ty) (X27 : BufTy.Contents (Elt F) arg27.view.ty) (X28 : BufTy.Contents (Elt F) arg28.view.ty) (i : Fin k0_t2_loop.trips) :
    inv2 c arg9 arg10 arg15 arg16 arg25 arg26 arg27 arg28 arg29 arg30 X9 X10 X15 X16 X25 X26 X27 X28 i.val
    ⊢ wp (M := 𝕄G) frame (wpE (defs₀ (F := F)) Variants.none (c : Thread nD τ) none) Set.univ
     (k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v13 i ()) (fun _ => inv2 c arg9 arg10 arg15 arg16 arg25 arg26 arg27 arg28 arg29 arg30 X9 X10 X15 X16 X25 X26 X27 X28 (i.val + 1)) := by
  have hi : i.val < 4 := Nat.lt_of_lt_of_le i.isLt k0_t2_abs.2.1
  unfold inv2 k0_t2_body
  iintro ⟨H9, H10, H15, H16, H25, H26, H27, H28, ⟨%f29, H29, %h29⟩, ⟨%f30, H30, %h30⟩⟩
  sl_exec
  sl_for (fun k _ => inv3 c arg9 arg10 arg15 arg16 arg26 arg29 arg30 X9 X10 X15 X16 X26 i
      (arg25.view.readAt (Elt F) (Rect.unit (s := S512x256) (k0_off2 i) S128x256.size (k0_off2_inb i)).toLoadRect X25)
      (arg27.view.readAt (Elt F) (Rect.unit (s := S512x8) (k0_off3 i) S128x8.size (k0_off3_inb i)).toLoadRect X27)
      (arg28.view.readAt (Elt F) (Rect.unit (s := S512x64) (k0_off4 i) S128x64.size (k0_off4_inb i)).toLoadRect X28) f29 f30 k) $$ [H9 H10 H15 H16 H26 H29 H30]
  case region =>
    intro k a
    exact step3 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v13 X9 X10 X15 X16 X26 i _ _ _ f29 f30 k
  · unfold inv3
    isplitl [H9]; · iexact H9
    isplitl [H10]; · iexact H10
    isplitl [H15]; · iexact H15
    isplitl [H16]; · iexact H16
    isplitl [H26]; · iexact H26
    isplitl [H29]
    · iexists f29; isplitl [H29]; · iexact H29
      ipureintro
      intro y
      rw [if_neg (by omega)]
    · iexists f30; isplitl [H30]; · iexact H30
      ipureintro
      intro y
      rw [if_neg (by omega)]
  iintro %a HI
  unfold inv3
  icases HI with ⟨H9, H10, H15, H16, H26, ⟨%g29, H29, %e29⟩, ⟨%g30, H30, %e30⟩⟩
  sl_exec
  sl_step
  have ht : Scf.trips k0_t3_loop.lb k0_t3_loop.ub k0_t3_loop.st = 4 := by decide +kernel
  rw [ht, readAt_blk _ _ _ i.val (k0_off2_eq i) hi] at e29
  rw [ht, readAt_blk _ _ _ i.val (k0_off2_eq i) hi, readAt_blk _ _ _ i.val (k0_off3_eq i) hi, readAt_blk _ _ _ i.val (k0_off4_eq i) hi] at e30
  isplitl [H9]; · iexact H9
  isplitl [H10]; · iexact H10
  isplitl [H15]; · iexact H15
  isplitl [H16]; · iexact H16
  isplitl [H25]; · iexact H25
  isplitl [H26]; · iexact H26
  isplitl [H27]; · iexact H27
  isplitl [H28]; · iexact H28
  isplitl [H29]
  · iexists g29; isplitl [H29]; · iexact H29
    ipureintro
    exact cols_all i.val _ _ _ _ _ _ (colA _ (arg26.view.read (Elt F) X26) (arg9.view.read (Elt F) X9) (arg10.view.read (Elt F) X10)) (fun _ _ => rfl) h29 e29
  · iexists g30; isplitl [H30]; · iexact H30
    ipureintro
    intro y _
    exact rows_all i hi _ _ _ _ _ _ _ _ _ _ (fun h y => h30 y h) e30 y

end Cert.Proof.KernelIdeal
end
-- ==== Proof.Trip14.lean ====
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Spec
public import proofs.«01_k».proof.Proof.Trip3

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

/-- The resource algebra the run is stated at: points-tos of the staged buffers, no counters beside them. -/
local notation "𝕄G" => MT nD τ sig Unit (Elt F) ℕ (UR sig nD τ) ℕ

/-! # One trip of the recurrence's loop, and one trip of the last loop -/

/-- Before step `k`: the rows before it hold the states, and the carried state is the one after `k` steps. -/
def inv1 (c : Dev nD) (arg2 : Memref sig .tc .vmem S64x192 .bf16) (arg3 : Memref sig .tc .vmem S64x192 .bf16) (arg5 : Memref sig .tc .vmem S1x192 .f32) (arg24 : Memref sig .tc .vmem S512x64 .f32) (v0 : Vec F S1x128 .f32) (v1 : Vec F S128x192 .f32) (v4 : Vec F S1x192 .f32) (X2 : BufTy.Contents (Elt F) arg2.view.ty) (X3 : BufTy.Contents (Elt F) arg3.view.ty) (X5 : BufTy.Contents (Elt F) arg5.view.ty) (k : ℕ) (acc : FVec F S1x64 .f32) : sProp 𝕄G :=
  iprop((arg2.view.loc (c : Thread nD τ) ↦[arg2.view.set]{fullShare} X2) ∗ (arg3.view.loc (c : Thread nD τ) ↦[arg3.view.set]{fullShare} X3) ∗ (arg5.view.loc (c : Thread nD τ) ↦[arg5.view.set]{fullShare} X5) ∗ (∃ f, (arg24.view.loc (c : Thread nD τ) ↦[arg24.view.set]{fullShare} f) ∗ ⌜∀ y : S512x64.Idx, (y 0).val < k → arg24.view.read (Elt F) f y = nodes v0 v1 (arg2.view.read (Elt F) X2) (arg3.view.read (Elt F) X3) v4 (arg5.view.read (Elt F) X5) y⌝)
    ∗ ⌜acc = (hid v0 v1 (arg2.view.read (Elt F) X2) (arg3.view.read (Elt F) X3) v4 (arg5.view.read (Elt F) X5) k)⌝)

/-- A store of one row, read at an element. -/
theorem read_store_row (v : View sig .tc .vmem S512x64 .f32) (f : v.ty.Contents (Elt F)) {off : Fin 2 → ℕ}
    (inb : ∀ a, off a + S1x64.size a ≤ S512x64.size a) (i : ℕ) (h : off = ![i, 0]) (w : S1x64.Idx → Elt F .f32) (y : S512x64.Idx) :
    v.read (Elt F) (v.writes (Elt F) f [⟨Rect.unit (s := S512x64) off S1x64.size inb, w⟩]) y
      = if (y 0).val = i then w (ix2 0 (y 1)) else v.read (Elt F) f y := by
  subst h
  by_cases hy : (y 0).val = i
  · rw [if_pos hy]
    refine View.read_writes_cons_hit_of_coords v f (Rect.unit (s := S512x64) ![i, 0] S1x64.size inb) w [] (ix2 0 (y 1)) y fun a => ?_
    match a with
    | ⟨0, _⟩ =>
      have h1 : (y 0).val = i + 1 * 0 := by omega
      exact h1
    | ⟨1, _⟩ =>
      have h1 : (y 1).val = 0 + 1 * (y 1).val := by omega
      exact h1
  · rw [if_neg hy]
    refine View.read_writes_cons_miss_of_axis v f _ [] y 0 i 1 rfl rfl rfl ?_
    omega

/-- One step keeps it. -/
theorem step1 (c : Dev nD) (arg0 : Memref sig .tc .vmem S1x128 .f32) (harg0 : arg0.IsWhole) (arg1 : Memref sig .tc .vmem S128x192 .f32) (harg1 : arg1.IsWhole) (arg2 : Memref sig .tc .vmem S64x192 .bf16) (harg2 : arg2.IsWhole) (arg3 : Memref sig .tc .vmem S64x192 .bf16) (harg3 : arg3.IsWhole) (arg4 : Memref sig .tc .vmem S1x192 .f32) (harg4 : arg4.IsWhole) (arg5 : Memref sig .tc .vmem S1x192 .f32) (harg5 : arg5.IsWhole) (arg6 : Memref sig .tc .vmem S64x256 .f32) (harg6 : arg6.IsWhole) (arg7 : Memref sig .tc .vmem S64x256 .f32) (harg7 : arg7.IsWhole) (arg8 : Memref sig .tc .vmem S1x256 .f32) (harg8 : arg8.IsWhole) (arg9 : Memref sig .tc .vmem S256x16 .bf16) (harg9 : arg9.IsWhole) (arg10 : Memref sig .tc .vmem S256x16 .bf16) (harg10 : arg10.IsWhole) (arg11 : Memref sig .tc .vmem S64x8 .f32) (harg11 : arg11.IsWhole) (arg12 : Memref sig .tc .vmem S1x8 .f32) (harg12 : arg12.IsWhole) (arg13 : Memref sig .tc .vmem S64x8 .f32) (harg13 : arg13.IsWhole) (arg14 : Memref sig .tc .vmem S1x8 .f32) (harg14 : arg14.IsWhole) (arg15 : Memref sig .tc .vmem S1x8 .f32) (harg15 : arg15.IsWhole) (arg16 : Memref sig .tc .vmem S1x1 .f32) (harg16 : arg16.IsWhole) (arg17 : Memref sig .tc .vmem S1x8 .f32) (harg17 : arg17.IsWhole) (arg18 : Memref sig .tc .vmem S1x1 .f32) (harg18 : arg18.IsWhole) (arg19 : Memref sig .tc .vmem S64x64 .f32) (harg19 : arg19.IsWhole) (arg20 : Memref sig .tc .vmem S1x64 .f32) (harg20 : arg20.IsWhole) (arg21 : Memref sig .tc .vmem S64x64 .f32) (harg21 : arg21.IsWhole) (arg22 : Memref sig .tc .vmem S1x64 .f32) (harg22 : arg22.IsWhole) (arg23 : Memref sig .tc .vmem S1x64 .f32) (harg23 : arg23.IsWhole) (arg24 : Memref sig .tc .vmem S512x64 .f32) (harg24 : arg24.IsWhole) (arg25 : Memref sig .tc .vmem S512x256 .f32) (harg25 : arg25.IsWhole) (arg26 : Memref sig .tc .vmem S512x256 .f32) (harg26 : arg26.IsWhole) (arg27 : Memref sig .tc .vmem S512x8 .f32) (harg27 : arg27.IsWhole) (arg28 : Memref sig .tc .vmem S512x64 .f32) (harg28 : arg28.IsWhole) (arg29 : Memref sig .tc .vmem S16384x128 .f32) (harg29 : arg29.IsWhole) (arg30 : Memref sig .tc .vmem S512x64 .f32) (harg30 : arg30.IsWhole) (arg31 : Memref sig .tc .vmem S512x64 .f32) (harg31 : arg31.IsWhole) (arg32 : Memref sig .tc .vmem S512x8 .f32) (harg32 : arg32.IsWhole) (v0 : Vec F S1x128 .f32) (v1 : Vec F S128x192 .f32) (v4 : Vec F S1x192 .f32) (X2 : BufTy.Contents (Elt F) arg2.view.ty) (X3 : BufTy.Contents (Elt F) arg3.view.ty) (X5 : BufTy.Contents (Elt F) arg5.view.ty) (k : Fin k0_t1_loop.trips) (acc : FVec F S1x64 .f32) :
    inv1 c arg2 arg3 arg5 arg24 v0 v1 v4 X2 X3 X5 k.val acc
    ⊢ wp (M := 𝕄G) frame (wpE (defs₀ (F := F)) Variants.none (c : Thread nD τ) none) Set.univ
     (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v0 v1 v4 k acc) (fun a => inv1 c arg2 arg3 arg5 arg24 v0 v1 v4 X2 X3 X5 (k.val + 1) a) := by
  have hk : k.val < 512 := Nat.lt_of_lt_of_le k.isLt k0_t1_abs.2.1
  unfold inv1 k0_t1_body
  iintro ⟨H2, H3, H5, ⟨%f, H24, %h⟩, %hacc⟩
  sl_exec
  sl_step
  have e : k0_pay31 v0 v1 v4 acc (arg2.view.readAt (Elt F) (Rect.unit (s := S64x192) ![0, 0] S64x192.size inb_S64x192_S64x192_0_0).toLoadRect X2)
      (arg3.view.readAt (Elt F) (Rect.unit (s := S64x192) ![0, 0] S64x192.size inb_S64x192_S64x192_0_0).toLoadRect X3)
      (arg2.view.readAt (Elt F) (Rect.unit (s := S64x192) ![0, 0] S64x192.size inb_S64x192_S64x192_0_0).toLoadRect X2)
      (arg5.view.readAt (Elt F) (Rect.unit (s := S1x192) ![0, 0] S1x192.size inb_S1x192_S1x192_0_0).toLoadRect X5) = (hid v0 v1 (arg2.view.read (Elt F) X2) (arg3.view.read (Elt F) X3) v4 (arg5.view.read (Elt F) X5) (k.val + 1)) := by
    rw [View.readAt_full, View.readAt_full, View.readAt_full, hacc]; rfl
  isplitl [H2]; · iexact H2
  isplitl [H3]; · iexact H3
  isplitl [H5]; · iexact H5
  isplitl [H24]
  · iexists _; isplitl [H24]; · iexact H24
    ipureintro
    intro y hy
    refine (read_store_row arg24.view f _ k.val (k0_off1_eq k) _ y).trans ?_
    by_cases hy' : (y 0).val = k.val
    · rw [if_pos hy']
      refine (congrFun ((shapeCast_same _ _).trans e) _).trans ?_
      unfold nodes
      rw [hy']
    · rw [if_neg hy', h y (by omega)]
  · ipureintro; exact e

/-- The printed branch words of the switch. -/
theorem switch_test : ∀ k : Fin k0_t4_loop.trips,
    (Scalar.cmpi .ne (Scalar.minsi (Scalar.maxsi (Scf.iv 0#32 1#32 k) 0#32) 3#32) 0#32 = 1#1 ↔ k.val ≠ 0)
    ∧ (k.val ≠ 0 → (Scalar.cmpi .ne (Scalar.subi (Scalar.minsi (Scalar.maxsi (Scf.iv 0#32 1#32 k) 0#32) 3#32) 1#32) 0#32 = 1#1 ↔ k.val ≠ 1))
    ∧ (k.val ≠ 0 → k.val ≠ 1 → (Scalar.cmpi .ne (Scalar.subi (Scalar.subi (Scalar.minsi (Scalar.maxsi (Scf.iv 0#32 1#32 k) 0#32) 3#32) 1#32) 1#32) 0#32 = 1#1 ↔ k.val ≠ 2)) := by
  decide +kernel

/-- The columns a load of 32 columns reads. -/
theorem readAt_cols (v : View sig .tc .vmem S16384x128 .f32) (f : v.ty.Contents (Elt F)) (o : ℕ)
    (inb : ∀ a, (![0, o] : Fin 2 → ℕ) a + S16384x32.size a ≤ S16384x128.size a) (k : ℕ) (hk : k < 4) (ho : o = 32 * k) :
    v.readAt (Elt F) (Rect.unit (s := S16384x128) ![0, o] S16384x32.size inb).toLoadRect f = cols32 (v.read (Elt F) f) k := by
  subst ho
  funext y
  refine congrArg (v.read (Elt F) f) (funext fun a => Fin.ext ?_)
  match a with
  | ⟨0, _⟩ => exact (Nat.zero_add _).trans (Nat.one_mul _)
  | ⟨1, _⟩ =>
    have h0 : (y 1).val < 32 := (y 1).isLt
    have h1 : 32 * k + 1 * (y 1).val = (32 * k + (y 1).val) % 128 := by omega
    exact h1

/-- What one trip of the last loop yields, from what it loaded. -/
theorem last_eq (W : FVec F S512x8 .f32) (U : FVec F S16384x128 .f32) (M : FVec F S512x64 .f32) (x17 : FVec F S1x8 .f32) (x18 : FVec F S1x1 .f32) (k : ℕ)
    (acc : FVec F S1x64 .f32) (a : FVec F S128x8 .f32) (u : FVec F S16384x32 .f32) (m : FVec F S128x64 .f32) (b : FVec F S1x1 .f32)
    (hacc : acc = lastT W U M x17 x18 k) (ha : a = blk W k) (hu : u = cols32 U k) (hm : m = blk M k) (hb : b = x18) :
    k0_pay5 acc (Scf.iv 0#32 1#32 k) (k0_pay26 (k0_pay3 x17) a u) (k0_pay27 (k0_pay3 x17) a u)
      (iota .tc S128x128x32 32 [0] iota_S128x128x32_d0_w32) (iota .tc S128x128x32 32 [1] iota_S128x128x32_d1_w32) k0_pay28 k0_pay29 1#32 b m
      = lastT W U M x17 x18 (k + 1) := by
  subst hacc ha hu hm hb; rfl

/-- Before source block `k` of the last loop: the running total is the one after `k` blocks. -/
def inv4 (c : Dev nD) (arg18 : Memref sig .tc .vmem S1x1 .f32) (arg29 : Memref sig .tc .vmem S16384x128 .f32) (arg31 : Memref sig .tc .vmem S512x64 .f32) (arg32 : Memref sig .tc .vmem S512x8 .f32) (v72 : Vec F S1x8 .f32) (X18 : BufTy.Contents (Elt F) arg18.view.ty) (X29 : BufTy.Contents (Elt F) arg29.view.ty) (X31 : BufTy.Contents (Elt F) arg31.view.ty) (X32 : BufTy.Contents (Elt F) arg32.view.ty) (k : ℕ) (acc : FVec F S1x64 .f32) : sProp 𝕄G :=
  iprop((arg18.view.loc (c : Thread nD τ) ↦[arg18.view.set]{fullShare} X18) ∗ (arg29.view.loc (c : Thread nD τ) ↦[arg29.view.set]{fullShare} X29) ∗ (arg31.view.loc (c : Thread nD τ) ↦[arg31.view.set]{fullShare} X31) ∗ (arg32.view.loc (c : Thread nD τ) ↦[arg32.view.set]{fullShare} X32) ∗ ⌜acc = (lastT (arg32.view.read (Elt F) X32) (arg29.view.read (Elt F) X29) (arg31.view.read (Elt F) X31) v72 (arg18.view.read (Elt F) X18) k)⌝)

/-- One trip keeps it. -/
theorem step4 (c : Dev nD) (arg0 : Memref sig .tc .vmem S1x128 .f32) (harg0 : arg0.IsWhole) (arg1 : Memref sig .tc .vmem S128x192 .f32) (harg1 : arg1.IsWhole) (arg2 : Memref sig .tc .vmem S64x192 .bf16) (harg2 : arg2.IsWhole) (arg3 : Memref sig .tc .vmem S64x192 .bf16) (harg3 : arg3.IsWhole) (arg4 : Memref sig .tc .vmem S1x192 .f32) (harg4 : arg4.IsWhole) (arg5 : Memref sig .tc .vmem S1x192 .f32) (harg5 : arg5.IsWhole) (arg6 : Memref sig .tc .vmem S64x256 .f32) (harg6 : arg6.IsWhole) (arg7 : Memref sig .tc .vmem S64x256 .f32) (harg7 : arg7.IsWhole) (arg8 : Memref sig .tc .vmem S1x256 .f32) (harg8 : arg8.IsWhole) (arg9 : Memref sig .tc .vmem S256x16 .bf16) (harg9 : arg9.IsWhole) (arg10 : Memref sig .tc .vmem S256x16 .bf16) (harg10 : arg10.IsWhole) (arg11 : Memref sig .tc .vmem S64x8 .f32) (harg11 : arg11.IsWhole) (arg12 : Memref sig .tc .vmem S1x8 .f32) (harg12 : arg12.IsWhole) (arg13 : Memref sig .tc .vmem S64x8 .f32) (harg13 : arg13.IsWhole) (arg14 : Memref sig .tc .vmem S1x8 .f32) (harg14 : arg14.IsWhole) (arg15 : Memref sig .tc .vmem S1x8 .f32) (harg15 : arg15.IsWhole) (arg16 : Memref sig .tc .vmem S1x1 .f32) (harg16 : arg16.IsWhole) (arg17 : Memref sig .tc .vmem S1x8 .f32) (harg17 : arg17.IsWhole) (arg18 : Memref sig .tc .vmem S1x1 .f32) (harg18 : arg18.IsWhole) (arg19 : Memref sig .tc .vmem S64x64 .f32) (harg19 : arg19.IsWhole) (arg20 : Memref sig .tc .vmem S1x64 .f32) (harg20 : arg20.IsWhole) (arg21 : Memref sig .tc .vmem S64x64 .f32) (harg21 : arg21.IsWhole) (arg22 : Memref sig .tc .vmem S1x64 .f32) (harg22 : arg22.IsWhole) (arg23 : Memref sig .tc .vmem S1x64 .f32) (harg23 : arg23.IsWhole) (arg24 : Memref sig .tc .vmem S512x64 .f32) (harg24 : arg24.IsWhole) (arg25 : Memref sig .tc .vmem S512x256 .f32) (harg25 : arg25.IsWhole) (arg26 : Memref sig .tc .vmem S512x256 .f32) (harg26 : arg26.IsWhole) (arg27 : Memref sig .tc .vmem S512x8 .f32) (harg27 : arg27.IsWhole) (arg28 : Memref sig .tc .vmem S512x64 .f32) (harg28 : arg28.IsWhole) (arg29 : Memref sig .tc .vmem S16384x128 .f32) (harg29 : arg29.IsWhole) (arg30 : Memref sig .tc .vmem S512x64 .f32) (harg30 : arg30.IsWhole) (arg31 : Memref sig .tc .vmem S512x64 .f32) (harg31 : arg31.IsWhole) (arg32 : Memref sig .tc .vmem S512x8 .f32) (harg32 : arg32.IsWhole) (v72 : Vec F S1x8 .f32) (X18 : BufTy.Contents (Elt F) arg18.view.ty) (X29 : BufTy.Contents (Elt F) arg29.view.ty) (X31 : BufTy.Contents (Elt F) arg31.view.ty) (X32 : BufTy.Contents (Elt F) arg32.view.ty) (k : Fin k0_t4_loop.trips) (acc : FVec F S1x64 .f32) :
    inv4 c arg18 arg29 arg31 arg32 v72 X18 X29 X31 X32 k.val acc
    ⊢ wp (M := 𝕄G) frame (wpE (defs₀ (F := F)) Variants.none (c : Thread nD τ) none) Set.univ
     (k0_t4_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v72 k acc) (fun a => inv4 c arg18 arg29 arg31 arg32 v72 X18 X29 X31 X32 (k.val + 1) a) := by
  have hk : k.val < 4 := Nat.lt_of_lt_of_le k.isLt k0_t4_abs.2.1
  obtain ⟨t1, t2, t3⟩ := switch_test k
  unfold inv4 k0_t4_body
  iintro ⟨H18, H29, H31, H32, %hacc⟩
  by_cases k0 : k.val = 0
  · have c1 := (not_congr t1).2 (not_not.2 k0)
    sl_exec
    sl_step
    isplitl [H18]; · iexact H18
    isplitl [H29]; · iexact H29
    isplitl [H31]; · iexact H31
    isplitl [H32]; · iexact H32
    ipureintro
    exact last_eq _ _ _ _ _ k.val _ _ _ _ _ hacc (readAt_blk _ _ _ k.val (k0_off8_eq k) hk)
      (readAt_cols arg29.view X29 0 _ k.val hk (by omega)) (readAt_blk _ _ _ k.val (k0_off9_eq k) hk) (View.readAt_full _ _ _)
  by_cases k1 : k.val = 1
  · have c1 := t1.2 k0
    have c2 := (not_congr (t2 k0)).2 (not_not.2 k1)
    sl_exec
    sl_step
    isplitl [H18]; · iexact H18
    isplitl [H29]; · iexact H29
    isplitl [H31]; · iexact H31
    isplitl [H32]; · iexact H32
    ipureintro
    exact last_eq _ _ _ _ _ k.val _ _ _ _ _ hacc (readAt_blk _ _ _ k.val (k0_off8_eq k) hk)
      (readAt_cols arg29.view X29 32 _ k.val hk (by omega)) (readAt_blk _ _ _ k.val (k0_off9_eq k) hk) (View.readAt_full _ _ _)
  by_cases k2 : k.val = 2
  · have c1 := t1.2 k0
    have c2 := (t2 k0).2 k1
    have c3 := (not_congr (t3 k0 k1)).2 (not_not.2 k2)
    sl_exec
    sl_step
    isplitl [H18]; · iexact H18
    isplitl [H29]; · iexact H29
    isplitl [H31]; · iexact H31
    isplitl [H32]; · iexact H32
    ipureintro
    exact last_eq _ _ _ _ _ k.val _ _ _ _ _ hacc (readAt_blk _ _ _ k.val (k0_off8_eq k) hk)
      (readAt_cols arg29.view X29 64 _ k.val hk (by omega)) (readAt_blk _ _ _ k.val (k0_off9_eq k) hk) (View.readAt_full _ _ _)
  · have c1 := t1.2 k0
    have c2 := (t2 k0).2 k1
    have c3 := (t3 k0 k1).2 k2
    sl_exec
    sl_step
    isplitl [H18]; · iexact H18
    isplitl [H29]; · iexact H29
    isplitl [H31]; · iexact H31
    isplitl [H32]; · iexact H32
    ipureintro
    exact last_eq _ _ _ _ _ k.val _ _ _ _ _ hacc (readAt_blk _ _ _ k.val (k0_off8_eq k) hk)
      (readAt_cols arg29.view X29 96 _ k.val hk (by omega)) (readAt_blk _ _ _ k.val (k0_off9_eq k) hk) (View.readAt_full _ _ _)

end Cert.Proof.KernelIdeal
end
-- ==== Proof.Body.lean ====
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.VecWindow
public import proofs.«01_k».proof.Proof.Spec
public import proofs.«01_k».proof.Proof.Trip2
public import proofs.«01_k».proof.Proof.Trip14

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

/-- The resource algebra the run is stated at: points-tos of the staged buffers, no counters beside them. -/
local notation "𝕄G" => MT nD τ sig Unit (Elt F) ℕ (UR sig nD τ) ℕ

set_option maxHeartbeats 1000000 in
/-- THE BODY of the kernel: from the 23 blocks' buffers, the result's and the scratch buffers at any contents, it runs
    and leaves the blocks as they were and the result's buffer reading `result` of them. -/
theorem body_run (c : Dev nD) (arg0 : Memref sig .tc .vmem S1x128 .f32) (harg0 : arg0.IsWhole) (arg1 : Memref sig .tc .vmem S128x192 .f32) (harg1 : arg1.IsWhole) (arg2 : Memref sig .tc .vmem S64x192 .bf16) (harg2 : arg2.IsWhole) (arg3 : Memref sig .tc .vmem S64x192 .bf16) (harg3 : arg3.IsWhole) (arg4 : Memref sig .tc .vmem S1x192 .f32) (harg4 : arg4.IsWhole) (arg5 : Memref sig .tc .vmem S1x192 .f32) (harg5 : arg5.IsWhole) (arg6 : Memref sig .tc .vmem S64x256 .f32) (harg6 : arg6.IsWhole) (arg7 : Memref sig .tc .vmem S64x256 .f32) (harg7 : arg7.IsWhole) (arg8 : Memref sig .tc .vmem S1x256 .f32) (harg8 : arg8.IsWhole) (arg9 : Memref sig .tc .vmem S256x16 .bf16) (harg9 : arg9.IsWhole) (arg10 : Memref sig .tc .vmem S256x16 .bf16) (harg10 : arg10.IsWhole) (arg11 : Memref sig .tc .vmem S64x8 .f32) (harg11 : arg11.IsWhole) (arg12 : Memref sig .tc .vmem S1x8 .f32) (harg12 : arg12.IsWhole) (arg13 : Memref sig .tc .vmem S64x8 .f32) (harg13 : arg13.IsWhole) (arg14 : Memref sig .tc .vmem S1x8 .f32) (harg14 : arg14.IsWhole) (arg15 : Memref sig .tc .vmem S1x8 .f32) (harg15 : arg15.IsWhole) (arg16 : Memref sig .tc .vmem S1x1 .f32) (harg16 : arg16.IsWhole) (arg17 : Memref sig .tc .vmem S1x8 .f32) (harg17 : arg17.IsWhole) (arg18 : Memref sig .tc .vmem S1x1 .f32) (harg18 : arg18.IsWhole) (arg19 : Memref sig .tc .vmem S64x64 .f32) (harg19 : arg19.IsWhole) (arg20 : Memref sig .tc .vmem S1x64 .f32) (harg20 : arg20.IsWhole) (arg21 : Memref sig .tc .vmem S64x64 .f32) (harg21 : arg21.IsWhole) (arg22 : Memref sig .tc .vmem S1x64 .f32) (harg22 : arg22.IsWhole) (arg23 : Memref sig .tc .vmem S1x64 .f32) (harg23 : arg23.IsWhole) (arg24 : Memref sig .tc .vmem S512x64 .f32) (harg24 : arg24.IsWhole) (arg25 : Memref sig .tc .vmem S512x256 .f32) (harg25 : arg25.IsWhole) (arg26 : Memref sig .tc .vmem S512x256 .f32) (harg26 : arg26.IsWhole) (arg27 : Memref sig .tc .vmem S512x8 .f32) (harg27 : arg27.IsWhole) (arg28 : Memref sig .tc .vmem S512x64 .f32) (harg28 : arg28.IsWhole) (arg29 : Memref sig .tc .vmem S16384x128 .f32) (harg29 : arg29.IsWhole) (arg30 : Memref sig .tc .vmem S512x64 .f32) (harg30 : arg30.IsWhole) (arg31 : Memref sig .tc .vmem S512x64 .f32) (harg31 : arg31.IsWhole) (arg32 : Memref sig .tc .vmem S512x8 .f32) (harg32 : arg32.IsWhole) (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (X19 : BufTy.Contents (Elt F) arg19.view.ty) (X20 : BufTy.Contents (Elt F) arg20.view.ty) (X21 : BufTy.Contents (Elt F) arg21.view.ty) (X22 : BufTy.Contents (Elt F) arg22.view.ty) (X23 : BufTy.Contents (Elt F) arg23.view.ty) (X24 : BufTy.Contents (Elt F) arg24.view.ty) (X25 : BufTy.Contents (Elt F) arg25.view.ty) (X26 : BufTy.Contents (Elt F) arg26.view.ty) (X27 : BufTy.Contents (Elt F) arg27.view.ty) (X28 : BufTy.Contents (Elt F) arg28.view.ty) (X29 : BufTy.Contents (Elt F) arg29.view.ty) (X30 : BufTy.Contents (Elt F) arg30.view.ty) (X31 : BufTy.Contents (Elt F) arg31.view.ty) (X32 : BufTy.Contents (Elt F) arg32.view.ty) :
    iprop((arg0.view.loc (c : Thread nD τ) ↦[arg0.view.set]{fullShare} X0)
    ∗ (arg1.view.loc (c : Thread nD τ) ↦[arg1.view.set]{fullShare} X1)
    ∗ (arg2.view.loc (c : Thread nD τ) ↦[arg2.view.set]{fullShare} X2)
    ∗ (arg3.view.loc (c : Thread nD τ) ↦[arg3.view.set]{fullShare} X3)
    ∗ (arg4.view.loc (c : Thread nD τ) ↦[arg4.view.set]{fullShare} X4)
    ∗ (arg5.view.loc (c : Thread nD τ) ↦[arg5.view.set]{fullShare} X5)
    ∗ (arg6.view.loc (c : Thread nD τ) ↦[arg6.view.set]{fullShare} X6)
    ∗ (arg7.view.loc (c : Thread nD τ) ↦[arg7.view.set]{fullShare} X7)
    ∗ (arg8.view.loc (c : Thread nD τ) ↦[arg8.view.set]{fullShare} X8)
    ∗ (arg9.view.loc (c : Thread nD τ) ↦[arg9.view.set]{fullShare} X9)
    ∗ (arg10.view.loc (c : Thread nD τ) ↦[arg10.view.set]{fullShare} X10)
    ∗ (arg11.view.loc (c : Thread nD τ) ↦[arg11.view.set]{fullShare} X11)
    ∗ (arg12.view.loc (c : Thread nD τ) ↦[arg12.view.set]{fullShare} X12)
    ∗ (arg13.view.loc (c : Thread nD τ) ↦[arg13.view.set]{fullShare} X13)
    ∗ (arg14.view.loc (c : Thread nD τ) ↦[arg14.view.set]{fullShare} X14)
    ∗ (arg15.view.loc (c : Thread nD τ) ↦[arg15.view.set]{fullShare} X15)
    ∗ (arg16.view.loc (c : Thread nD τ) ↦[arg16.view.set]{fullShare} X16)
    ∗ (arg17.view.loc (c : Thread nD τ) ↦[arg17.view.set]{fullShare} X17)
    ∗ (arg18.view.loc (c : Thread nD τ) ↦[arg18.view.set]{fullShare} X18)
    ∗ (arg19.view.loc (c : Thread nD τ) ↦[arg19.view.set]{fullShare} X19)
    ∗ (arg20.view.loc (c : Thread nD τ) ↦[arg20.view.set]{fullShare} X20)
    ∗ (arg21.view.loc (c : Thread nD τ) ↦[arg21.view.set]{fullShare} X21)
    ∗ (arg22.view.loc (c : Thread nD τ) ↦[arg22.view.set]{fullShare} X22)
    ∗ (arg23.view.loc (c : Thread nD τ) ↦[arg23.view.set]{fullShare} X23)
    ∗ (arg24.view.loc (c : Thread nD τ) ↦[arg24.view.set]{fullShare} X24)
    ∗ (arg25.view.loc (c : Thread nD τ) ↦[arg25.view.set]{fullShare} X25)
    ∗ (arg26.view.loc (c : Thread nD τ) ↦[arg26.view.set]{fullShare} X26)
    ∗ (arg27.view.loc (c : Thread nD τ) ↦[arg27.view.set]{fullShare} X27)
    ∗ (arg28.view.loc (c : Thread nD τ) ↦[arg28.view.set]{fullShare} X28)
    ∗ (arg29.view.loc (c : Thread nD τ) ↦[arg29.view.set]{fullShare} X29)
    ∗ (arg30.view.loc (c : Thread nD τ) ↦[arg30.view.set]{fullShare} X30)
    ∗ (arg31.view.loc (c : Thread nD τ) ↦[arg31.view.set]{fullShare} X31)
    ∗ (arg32.view.loc (c : Thread nD τ) ↦[arg32.view.set]{fullShare} X32))
    ⊢ wp (M := 𝕄G) frame (wpE (defs₀ (F := F)) Variants.none (c : Thread nD τ) none) Set.univ
     (cc0__body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32) (fun _ => iprop((arg0.view.loc (c : Thread nD τ) ↦[arg0.view.set]{fullShare} X0)
    ∗ (arg1.view.loc (c : Thread nD τ) ↦[arg1.view.set]{fullShare} X1)
    ∗ (arg2.view.loc (c : Thread nD τ) ↦[arg2.view.set]{fullShare} X2)
    ∗ (arg3.view.loc (c : Thread nD τ) ↦[arg3.view.set]{fullShare} X3)
    ∗ (arg4.view.loc (c : Thread nD τ) ↦[arg4.view.set]{fullShare} X4)
    ∗ (arg5.view.loc (c : Thread nD τ) ↦[arg5.view.set]{fullShare} X5)
    ∗ (arg6.view.loc (c : Thread nD τ) ↦[arg6.view.set]{fullShare} X6)
    ∗ (arg7.view.loc (c : Thread nD τ) ↦[arg7.view.set]{fullShare} X7)
    ∗ (arg8.view.loc (c : Thread nD τ) ↦[arg8.view.set]{fullShare} X8)
    ∗ (arg9.view.loc (c : Thread nD τ) ↦[arg9.view.set]{fullShare} X9)
    ∗ (arg10.view.loc (c : Thread nD τ) ↦[arg10.view.set]{fullShare} X10)
    ∗ (arg11.view.loc (c : Thread nD τ) ↦[arg11.view.set]{fullShare} X11)
    ∗ (arg12.view.loc (c : Thread nD τ) ↦[arg12.view.set]{fullShare} X12)
    ∗ (arg13.view.loc (c : Thread nD τ) ↦[arg13.view.set]{fullShare} X13)
    ∗ (arg14.view.loc (c : Thread nD τ) ↦[arg14.view.set]{fullShare} X14)
    ∗ (arg15.view.loc (c : Thread nD τ) ↦[arg15.view.set]{fullShare} X15)
    ∗ (arg16.view.loc (c : Thread nD τ) ↦[arg16.view.set]{fullShare} X16)
    ∗ (arg17.view.loc (c : Thread nD τ) ↦[arg17.view.set]{fullShare} X17)
    ∗ (arg18.view.loc (c : Thread nD τ) ↦[arg18.view.set]{fullShare} X18)
    ∗ (arg19.view.loc (c : Thread nD τ) ↦[arg19.view.set]{fullShare} X19)
    ∗ (arg20.view.loc (c : Thread nD τ) ↦[arg20.view.set]{fullShare} X20)
    ∗ (arg21.view.loc (c : Thread nD τ) ↦[arg21.view.set]{fullShare} X21)
    ∗ (arg22.view.loc (c : Thread nD τ) ↦[arg22.view.set]{fullShare} X22)
    ∗ (∃ f, (arg23.view.loc (c : Thread nD τ) ↦[arg23.view.set]{fullShare} f) ∗ ⌜arg23.view.read (Elt F) f = result (arg0.view.read (Elt F) X0) (arg1.view.read (Elt F) X1) (arg2.view.read (Elt F) X2) (arg3.view.read (Elt F) X3) (arg4.view.read (Elt F) X4) (arg5.view.read (Elt F) X5) (arg6.view.read (Elt F) X6) (arg7.view.read (Elt F) X7) (arg8.view.read (Elt F) X8) (arg9.view.read (Elt F) X9) (arg10.view.read (Elt F) X10) (arg11.view.read (Elt F) X11) (arg12.view.read (Elt F) X12) (arg13.view.read (Elt F) X13) (arg14.view.read (Elt F) X14) (arg15.view.read (Elt F) X15) (arg16.view.read (Elt F) X16) (arg17.view.read (Elt F) X17) (arg18.view.read (Elt F) X18) (arg19.view.read (Elt F) X19) (arg20.view.read (Elt F) X20) (arg21.view.read (Elt F) X21) (arg22.view.read (Elt F) X22)⌝)
    ∗ (∃ f, (arg24.view.loc (c : Thread nD τ) ↦[arg24.view.set]{fullShare} f))
    ∗ (∃ f, (arg25.view.loc (c : Thread nD τ) ↦[arg25.view.set]{fullShare} f))
    ∗ (∃ f, (arg26.view.loc (c : Thread nD τ) ↦[arg26.view.set]{fullShare} f))
    ∗ (∃ f, (arg27.view.loc (c : Thread nD τ) ↦[arg27.view.set]{fullShare} f))
    ∗ (∃ f, (arg28.view.loc (c : Thread nD τ) ↦[arg28.view.set]{fullShare} f))
    ∗ (∃ f, (arg29.view.loc (c : Thread nD τ) ↦[arg29.view.set]{fullShare} f))
    ∗ (∃ f, (arg30.view.loc (c : Thread nD τ) ↦[arg30.view.set]{fullShare} f))
    ∗ (∃ f, (arg31.view.loc (c : Thread nD τ) ↦[arg31.view.set]{fullShare} f))
    ∗ (∃ f, (arg32.view.loc (c : Thread nD τ) ↦[arg32.view.set]{fullShare} f)))) := by
  rw [cc0__body_eq_skeleton]
  unfold cc0__body_skel
  iintro ⟨H0, H1, H2, H3, H4, H5, H6, H7, H8, H9, H10, H11, H12, H13, H14, H15, H16, H17, H18, H19, H20, H21, H22, H23, H24, H25, H26, H27, H28, H29, H30, H31, H32⟩
  sl_exec
  sl_for (fun k acc => inv1 c arg2 arg3 arg5 arg24 (arg0.view.readAt (Elt F) (Rect.unit (s := S1x128) ![0, 0] S1x128.size inb_S1x128_S1x128_0_0).toLoadRect X0) (arg1.view.readAt (Elt F) (Rect.unit (s := S128x192) ![0, 0] S128x192.size inb_S128x192_S128x192_0_0).toLoadRect X1) (arg4.view.readAt (Elt F) (Rect.unit (s := S1x192) ![0, 0] S1x192.size inb_S1x192_S1x192_0_0).toLoadRect X4) X2 X3 X5 k acc) $$ [H2 H3 H5 H24]
  case region =>
    intro k a
    exact step1 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 _ _ _ X2 X3 X5 k a
  · unfold inv1
    isplitl [H2]; · iexact H2
    isplitl [H3]; · iexact H3
    isplitl [H5]; · iexact H5
    isplitl [H24]
    · iexists X24; isplitl [H24]; · iexact H24
      ipureintro
      intro y h
      omega
    · ipureintro
      rfl
  iintro %a HI
  unfold inv1
  icases HI with ⟨H2, H3, H5, ⟨%g24, H24, %e24⟩, %ea⟩
  sl_exec
  sl_for (fun k _ => inv2 c arg9 arg10 arg15 arg16 arg25 arg26 arg27 arg28 arg29 arg30 X9 X10 X15 X16 (arg25.view.writes (Elt F) arg25.view.junk [⟨Rect.unit (s := S512x256) ![0, 0] S512x256.size inb_S512x256_S512x256_0_0, (k0_pay33 (arg24.view.readAt (Elt F) (Rect.unit (s := S512x64) ![0, 0] S512x64.size inb_S512x64_S512x64_0_0).toLoadRect g24) (arg6.view.readAt (Elt F) (Rect.unit (s := S64x256) ![0, 0] S64x256.size inb_S64x256_S64x256_0_0).toLoadRect X6))⟩]) (arg26.view.writes (Elt F) arg26.view.junk [⟨Rect.unit (s := S512x256) ![0, 0] S512x256.size inb_S512x256_S512x256_0_0, (k0_pay34 (arg24.view.readAt (Elt F) (Rect.unit (s := S512x64) ![0, 0] S512x64.size inb_S512x64_S512x64_0_0).toLoadRect g24) (arg7.view.readAt (Elt F) (Rect.unit (s := S64x256) ![0, 0] S64x256.size inb_S64x256_S64x256_0_0).toLoadRect X7) (arg8.view.readAt (Elt F) (Rect.unit (s := S1x256) ![0, 0] S1x256.size inb_S1x256_S1x256_0_0).toLoadRect X8))⟩]) (arg27.view.writes (Elt F) arg27.view.junk [⟨Rect.unit (s := S512x8) ![0, 0] S512x8.size inb_S512x8_S512x8_0_0, (k0_pay35 (arg24.view.readAt (Elt F) (Rect.unit (s := S512x64) ![0, 0] S512x64.size inb_S512x64_S512x64_0_0).toLoadRect g24) (arg11.view.readAt (Elt F) (Rect.unit (s := S64x8) ![0, 0] S64x8.size inb_S64x8_S64x8_0_0).toLoadRect X11) (arg12.view.readAt (Elt F) (Rect.unit (s := S1x8) ![0, 0] S1x8.size inb_S1x8_S1x8_0_0).toLoadRect X12))⟩]) (arg28.view.writes (Elt F) arg28.view.junk [⟨Rect.unit (s := S512x64) ![0, 0] S512x64.size inb_S512x64_S512x64_0_0, (k0_pay36 (arg24.view.readAt (Elt F) (Rect.unit (s := S512x64) ![0, 0] S512x64.size inb_S512x64_S512x64_0_0).toLoadRect g24) (arg19.view.readAt (Elt F) (Rect.unit (s := S64x64) ![0, 0] S64x64.size inb_S64x64_S64x64_0_0).toLoadRect X19) (arg20.view.readAt (Elt F) (Rect.unit (s := S1x64) ![0, 0] S1x64.size inb_S1x64_S1x64_0_0).toLoadRect X20))⟩]) k) $$ [H9 H10 H15 H16 H25 H26 H27 H28 H29 H30]
  case region =>
    intro k a
    exact step2 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 _ X9 X10 X15 X16 _ _ _ _ k
  · unfold inv2
    isplitl [H9]; · iexact H9
    isplitl [H10]; · iexact H10
    isplitl [H15]; · iexact H15
    isplitl [H16]; · iexact H16
    isplitl [H25]; · iexact H25
    isplitl [H26]; · iexact H26
    isplitl [H27]; · iexact H27
    isplitl [H28]; · iexact H28
    isplitl [H29]
    · iexists X29; isplitl [H29]; · iexact H29
      ipureintro
      intro y h
      omega
    · iexists X30; isplitl [H30]; · iexact H30
      ipureintro
      intro y h
      omega
  iintro %a2 HI
  unfold inv2
  icases HI with ⟨H9, H10, H15, H16, H25, H26, H27, H28, ⟨%g29, H29, %e29⟩, ⟨%g30, H30, %e30⟩⟩
  sl_exec
  sl_for (fun k acc => inv4 c arg18 arg29 arg31 arg32 (arg17.view.readAt (Elt F) (Rect.unit (s := S1x8) ![0, 0] S1x8.size inb_S1x8_S1x8_0_0).toLoadRect X17) X18 g29 (arg31.view.writes (Elt F) arg31.view.junk [⟨Rect.unit (s := S512x64) ![0, 0] S512x64.size inb_S512x64_S512x64_0_0, (k0_pay1 (k0_pay41 (arg30.view.readAt (Elt F) (Rect.unit (s := S512x64) ![0, 0] S512x64.size inb_S512x64_S512x64_0_0).toLoadRect g30) (arg21.view.readAt (Elt F) (Rect.unit (s := S64x64) ![0, 0] S64x64.size inb_S64x64_S64x64_0_0).toLoadRect X21) (arg22.view.readAt (Elt F) (Rect.unit (s := S1x64) ![0, 0] S1x64.size inb_S1x64_S1x64_0_0).toLoadRect X22)))⟩]) (arg32.view.writes (Elt F) arg32.view.junk [⟨Rect.unit (s := S512x8) ![0, 0] S512x8.size inb_S512x8_S512x8_0_0, (k0_pay2 (k0_pay40 (arg30.view.readAt (Elt F) (Rect.unit (s := S512x64) ![0, 0] S512x64.size inb_S512x64_S512x64_0_0).toLoadRect g30)) (arg13.view.readAt (Elt F) (Rect.unit (s := S64x8) ![0, 0] S64x8.size inb_S64x8_S64x8_0_0).toLoadRect X13) (arg14.view.readAt (Elt F) (Rect.unit (s := S1x8) ![0, 0] S1x8.size inb_S1x8_S1x8_0_0).toLoadRect X14))⟩]) k acc) $$ [H18 H29 H31 H32]
  case region =>
    intro k a
    exact step4 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 _ X18 g29 _ _ k a
  · unfold inv4
    isplitl [H18]; · iexact H18
    isplitl [H29]; · iexact H29
    isplitl [H31]; · iexact H31
    isplitl [H32]; · iexact H32
    ipureintro
    rfl
  iintro %a4 HI
  unfold inv4
  icases HI with ⟨H18, H29, H31, H32, %e4⟩
  sl_exec
  sl_step
  have ht1 : Scf.trips k0_t1_loop.lb k0_t1_loop.ub k0_t1_loop.st = 512 := by decide +kernel
  have ht2 : Scf.trips k0_t2_loop.lb k0_t2_loop.ub k0_t2_loop.st = 4 := by decide +kernel
  have ht4 : Scf.trips k0_t4_loop.lb k0_t4_loop.ub k0_t4_loop.st = 4 := by decide +kernel
  rw [ht1] at e24
  rw [ht2] at e29 e30
  rw [ht4] at e4
  have n24 : arg24.view.read (Elt F) g24 = nodes (arg0.view.readAt (Elt F) (Rect.unit (s := S1x128) ![0, 0] S1x128.size inb_S1x128_S1x128_0_0).toLoadRect X0) (arg1.view.readAt (Elt F) (Rect.unit (s := S128x192) ![0, 0] S128x192.size inb_S128x192_S128x192_0_0).toLoadRect X1) (arg2.view.read (Elt F) X2) (arg3.view.read (Elt F) X3) (arg4.view.readAt (Elt F) (Rect.unit (s := S1x192) ![0, 0] S1x192.size inb_S1x192_S1x192_0_0).toLoadRect X4) (arg5.view.read (Elt F) X5) :=
    funext fun y => e24 y (y 0).isLt
  have n29 : arg29.view.read (Elt F) g29 = _ := funext fun y => e29 y (by have h : (y 1).val < 128 := (y 1).isLt; omega)
  have n30 : arg30.view.read (Elt F) g30 = _ := funext fun y => e30 y (by omega)
  rw [View.readAt_full, View.readAt_full, View.readAt_full] at n24
  rw [View.read_writes_full, View.read_writes_full, View.readAt_full, View.readAt_full, View.readAt_full, View.readAt_full, n24] at n29
  rw [View.read_writes_full, View.read_writes_full, View.read_writes_full, View.read_writes_full, View.readAt_full, View.readAt_full, View.readAt_full, View.readAt_full, View.readAt_full, View.readAt_full, View.readAt_full, View.readAt_full, n24] at n30
  rw [View.read_writes_full, View.read_writes_full, View.readAt_full, View.readAt_full, View.readAt_full, View.readAt_full, View.readAt_full, View.readAt_full, n29, n30] at e4
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]
  · iexists _; isplitl [H23]; · iexact H23
    ipureintro
    refine (View.read_writes_full _ _ _ _ _).trans ?_
    exact e4
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  iexists _; iexact H32

end Cert.Proof.KernelIdeal

end
-- ==== Proof.Run.lean ====
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.VecWindow
public import proofs.«01_k».proof.Proof.Spec
public import proofs.«01_k».proof.Proof.Trip2
public import proofs.«01_k».proof.Proof.Trip14
public import proofs.«01_k».proof.Proof.Body
public import Idealize.ShloMosaic.Lib.Pipeline.Quiescent

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

/-- The resource algebra the run is stated at: points-tos of the staged buffers, no counters beside them. -/
local notation "𝕄G" => MT nD τ sig Unit (Elt F) ℕ (UR sig nD τ) ℕ

/-! # The run of the program with @main around the kernel -/

set_option maxHeartbeats 2000000 in
/-- The body over the buffers' contents as the memrefs read them. -/
theorem body_owns (c : Dev nD) (arg0 : Memref sig .tc .vmem S1x128 .f32) (harg0 : arg0.IsWhole) (arg1 : Memref sig .tc .vmem S128x192 .f32) (harg1 : arg1.IsWhole) (arg2 : Memref sig .tc .vmem S64x192 .bf16) (harg2 : arg2.IsWhole) (arg3 : Memref sig .tc .vmem S64x192 .bf16) (harg3 : arg3.IsWhole) (arg4 : Memref sig .tc .vmem S1x192 .f32) (harg4 : arg4.IsWhole) (arg5 : Memref sig .tc .vmem S1x192 .f32) (harg5 : arg5.IsWhole) (arg6 : Memref sig .tc .vmem S64x256 .f32) (harg6 : arg6.IsWhole) (arg7 : Memref sig .tc .vmem S64x256 .f32) (harg7 : arg7.IsWhole) (arg8 : Memref sig .tc .vmem S1x256 .f32) (harg8 : arg8.IsWhole) (arg9 : Memref sig .tc .vmem S256x16 .bf16) (harg9 : arg9.IsWhole) (arg10 : Memref sig .tc .vmem S256x16 .bf16) (harg10 : arg10.IsWhole) (arg11 : Memref sig .tc .vmem S64x8 .f32) (harg11 : arg11.IsWhole) (arg12 : Memref sig .tc .vmem S1x8 .f32) (harg12 : arg12.IsWhole) (arg13 : Memref sig .tc .vmem S64x8 .f32) (harg13 : arg13.IsWhole) (arg14 : Memref sig .tc .vmem S1x8 .f32) (harg14 : arg14.IsWhole) (arg15 : Memref sig .tc .vmem S1x8 .f32) (harg15 : arg15.IsWhole) (arg16 : Memref sig .tc .vmem S1x1 .f32) (harg16 : arg16.IsWhole) (arg17 : Memref sig .tc .vmem S1x8 .f32) (harg17 : arg17.IsWhole) (arg18 : Memref sig .tc .vmem S1x1 .f32) (harg18 : arg18.IsWhole) (arg19 : Memref sig .tc .vmem S64x64 .f32) (harg19 : arg19.IsWhole) (arg20 : Memref sig .tc .vmem S1x64 .f32) (harg20 : arg20.IsWhole) (arg21 : Memref sig .tc .vmem S64x64 .f32) (harg21 : arg21.IsWhole) (arg22 : Memref sig .tc .vmem S1x64 .f32) (harg22 : arg22.IsWhole) (arg23 : Memref sig .tc .vmem S1x64 .f32) (harg23 : arg23.IsWhole) (arg24 : Memref sig .tc .vmem S512x64 .f32) (harg24 : arg24.IsWhole) (arg25 : Memref sig .tc .vmem S512x256 .f32) (harg25 : arg25.IsWhole) (arg26 : Memref sig .tc .vmem S512x256 .f32) (harg26 : arg26.IsWhole) (arg27 : Memref sig .tc .vmem S512x8 .f32) (harg27 : arg27.IsWhole) (arg28 : Memref sig .tc .vmem S512x64 .f32) (harg28 : arg28.IsWhole) (arg29 : Memref sig .tc .vmem S16384x128 .f32) (harg29 : arg29.IsWhole) (arg30 : Memref sig .tc .vmem S512x64 .f32) (harg30 : arg30.IsWhole) (arg31 : Memref sig .tc .vmem S512x64 .f32) (harg31 : arg31.IsWhole) (arg32 : Memref sig .tc .vmem S512x8 .f32) (harg32 : arg32.IsWhole) (x0 : FVec F S1x128 .f32) (x1 : FVec F S128x192 .f32) (x2 : FVec F S64x192 .bf16) (x3 : FVec F S64x192 .bf16) (x4 : FVec F S1x192 .f32) (x5 : FVec F S1x192 .f32) (x6 : FVec F S64x256 .f32) (x7 : FVec F S64x256 .f32) (x8 : FVec F S1x256 .f32) (x9 : FVec F S256x16 .bf16) (x10 : FVec F S256x16 .bf16) (x11 : FVec F S64x8 .f32) (x12 : FVec F S1x8 .f32) (x13 : FVec F S64x8 .f32) (x14 : FVec F S1x8 .f32) (x15 : FVec F S1x8 .f32) (x16 : FVec F S1x1 .f32) (x17 : FVec F S1x8 .f32) (x18 : FVec F S1x1 .f32) (x19 : FVec F S64x64 .f32) (x20 : FVec F S1x64 .f32) (x21 : FVec F S64x64 .f32) (x22 : FVec F S1x64 .f32) :
    iprop(owns (c : Thread nD τ) arg0 fullShare x0
    ∗ owns (c : Thread nD τ) arg1 fullShare x1
    ∗ owns (c : Thread nD τ) arg2 fullShare x2
    ∗ owns (c : Thread nD τ) arg3 fullShare x3
    ∗ owns (c : Thread nD τ) arg4 fullShare x4
    ∗ owns (c : Thread nD τ) arg5 fullShare x5
    ∗ owns (c : Thread nD τ) arg6 fullShare x6
    ∗ owns (c : Thread nD τ) arg7 fullShare x7
    ∗ owns (c : Thread nD τ) arg8 fullShare x8
    ∗ owns (c : Thread nD τ) arg9 fullShare x9
    ∗ owns (c : Thread nD τ) arg10 fullShare x10
    ∗ owns (c : Thread nD τ) arg11 fullShare x11
    ∗ owns (c : Thread nD τ) arg12 fullShare x12
    ∗ owns (c : Thread nD τ) arg13 fullShare x13
    ∗ owns (c : Thread nD τ) arg14 fullShare x14
    ∗ owns (c : Thread nD τ) arg15 fullShare x15
    ∗ owns (c : Thread nD τ) arg16 fullShare x16
    ∗ owns (c : Thread nD τ) arg17 fullShare x17
    ∗ owns (c : Thread nD τ) arg18 fullShare x18
    ∗ owns (c : Thread nD τ) arg19 fullShare x19
    ∗ owns (c : Thread nD τ) arg20 fullShare x20
    ∗ owns (c : Thread nD τ) arg21 fullShare x21
    ∗ owns (c : Thread nD τ) arg22 fullShare x22
    ∗ (∃ X, owns (c : Thread nD τ) arg23 fullShare X)
    ∗ (∃ f, (arg24.view.loc (c : Thread nD τ) ↦[arg24.view.set]{fullShare} f))
    ∗ (∃ f, (arg25.view.loc (c : Thread nD τ) ↦[arg25.view.set]{fullShare} f))
    ∗ (∃ f, (arg26.view.loc (c : Thread nD τ) ↦[arg26.view.set]{fullShare} f))
    ∗ (∃ f, (arg27.view.loc (c : Thread nD τ) ↦[arg27.view.set]{fullShare} f))
    ∗ (∃ f, (arg28.view.loc (c : Thread nD τ) ↦[arg28.view.set]{fullShare} f))
    ∗ (∃ f, (arg29.view.loc (c : Thread nD τ) ↦[arg29.view.set]{fullShare} f))
    ∗ (∃ f, (arg30.view.loc (c : Thread nD τ) ↦[arg30.view.set]{fullShare} f))
    ∗ (∃ f, (arg31.view.loc (c : Thread nD τ) ↦[arg31.view.set]{fullShare} f))
    ∗ (∃ f, (arg32.view.loc (c : Thread nD τ) ↦[arg32.view.set]{fullShare} f)))
    ⊢ wp (M := 𝕄G) frame (wpE (defs₀ (F := F)) Variants.none (c : Thread nD τ) none) Set.univ
     (cc0__body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32) (fun _ => iprop(owns (c : Thread nD τ) arg0 fullShare x0
    ∗ owns (c : Thread nD τ) arg1 fullShare x1
    ∗ owns (c : Thread nD τ) arg2 fullShare x2
    ∗ owns (c : Thread nD τ) arg3 fullShare x3
    ∗ owns (c : Thread nD τ) arg4 fullShare x4
    ∗ owns (c : Thread nD τ) arg5 fullShare x5
    ∗ owns (c : Thread nD τ) arg6 fullShare x6
    ∗ owns (c : Thread nD τ) arg7 fullShare x7
    ∗ owns (c : Thread nD τ) arg8 fullShare x8
    ∗ owns (c : Thread nD τ) arg9 fullShare x9
    ∗ owns (c : Thread nD τ) arg10 fullShare x10
    ∗ owns (c : Thread nD τ) arg11 fullShare x11
    ∗ owns (c : Thread nD τ) arg12 fullShare x12
    ∗ owns (c : Thread nD τ) arg13 fullShare x13
    ∗ owns (c : Thread nD τ) arg14 fullShare x14
    ∗ owns (c : Thread nD τ) arg15 fullShare x15
    ∗ owns (c : Thread nD τ) arg16 fullShare x16
    ∗ owns (c : Thread nD τ) arg17 fullShare x17
    ∗ owns (c : Thread nD τ) arg18 fullShare x18
    ∗ owns (c : Thread nD τ) arg19 fullShare x19
    ∗ owns (c : Thread nD τ) arg20 fullShare x20
    ∗ owns (c : Thread nD τ) arg21 fullShare x21
    ∗ owns (c : Thread nD τ) arg22 fullShare x22
    ∗ owns (c : Thread nD τ) arg23 fullShare (result x0 x1 x2 x3 x4 x5 x6 x7 x8 x9 x10 x11 x12 x13 x14 x15 x16 x17 x18 x19 x20 x21 x22)
    ∗ (∃ f, (arg24.view.loc (c : Thread nD τ) ↦[arg24.view.set]{fullShare} f))
    ∗ (∃ f, (arg25.view.loc (c : Thread nD τ) ↦[arg25.view.set]{fullShare} f))
    ∗ (∃ f, (arg26.view.loc (c : Thread nD τ) ↦[arg26.view.set]{fullShare} f))
    ∗ (∃ f, (arg27.view.loc (c : Thread nD τ) ↦[arg27.view.set]{fullShare} f))
    ∗ (∃ f, (arg28.view.loc (c : Thread nD τ) ↦[arg28.view.set]{fullShare} f))
    ∗ (∃ f, (arg29.view.loc (c : Thread nD τ) ↦[arg29.view.set]{fullShare} f))
    ∗ (∃ f, (arg30.view.loc (c : Thread nD τ) ↦[arg30.view.set]{fullShare} f))
    ∗ (∃ f, (arg31.view.loc (c : Thread nD τ) ↦[arg31.view.set]{fullShare} f))
    ∗ (∃ f, (arg32.view.loc (c : Thread nD τ) ↦[arg32.view.set]{fullShare} f)))) := by
  unfold owns
  iintro ⟨⟨%X0, %h0, H0⟩, ⟨%X1, %h1, H1⟩, ⟨%X2, %h2, H2⟩, ⟨%X3, %h3, H3⟩, ⟨%X4, %h4, H4⟩, ⟨%X5, %h5, H5⟩, ⟨%X6, %h6, H6⟩, ⟨%X7, %h7, H7⟩, ⟨%X8, %h8, H8⟩, ⟨%X9, %h9, H9⟩, ⟨%X10, %h10, H10⟩, ⟨%X11, %h11, H11⟩, ⟨%X12, %h12, H12⟩, ⟨%X13, %h13, H13⟩, ⟨%X14, %h14, H14⟩, ⟨%X15, %h15, H15⟩, ⟨%X16, %h16, H16⟩, ⟨%X17, %h17, H17⟩, ⟨%X18, %h18, H18⟩, ⟨%X19, %h19, H19⟩, ⟨%X20, %h20, H20⟩, ⟨%X21, %h21, H21⟩, ⟨%X22, %h22, H22⟩, ⟨%x23, %X23, %h23, H23⟩, ⟨%X24, H24⟩, ⟨%X25, H25⟩, ⟨%X26, H26⟩, ⟨%X27, H27⟩, ⟨%X28, H28⟩, ⟨%X29, H29⟩, ⟨%X30, H30⟩, ⟨%X31, H31⟩, ⟨%X32, H32⟩⟩
  iapply (wp_wand_r Idealize.ShloMosaic.frame (wpE (defs₀ (F := F)) Variants.none (c : Thread nD τ) none) Set.univ)
  isplitl [H0 H1 H2 H3 H4 H5 H6 H7 H8 H9 H10 H11 H12 H13 H14 H15 H16 H17 H18 H19 H20 H21 H22 H23 H24 H25 H26 H27 H28 H29 H30 H31 H32]
  · iapply (body_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 X0 X1 X2 X3 X4 X5 X6 X7 X8 X9 X10 X11 X12 X13 X14 X15 X16 X17 X18 X19 X20 X21 X22 X23 X24 X25 X26 X27 X28 X29 X30 X31 X32)
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    isplitl [H18]
    · iexact H18
    isplitl [H19]
    · iexact H19
    isplitl [H20]
    · iexact H20
    isplitl [H21]
    · iexact H21
    isplitl [H22]
    · iexact H22
    isplitl [H23]
    · iexact H23
    isplitl [H24]
    · iexact H24
    isplitl [H25]
    · iexact H25
    isplitl [H26]
    · iexact H26
    isplitl [H27]
    · iexact H27
    isplitl [H28]
    · iexact H28
    isplitl [H29]
    · iexact H29
    isplitl [H30]
    · iexact H30
    isplitl [H31]
    · iexact H31
    iexact H32
  · iintro %_ ⟨H0, H1, H2, H3, H4, H5, H6, H7, H8, H9, H10, H11, H12, H13, H14, H15, H16, H17, H18, H19, H20, H21, H22, ⟨%f23, H23, %e23⟩, ⟨%f24, H24⟩, ⟨%f25, H25⟩, ⟨%f26, H26⟩, ⟨%f27, H27⟩, ⟨%f28, H28⟩, ⟨%f29, H29⟩, ⟨%f30, H30⟩, ⟨%f31, H31⟩, ⟨%f32, H32⟩⟩
    isplitl [H0]
    · iexists X0; isplitr [H0]; · ipureintro; exact h0
      iexact H0
    isplitl [H1]
    · iexists X1; isplitr [H1]; · ipureintro; exact h1
      iexact H1
    isplitl [H2]
    · iexists X2; isplitr [H2]; · ipureintro; exact h2
      iexact H2
    isplitl [H3]
    · iexists X3; isplitr [H3]; · ipureintro; exact h3
      iexact H3
    isplitl [H4]
    · iexists X4; isplitr [H4]; · ipureintro; exact h4
      iexact H4
    isplitl [H5]
    · iexists X5; isplitr [H5]; · ipureintro; exact h5
      iexact H5
    isplitl [H6]
    · iexists X6; isplitr [H6]; · ipureintro; exact h6
      iexact H6
    isplitl [H7]
    · iexists X7; isplitr [H7]; · ipureintro; exact h7
      iexact H7
    isplitl [H8]
    · iexists X8; isplitr [H8]; · ipureintro; exact h8
      iexact H8
    isplitl [H9]
    · iexists X9; isplitr [H9]; · ipureintro; exact h9
      iexact H9
    isplitl [H10]
    · iexists X10; isplitr [H10]; · ipureintro; exact h10
      iexact H10
    isplitl [H11]
    · iexists X11; isplitr [H11]; · ipureintro; exact h11
      iexact H11
    isplitl [H12]
    · iexists X12; isplitr [H12]; · ipureintro; exact h12
      iexact H12
    isplitl [H13]
    · iexists X13; isplitr [H13]; · ipureintro; exact h13
      iexact H13
    isplitl [H14]
    · iexists X14; isplitr [H14]; · ipureintro; exact h14
      iexact H14
    isplitl [H15]
    · iexists X15; isplitr [H15]; · ipureintro; exact h15
      iexact H15
    isplitl [H16]
    · iexists X16; isplitr [H16]; · ipureintro; exact h16
      iexact H16
    isplitl [H17]
    · iexists X17; isplitr [H17]; · ipureintro; exact h17
      iexact H17
    isplitl [H18]
    · iexists X18; isplitr [H18]; · ipureintro; exact h18
      iexact H18
    isplitl [H19]
    · iexists X19; isplitr [H19]; · ipureintro; exact h19
      iexact H19
    isplitl [H20]
    · iexists X20; isplitr [H20]; · ipureintro; exact h20
      iexact H20
    isplitl [H21]
    · iexists X21; isplitr [H21]; · ipureintro; exact h21
      iexact H21
    isplitl [H22]
    · iexists X22; isplitr [H22]; · ipureintro; exact h22
      iexact H22
    isplitl [H23]
    · iexists f23; isplitr [H23]; · ipureintro; rw [e23, h0, h1, h2, h3, h4, h5, h6, h7, h8, h9, h10, h11, h12, h13, h14, h15, h16, h17, h18, h19, h20, h21, h22]
      iexact H23
    isplitl [H24]
    · iexists _; iexact H24
    isplitl [H25]
    · iexists _; iexact H25
    isplitl [H26]
    · iexists _; iexact H26
    isplitl [H27]
    · iexists _; iexact H27
    isplitl [H28]
    · iexists _; iexact H28
    isplitl [H29]
    · iexists _; iexact H29
    isplitl [H30]
    · iexists _; iexact H30
    isplitl [H31]
    · iexists _; iexact H31
    iexists _; iexact H32

/-- A scratch buffer held whole is held through its memref. -/
theorem scratch_eq (c : Dev nD) (b : Ref sig .tc) (f : Buf (Elt F) ((c : Thread nD τ).loc b)) :
    ((Memref.whole b).view.loc (c : Thread nD τ) ↦[(Memref.whole b).view.set]{fullShare} f : sProp 𝕄G)
      = ((c : Thread nD τ).loc b ↦{fullShare} f) := by
  rw [show (Memref.whole b).view.set = Finset.univ from View.set_whole b]

variable (m : (ℓ : Loc nD τ sig) → Buf (Elt F) ℓ) (ρ : Dev nD → PrngReg)

/-- What the body leaves in each window's staging buffer: the inputs' blocks as they came, the result of them. -/
def outBlk (c : Dev nD) : (w : Fin cfg0.W) → (t : Fin cfg0.N) → (cfg0.win w).block.Idx → Elt F (cfg0.win w).elt
  | ⟨0, _⟩, t => iblk m c 0 t
  | ⟨1, _⟩, t => iblk m c 1 t
  | ⟨2, _⟩, t => iblk m c 2 t
  | ⟨3, _⟩, t => iblk m c 3 t
  | ⟨4, _⟩, t => iblk m c 4 t
  | ⟨5, _⟩, t => iblk m c 5 t
  | ⟨6, _⟩, t => iblk m c 6 t
  | ⟨7, _⟩, t => iblk m c 7 t
  | ⟨8, _⟩, t => iblk m c 8 t
  | ⟨9, _⟩, t => iblk m c 9 t
  | ⟨10, _⟩, t => iblk m c 10 t
  | ⟨11, _⟩, t => iblk m c 11 t
  | ⟨12, _⟩, t => iblk m c 12 t
  | ⟨13, _⟩, t => iblk m c 13 t
  | ⟨14, _⟩, t => iblk m c 14 t
  | ⟨15, _⟩, t => iblk m c 15 t
  | ⟨16, _⟩, t => iblk m c 16 t
  | ⟨17, _⟩, t => iblk m c 17 t
  | ⟨18, _⟩, t => iblk m c 18 t
  | ⟨19, _⟩, t => iblk m c 19 t
  | ⟨20, _⟩, t => iblk m c 20 t
  | ⟨21, _⟩, t => iblk m c 21 t
  | ⟨22, _⟩, t => iblk m c 22 t

  | ⟨23, _⟩, t => (result (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) : FVec F S1x64 .f32)
  | ⟨n + 24, h⟩, _ => absurd h (by show ¬ n + 24 < 24; omega)
/-- The proof data of the one pipeline: the arrays as the region finds them, the buffers as `outBlk` says, the scratch
    buffers at any contents before and after. -/
def dats (_ : Fin 1) (c : Dev nD) : Pipeline.Dat τ (Elt F) Unit ℕ (UR sig nD τ) ℕ cfg0 c where
  A w := V m c (Pipeline.arrRef spec0 w)
  after w t := outBlk m c w t
  Φ _ := Pipeline.ΦA spec0 c
  q _ := fullShare
  owed _ := 0

/-- The body finds input 0's block in its buffer. -/
theorem found_0 (c : Dev nD) (t : Fin cfg0.N) (d) : (dats m 0 c).before 0 t d = iblk m c 0 t :=
  before0_0_of m (dats m 0 c) rfl (fun _ => rfl) t d
/-- The body finds input 1's block in its buffer. -/
theorem found_1 (c : Dev nD) (t : Fin cfg0.N) (d) : (dats m 0 c).before 1 t d = iblk m c 1 t :=
  before0_1_of m (dats m 0 c) rfl (fun _ => rfl) t d
/-- The body finds input 2's block in its buffer. -/
theorem found_2 (c : Dev nD) (t : Fin cfg0.N) (d) : (dats m 0 c).before 2 t d = iblk m c 2 t :=
  before0_2_of m (dats m 0 c) rfl (fun _ => rfl) t d
/-- The body finds input 3's block in its buffer. -/
theorem found_3 (c : Dev nD) (t : Fin cfg0.N) (d) : (dats m 0 c).before 3 t d = iblk m c 3 t :=
  before0_3_of m (dats m 0 c) rfl (fun _ => rfl) t d
/-- The body finds input 4's block in its buffer. -/
theorem found_4 (c : Dev nD) (t : Fin cfg0.N) (d) : (dats m 0 c).before 4 t d = iblk m c 4 t :=
  before0_4_of m (dats m 0 c) rfl (fun _ => rfl) t d
/-- The body finds input 5's block in its buffer. -/
theorem found_5 (c : Dev nD) (t : Fin cfg0.N) (d) : (dats m 0 c).before 5 t d = iblk m c 5 t :=
  before0_5_of m (dats m 0 c) rfl (fun _ => rfl) t d
/-- The body finds input 6's block in its buffer. -/
theorem found_6 (c : Dev nD) (t : Fin cfg0.N) (d) : (dats m 0 c).before 6 t d = iblk m c 6 t :=
  before0_6_of m (dats m 0 c) rfl (fun _ => rfl) t d
/-- The body finds input 7's block in its buffer. -/
theorem found_7 (c : Dev nD) (t : Fin cfg0.N) (d) : (dats m 0 c).before 7 t d = iblk m c 7 t :=
  before0_7_of m (dats m 0 c) rfl (fun _ => rfl) t d
/-- The body finds input 8's block in its buffer. -/
theorem found_8 (c : Dev nD) (t : Fin cfg0.N) (d) : (dats m 0 c).before 8 t d = iblk m c 8 t :=
  before0_8_of m (dats m 0 c) rfl (fun _ => rfl) t d
/-- The body finds input 9's block in its buffer. -/
theorem found_9 (c : Dev nD) (t : Fin cfg0.N) (d) : (dats m 0 c).before 9 t d = iblk m c 9 t :=
  before0_9_of m (dats m 0 c) rfl (fun _ => rfl) t d
/-- The body finds input 10's block in its buffer. -/
theorem found_10 (c : Dev nD) (t : Fin cfg0.N) (d) : (dats m 0 c).before 10 t d = iblk m c 10 t :=
  before0_10_of m (dats m 0 c) rfl (fun _ => rfl) t d
/-- The body finds input 11's block in its buffer. -/
theorem found_11 (c : Dev nD) (t : Fin cfg0.N) (d) : (dats m 0 c).before 11 t d = iblk m c 11 t :=
  before0_11_of m (dats m 0 c) rfl (fun _ => rfl) t d
/-- The body finds input 12's block in its buffer. -/
theorem found_12 (c : Dev nD) (t : Fin cfg0.N) (d) : (dats m 0 c).before 12 t d = iblk m c 12 t :=
  before0_12_of m (dats m 0 c) rfl (fun _ => rfl) t d
/-- The body finds input 13's block in its buffer. -/
theorem found_13 (c : Dev nD) (t : Fin cfg0.N) (d) : (dats m 0 c).before 13 t d = iblk m c 13 t :=
  before0_13_of m (dats m 0 c) rfl (fun _ => rfl) t d
/-- The body finds input 14's block in its buffer. -/
theorem found_14 (c : Dev nD) (t : Fin cfg0.N) (d) : (dats m 0 c).before 14 t d = iblk m c 14 t :=
  before0_14_of m (dats m 0 c) rfl (fun _ => rfl) t d
/-- The body finds input 15's block in its buffer. -/
theorem found_15 (c : Dev nD) (t : Fin cfg0.N) (d) : (dats m 0 c).before 15 t d = iblk m c 15 t :=
  before0_15_of m (dats m 0 c) rfl (fun _ => rfl) t d
/-- The body finds input 16's block in its buffer. -/
theorem found_16 (c : Dev nD) (t : Fin cfg0.N) (d) : (dats m 0 c).before 16 t d = iblk m c 16 t :=
  before0_16_of m (dats m 0 c) rfl (fun _ => rfl) t d
/-- The body finds input 17's block in its buffer. -/
theorem found_17 (c : Dev nD) (t : Fin cfg0.N) (d) : (dats m 0 c).before 17 t d = iblk m c 17 t :=
  before0_17_of m (dats m 0 c) rfl (fun _ => rfl) t d
/-- The body finds input 18's block in its buffer. -/
theorem found_18 (c : Dev nD) (t : Fin cfg0.N) (d) : (dats m 0 c).before 18 t d = iblk m c 18 t :=
  before0_18_of m (dats m 0 c) rfl (fun _ => rfl) t d
/-- The body finds input 19's block in its buffer. -/
theorem found_19 (c : Dev nD) (t : Fin cfg0.N) (d) : (dats m 0 c).before 19 t d = iblk m c 19 t :=
  before0_19_of m (dats m 0 c) rfl (fun _ => rfl) t d
/-- The body finds input 20's block in its buffer. -/
theorem found_20 (c : Dev nD) (t : Fin cfg0.N) (d) : (dats m 0 c).before 20 t d = iblk m c 20 t :=
  before0_20_of m (dats m 0 c) rfl (fun _ => rfl) t d
/-- The body finds input 21's block in its buffer. -/
theorem found_21 (c : Dev nD) (t : Fin cfg0.N) (d) : (dats m 0 c).before 21 t d = iblk m c 21 t :=
  before0_21_of m (dats m 0 c) rfl (fun _ => rfl) t d
/-- The body finds input 22's block in its buffer. -/
theorem found_22 (c : Dev nD) (t : Fin cfg0.N) (d) : (dats m 0 c).before 22 t d = iblk m c 22 t :=
  before0_22_of m (dats m 0 c) rfl (fun _ => rfl) t d

/-- The body table's row is the body at the point's buffers. -/
theorem body_row (t : Fin cfg0.N) : defs₀ (F := F) .tc cfg0.body (cfg0.bodyArgs t (cfg0.slots t)) = bodyAt0 t := by
  unfold defs₀; rw [Defs.onTc_tc]

set_option maxHeartbeats 2000000 in
/-- THE BODY OBLIGATION, at the one grid point. -/
theorem body_obligation (c : Dev nD) : Pipeline.BodyObligation (dats m 0 c) (defs₀ (F := F)) Variants.none () Set.univ := fun t => by
  rw [bigSep_W0, bigSep_W0, body_row]
  simp only
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl]
  unfold Pipeline.ΦA
  rw [scopedRest0_eq]
  iintro ⟨⟨⟨⟨%f0, S0⟩, ⟨%f1, S1⟩, ⟨%f2, S2⟩, ⟨%f3, S3⟩, ⟨%f4, S4⟩, ⟨%f5, S5⟩, ⟨%f6, S6⟩, ⟨%f7, S7⟩, ⟨%f8, S8⟩⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  rw [found_0 m c t d0, found_1 m c t d1, found_2 m c t d2, found_3 m c t d3, found_4 m c t d4, found_5 m c t d5, found_6 m c t d6, found_7 m c t d7, found_8 m c t d8, found_9 m c t d9, found_10 m c t d10, found_11 m c t d11, found_12 m c t d12, found_13 m c t d13, found_14 m c t d14, found_15 m c t d15, found_16 m c t d16, found_17 m c t d17, found_18 m c t d18, found_19 m c t d19, found_20 m c t d20, found_21 m c t d21, found_22 m c t d22]
  iapply (wp_wand_r Idealize.ShloMosaic.frame (wpE (defs₀ (F := F)) Variants.none (c : Thread nD τ) none) Set.univ)
  isplitl [H0 H1 H2 H3 H4 H5 H6 H7 H8 H9 H10 H11 H12 H13 H14 H15 H16 H17 H18 H19 H20 H21 H22 H23 S0 S1 S2 S3 S4 S5 S6 S7 S8]
  · iapply (body_owns c (win0_0.stage (cfg0.slots t 0)) (hstage0_0 0) (win0_1.stage (cfg0.slots t 1)) (hstage0_1 0) (win0_2.stage (cfg0.slots t 2)) (hstage0_2 0) (win0_3.stage (cfg0.slots t 3)) (hstage0_3 0) (win0_4.stage (cfg0.slots t 4)) (hstage0_4 0) (win0_5.stage (cfg0.slots t 5)) (hstage0_5 0) (win0_6.stage (cfg0.slots t 6)) (hstage0_6 0) (win0_7.stage (cfg0.slots t 7)) (hstage0_7 0) (win0_8.stage (cfg0.slots t 8)) (hstage0_8 0) (win0_9.stage (cfg0.slots t 9)) (hstage0_9 0) (win0_10.stage (cfg0.slots t 10)) (hstage0_10 0) (win0_11.stage (cfg0.slots t 11)) (hstage0_11 0) (win0_12.stage (cfg0.slots t 12)) (hstage0_12 0) (win0_13.stage (cfg0.slots t 13)) (hstage0_13 0) (win0_14.stage (cfg0.slots t 14)) (hstage0_14 0) (win0_15.stage (cfg0.slots t 15)) (hstage0_15 0) (win0_16.stage (cfg0.slots t 16)) (hstage0_16 0) (win0_17.stage (cfg0.slots t 17)) (hstage0_17 0) (win0_18.stage (cfg0.slots t 18)) (hstage0_18 0) (win0_19.stage (cfg0.slots t 19)) (hstage0_19 0) (win0_20.stage (cfg0.slots t 20)) (hstage0_20 0) (win0_21.stage (cfg0.slots t 21)) (hstage0_21 0) (win0_22.stage (cfg0.slots t 22)) (hstage0_22 0) (win0_23.stage (cfg0.slots t 23)) (hstage0_23 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexists _; iexact H23
    isplitl [S0]; · iexists f0; rw [scratch_eq]; iexact S0
    isplitl [S1]; · iexists f1; rw [scratch_eq]; iexact S1
    isplitl [S2]; · iexists f2; rw [scratch_eq]; iexact S2
    isplitl [S3]; · iexists f3; rw [scratch_eq]; iexact S3
    isplitl [S4]; · iexists f4; rw [scratch_eq]; iexact S4
    isplitl [S5]; · iexists f5; rw [scratch_eq]; iexact S5
    isplitl [S6]; · iexists f6; rw [scratch_eq]; iexact S6
    isplitl [S7]; · iexists f7; rw [scratch_eq]; iexact S7
    iexists f8; rw [scratch_eq]; iexact S8
  · iintro %_ ⟨H0, H1, H2, H3, H4, H5, H6, H7, H8, H9, H10, H11, H12, H13, H14, H15, H16, H17, H18, H19, H20, H21, H22, H23, ⟨%g0, S0⟩, ⟨%g1, S1⟩, ⟨%g2, S2⟩, ⟨%g3, S3⟩, ⟨%g4, S4⟩, ⟨%g5, S5⟩, ⟨%g6, S6⟩, ⟨%g7, S7⟩, ⟨%g8, S8⟩⟩
    isplitl [S0 S1 S2 S3 S4 S5 S6 S7 S8 Hp]
    · isplitl [S0 S1 S2 S3 S4 S5 S6 S7 S8]
      · isplitl [S0]; · iexists g0; rw [← scratch_eq]; iexact S0
        isplitl [S1]; · iexists g1; rw [← scratch_eq]; iexact S1
        isplitl [S2]; · iexists g2; rw [← scratch_eq]; iexact S2
        isplitl [S3]; · iexists g3; rw [← scratch_eq]; iexact S3
        isplitl [S4]; · iexists g4; rw [← scratch_eq]; iexact S4
        isplitl [S5]; · iexists g5; rw [← scratch_eq]; iexact S5
        isplitl [S6]; · iexists g6; rw [← scratch_eq]; iexact S6
        isplitl [S7]; · iexists g7; rw [← scratch_eq]; iexact S7
        iexists g8; rw [← scratch_eq]; iexact S8
      · iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    iexact H23

/-- The run: it ends, every staged array and every buffer holds what the pipeline and the host lines leave, and every
    semaphore counter is zero. -/
theorem run_all : θ_run defs (onTc (τ := τ) (main (F := F))) (s₀ m ρ) (fun r =>
    Pipeline.FramePost cfgs (dats m) 0 (Pipeline.afterTail₀ cfgs (dats m) 0 (V0 m) [hostOps1]) r ∧ r.2.sem = fun _ => 0) :=
  Pipeline.θ_run_frame_around cfgs (dats m) 0 launch0 defs₀ Variants.none m ρ main (fun c => (body_obligation m c).loose)
    (fun c w => by unfold Pipeline.Dat.share; split <;> rfl) (fun _ _ => rfl) (V0 m) [hostOps1] sfx_sub sfx_fresh sfx_keeps
    (hmain m Variants.none) (fun _ _ => rfl) (fun _ _ => rfl) _ (fun _ h => h)

/-- The frame: the arguments end as they began, and every semaphore counter is zero. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) ∧ r.2.sem = fun _ => 0) :=
  θ_run_with_sems (fun h => frame_of m ρ (dats m) (fun _ _ => rfl) h) (run_all m ρ)

end Cert.Proof.KernelIdeal

end
-- ==== Proof.Same.lean ====
module

public import proofs.«01_k».proof.Defs
public import proofs.«01_k».proof.Proof.Gen.Kernel
public import proofs.«01_k».proof.Proof.Gen.KernelIdeal
public import proofs.«01_k».proof.Proof.Run

@[expose] public section

set_option maxRecDepth 65536

noncomputable section

namespace Cert.Proof

open Idealize.ShloMosaic Idealize.SL

local instance : Cert.Kernel.Facts := Cert.Kernel.Gen.facts
local instance : Cert.KernelIdeal.Facts := Cert.KernelIdeal.Gen.facts

set_option maxHeartbeats 1000000 in
/-- The two programs' body tables are the same table. -/
theorem defs0_eq : Cert.Kernel.defs₀ (F := Bits) = Cert.KernelIdeal.defs₀ (F := Bits) := by
  refine congrArg Defs.onTc ?_
  funext ℓ x
  match ℓ, x with
  | 0, (t, s) => rfl
  | ⟨n + 1, h⟩, _ => exact absurd h (Nat.not_lt.2 (Nat.le_add_left _ _))

set_option maxHeartbeats 1000000 in
/-- The two programs' tables of definitions are the same. -/
theorem defs_eq : Cert.Kernel.defs (F := Bits) = Cert.KernelIdeal.defs (F := Bits) :=
  congrArg (Pipeline.defs (Cert.KernelIdeal.pcfgs (F := Bits))) defs0_eq

set_option maxHeartbeats 2000000 in
/-- The two programs' host functions are the same. -/
theorem main_eq : Cert.Kernel.main (F := Bits) = Cert.KernelIdeal.main (F := Bits) := rfl

set_option maxHeartbeats 2000000 in
/-- The kernel's frame at machine floats: its program is the idealized one's text, so its run is the same run. -/
theorem frame_kernel : Cert.quiescent_Kernel := by
  intro m ρ _
  rw [defs_eq, main_eq]
  exact (θ_run Cert.KernelIdeal.defs _ _).mono (fun _ h => ⟨h.1, h.2⟩) (KernelIdeal.run_main (F := Bits) m ρ)

/-- The idealized kernel's frame at the extended reals. -/
theorem frame_ideal : Cert.quiescent_KernelIdeal :=
  fun m ρ _ => KernelIdeal.run_main (F := Ideal) m ρ

end Cert.Proof

end

end
-- ==== Proof.Real.lean ====
module

public import Idealize.ShloMosaic.Lib.Pointwise

@[expose] public section

noncomputable section

namespace Cert.Proof.Math

open Finset

/-! # The mathematics over the real numbers -/

/-- The sum of reals, taken as extended reals. -/
theorem csum {ι : Type} [Fintype ι] (f : ι → ℝ) : ∑ i, ((f i : ℝ) : EReal) = ((∑ i, f i : ℝ) : EReal) := by
  classical
  refine Finset.induction_on (Finset.univ : Finset ι) (by simp) fun a s ha ih => ?_
  rw [Finset.sum_insert ha, Finset.sum_insert ha, EReal.coe_add, ih]

/-- The maximum of two reals, taken as extended reals. -/
theorem cmax (a b : ℝ) : max (a : EReal) (b : EReal) = ((max a b : ℝ) : EReal) :=
  (Monotone.map_max EReal.coe_strictMono.monotone).symm

/-- The maximum of a real with zero, taken as extended reals. -/
theorem cmax0 (a : ℝ) : max (a : EReal) 0 = ((max a 0 : ℝ) : EReal) := cmax a 0

/-- A real minus itself, taken as extended reals. -/
theorem csub_self (a : ℝ) : (a : EReal) - (a : EReal) = 0 := by rw [← EReal.coe_sub, sub_self]; rfl

/-- One minus a real, taken as extended reals. -/
theorem cone_sub (a : ℝ) : (1 : EReal) - (a : EReal) = ((1 - a : ℝ) : EReal) := by rw [EReal.coe_sub]; rfl

/-- The weights as real numbers. -/
structure Wt where
  /-- the latent vector -/
  z : Fin 128 → ℝ
  /-- gate weights of the input -/
  wih : Fin 192 → Fin 128 → ℝ
  /-- gate weights of the state -/
  whh : Fin 192 → Fin 64 → ℝ
  /-- gate bias of the input -/
  bih : Fin 192 → ℝ
  /-- gate bias of the state -/
  bhh : Fin 192 → ℝ
  /-- first edge layer -/
  ew1 : Fin 128 → Fin 256 → ℝ
  /-- its bias -/
  eb1 : Fin 256 → ℝ
  /-- second edge layer -/
  ew2 : Fin 256 → Fin 16 → ℝ
  /-- its bias -/
  eb2 : Fin 16 → ℝ

/-- One convolution's weights as real numbers. -/
structure Cv where
  /-- first attention layer -/
  aw1 : Fin 80 → Fin 8 → ℝ
  /-- its bias -/
  ab1 : Fin 8 → ℝ
  /-- second attention layer -/
  aw2 : Fin 8 → ℝ
  /-- its bias -/
  ab2 : ℝ
  /-- message weights -/
  cw : Fin 64 → Fin 64 → ℝ
  /-- message bias -/
  cb : Fin 64 → ℝ

variable (W : Wt) (C : Cv)

/-- The logistic function. -/
def sg (x : ℝ) : ℝ := (1 + Real.exp (-x))⁻¹

/-- The input part of the gates. -/
def gi (g : Fin 192) : ℝ := (∑ k, W.z k * W.wih g k) + W.bih g

/-- The state part of the gates. -/
def gh (h : Fin 64 → ℝ) (g : Fin 192) : ℝ := (∑ k, h k * W.whh g k) + W.bhh g

/-- One step of the recurrence. -/
def step (h : Fin 64 → ℝ) (c : Fin 64) : ℝ :=
  (1 - sg (gi W ⟨64 + c, by omega⟩ + gh W h ⟨64 + c, by omega⟩))
      * Real.tanh (gi W ⟨128 + c, by omega⟩ + sg (gi W ⟨c, by omega⟩ + gh W h ⟨c, by omega⟩) * gh W h ⟨128 + c, by omega⟩)
    + sg (gi W ⟨64 + c, by omega⟩ + gh W h ⟨64 + c, by omega⟩) * h c

/-- The state after `k` steps. -/
def hv : ℕ → Fin 64 → ℝ
  | 0 => fun _ => 0
  | k + 1 => step W (hv k)

/-- The nodes. -/
def X (i : Fin 512) (c : Fin 64) : ℝ := hv W (i.val + 1) c

/-- The source half of the first edge layer. -/
def P (i : Fin 512) (k : Fin 256) : ℝ := ∑ c : Fin 64, X W i c * W.ew1 ⟨c, by omega⟩ k

/-- The target half of the first edge layer. -/
def Q (i : Fin 512) (k : Fin 256) : ℝ := (∑ c : Fin 64, X W i c * W.ew1 ⟨64 + c, by omega⟩ k) + W.eb1 k

/-- The first edge layer after its maximum with zero. -/
def E1 (s d : Fin 512) (k : Fin 256) : ℝ := max (P W s k + Q W d k) 0

/-- The second edge layer folded with the attention's. -/
def M (k : Fin 256) (t : Fin 8) : ℝ := ∑ e : Fin 16, W.ew2 k e * C.aw1 ⟨e, by omega⟩ t

/-- The edge's part of the attention. -/
def U (s d : Fin 512) (t : Fin 8) : ℝ := ∑ k, E1 W s d k * M W C k t

/-- The node's part of the attention. -/
def Wn (x : Fin 512 → Fin 64 → ℝ) (s : Fin 512) (t : Fin 8) : ℝ :=
  (∑ c : Fin 64, x s c * C.aw1 ⟨16 + c, by omega⟩ t) + (C.ab1 t + ∑ e : Fin 16, W.eb2 e * C.aw1 ⟨e, by omega⟩ t)

/-- One summand of the attention. -/
def term (x : Fin 512 → Fin 64 → ℝ) (s d : Fin 512) (t : Fin 8) : ℝ := max (U W C s d t + Wn W C x s t) 0 * C.aw2 t

/-- The attention of an edge. -/
def al (x : Fin 512 → Fin 64 → ℝ) (s d : Fin 512) : ℝ := (∑ t, term W C x s d t) + C.ab2

/-- The message of a node. -/
def Ms (x : Fin 512 → Fin 64 → ℝ) (s : Fin 512) (c : Fin 64) : ℝ := (∑ b, x s b * C.cw b c) + C.cb c

/-- A convolution: over all sources but the target itself. -/
def conv (x : Fin 512 → Fin 64 → ℝ) (d : Fin 512) (c : Fin 64) : ℝ := ∑ s, (if s = d then 0 else al W C x s d) * Ms C x s c

/-- The nodes after the first convolution. -/
def X1 (i : Fin 512) (c : Fin 64) : ℝ := max (conv W C (X W) i c) 0

/-- The weight with which a source's message enters the second convolution's sum. -/
def tot (x : Fin 512 → Fin 64 → ℝ) (s : Fin 512) : ℝ :=
  (∑ d, ∑ t, term W C x s d t) - (∑ t, term W C x s s t) + 511 * C.ab2

/-- The result. -/
def res (D : Cv) (c : Fin 64) : ℝ := ∑ s, tot W D (X1 W C) s * Ms D (X1 W C) s c

/-! ## The reference's arrangement -/

/-- The reference's first edge layer. -/
def E1r (s d : Fin 512) (k : Fin 256) : ℝ :=
  max ((∑ j : Fin 128, (if h : j.val < 64 then X W s ⟨j, h⟩ else X W d ⟨j - 64, by omega⟩) * W.ew1 j k) + W.eb1 k) 0

/-- The reference's edge features. -/
def Er (s d : Fin 512) (e : Fin 16) : ℝ := (∑ k, E1r W s d k * W.ew2 k e) + W.eb2 e

/-- The reference's attention. -/
def alr (x : Fin 512 → Fin 64 → ℝ) (s d : Fin 512) : ℝ :=
  (∑ t : Fin 8, max ((∑ j : Fin 80, (if h : j.val < 16 then Er W s d ⟨j, h⟩ else x s ⟨j - 16, by omega⟩) * C.aw1 j t) + C.ab1 t) 0 * C.aw2 t) + C.ab2

/-- A sum over 128 in two halves. -/
theorem sum128 (f : Fin 128 → ℝ) : ∑ j, f j = (∑ c : Fin 64, f ⟨c, by omega⟩) + ∑ c : Fin 64, f ⟨64 + c, by omega⟩ :=
  Fin.sum_univ_add (a := 64) (b := 64) f

/-- A sum over 80, the first 16 apart. -/
theorem sum80 (f : Fin 80 → ℝ) : ∑ j, f j = (∑ c : Fin 16, f ⟨c, by omega⟩) + ∑ c : Fin 64, f ⟨16 + c, by omega⟩ :=
  Fin.sum_univ_add (a := 16) (b := 64) f

/-- The two first edge layers agree. -/
theorem E1r_eq (s d : Fin 512) (k : Fin 256) : E1r W s d k = E1 W s d k := by
  unfold E1r E1 P Q
  rw [sum128, add_assoc]
  refine congrArg (max · 0) (congrArg₂ (· + ·) (Finset.sum_congr rfl fun c _ => ?_) (congrArg (· + _) (Finset.sum_congr rfl fun c _ => ?_)))
  · rw [dif_pos (show c.val < 64 from c.isLt)]
  · rw [dif_neg (show ¬ (64 + c.val < 64) by omega)]
    exact congrArg (fun i => X W d i * _) (Fin.ext (show 64 + c.val - 64 = c.val by omega))

/-- The two attentions agree. -/
theorem alr_eq (x : Fin 512 → Fin 64 → ℝ) (s d : Fin 512) : alr W C x s d = al W C x s d := by
  unfold alr al term
  refine congrArg (· + _) (Finset.sum_congr rfl fun t _ => congrArg (max · 0 * _) ?_)
  rw [sum80]
  have h1 : ∑ c : Fin 16, (if h : c.val < 16 then Er W s d ⟨c, h⟩ else x s ⟨c.val - 16, by omega⟩) * C.aw1 ⟨c, by omega⟩ t
      = U W C s d t + ∑ e : Fin 16, W.eb2 e * C.aw1 ⟨e, by omega⟩ t := by
    unfold U M
    simp only [Finset.mul_sum]
    rw [Finset.sum_comm, ← Finset.sum_add_distrib]
    refine Finset.sum_congr rfl fun e _ => ?_
    rw [dif_pos e.isLt]
    unfold Er
    rw [add_mul, Finset.sum_mul]
    refine congrArg (· + _) (Finset.sum_congr rfl fun k _ => ?_)
    rw [E1r_eq]; ring
  have h2 : ∑ c : Fin 64, (if h : 16 + c.val < 16 then Er W s d ⟨16 + c.val, h⟩ else x s ⟨16 + c.val - 16, by omega⟩) * C.aw1 ⟨16 + c, by omega⟩ t
      = ∑ c : Fin 64, x s c * C.aw1 ⟨16 + c, by omega⟩ t := by
    refine Finset.sum_congr rfl fun c _ => ?_
    rw [dif_neg (show ¬ (16 + c.val < 16) by omega)]
    exact congrArg (fun i => x s i * _) (Fin.ext (show 16 + c.val - 16 = c.val by omega))
  refine (congrArg (· + C.ab1 t) (congrArg₂ (· + ·) h1 h2)).trans ?_
  unfold Wn; ring

/-- The reference's convolution: the edges from each source to every other node. -/
def convr (x : Fin 512 → Fin 64 → ℝ) (d : Fin 512) (c : Fin 64) : ℝ :=
  ∑ s : Fin 512, ∑ k : Fin 511, if s.succAbove k = d then alr W C x s d * Ms C x s c else 0

/-- The two convolutions agree. -/
theorem convr_eq (x : Fin 512 → Fin 64 → ℝ) (d : Fin 512) (c : Fin 64) : convr W C x d c = conv W C x d c := by
  unfold convr conv
  refine Finset.sum_congr rfl fun s _ => ?_
  rw [alr_eq]
  have h := Fin.sum_univ_succAbove (fun e => if e = d then al W C x s d * Ms C x s c else 0) s
  rw [Finset.sum_ite_eq' Finset.univ d, if_pos (Finset.mem_univ _)] at h
  by_cases hs : s = d
  · subst hs
    rw [if_pos rfl, zero_mul]
    refine Finset.sum_eq_zero fun k _ => ?_
    rw [if_neg (Fin.succAbove_ne _ _)]
  · rw [if_neg hs, zero_add] at h
    rw [if_neg hs]; exact h.symm

/-- The second convolution summed over its targets. -/
theorem sum_conv (x : Fin 512 → Fin 64 → ℝ) (c : Fin 64) : ∑ d, conv W C x d c = ∑ s, tot W C x s * Ms C x s c := by
  unfold conv
  rw [Finset.sum_comm]
  refine Finset.sum_congr rfl fun s _ => ?_
  rw [← Finset.sum_mul]
  refine congrArg (· * _) ?_
  have h : ∀ d, (if s = d then 0 else al W C x s d) = al W C x s d - if s = d then al W C x s d else 0 := fun d => by
    split_ifs <;> ring
  simp only [h, Finset.sum_sub_distrib]
  rw [Finset.sum_ite_eq Finset.univ s, if_pos (Finset.mem_univ _)]
  unfold al tot
  rw [Finset.sum_add_distrib, Finset.sum_const, Finset.card_univ, Fintype.card_fin]
  simp only [nsmul_eq_mul]
  push_cast
  ring

/-- The reference's result. -/
theorem resr_eq (D : Cv) (c : Fin 64) : ∑ d, convr W D (fun i b => max (convr W C (X W) i b) 0) d c = res W C D c := by
  have h : (fun i b => max (convr W C (X W) i b) 0) = X1 W C := by
    funext i b; rw [convr_eq]; rfl
  rw [h]
  simp only [convr_eq]
  rw [sum_conv]; rfl

end Cert.Proof.Math

end

end
-- ==== Proof.KerVal.lean ====
module

public import proofs.«01_k».proof.Proof.Spec
public import proofs.«01_k».proof.Proof.Real
public import Idealize.ShloMosaic.Lib.Pointwise

@[expose] public section

set_option maxRecDepth 65536

noncomputable section

namespace Cert.Proof.KernelIdeal

open Cert.KernelIdeal Cert.KernelIdeal.Gen
open Idealize.ShloMosaic Idealize.ShloMosaic.TcCoe Idealize.ShloMosaic.Tactic
open Cert.Proof.Math

variable (W : Wt) (C D : Cv)

/-- An array of reals read off an extended-real array of two axes. -/
def R2 {a b : ℕ} (x : (⟨2, ![a, b]⟩ : Shape).Idx → EReal) (r : Fin a → Fin b → ℝ) : Prop := ∀ i j, x (ix2 i j) = ((r i j : ℝ) : EReal)

/-- One step of the recurrence. -/
theorem pay31_val (x0 : FVec Ideal S1x128 .f32) (x1 : FVec Ideal S128x192 .f32) (x2 x3 : FVec Ideal S64x192 .bf16) (x4 x5 : FVec Ideal S1x192 .f32)
    (h : FVec Ideal S1x64 .f32) (v : Fin 64 → ℝ)
    (h0 : R2 x0 (fun _ k => W.z k)) (h1 : R2 x1 (fun k g => W.wih g k)) (h2 : R2 x2 (fun k g => W.whh g k)) (h3 : R2 x3 (fun _ _ => 0))
    (h4 : R2 x4 (fun _ g => W.bih g)) (h5 : R2 x5 (fun _ g => W.bhh g)) (hh : R2 h (fun _ c => v c)) :
    R2 (k0_pay31 x0 x1 x4 h x2 x3 x2 x5) (fun _ c => step W v c) := by
  intro u c
  obtain rfl : u = 0 := Subsingleton.elim _ _
  pointwise [k0_pay31]
  simp only [h0 _ _, h1 _ _, h2 _ _, h3 _ _, h4 _ _, h5 _ _, hh _ _, csub_self, EReal.coe_zero, mul_zero, zero_mul, Finset.sum_const_zero, add_zero, zero_add,
    ← EReal.coe_mul, csum, ← EReal.coe_add, Ideal.logistic_coe, Ideal.tanh_coe, cone_sub]
  rfl

/-- The state. -/
theorem hid_val (x0 : FVec Ideal S1x128 .f32) (x1 : FVec Ideal S128x192 .f32) (x2 x3 : FVec Ideal S64x192 .bf16) (x4 x5 : FVec Ideal S1x192 .f32)
    (h0 : R2 x0 (fun _ k => W.z k)) (h1 : R2 x1 (fun k g => W.wih g k)) (h2 : R2 x2 (fun k g => W.whh g k)) (h3 : R2 x3 (fun _ _ => 0))
    (h4 : R2 x4 (fun _ g => W.bih g)) (h5 : R2 x5 (fun _ g => W.bhh g)) : ∀ k, R2 (hid x0 x1 x2 x3 x4 x5 k) (fun _ c => hv W k c)
  | 0 => by intro u c; show k0_pay30 (F := Ideal) (ix2 u c) = _; pointwise [k0_pay30]; rfl
  | k + 1 => pay31_val W x0 x1 x2 x3 x4 x5 _ _ h0 h1 h2 h3 h4 h5 (hid_val x0 x1 x2 x3 x4 x5 h0 h1 h2 h3 h4 h5 k)

/-- The nodes. -/
theorem nodes_val (x0 : FVec Ideal S1x128 .f32) (x1 : FVec Ideal S128x192 .f32) (x2 x3 : FVec Ideal S64x192 .bf16) (x4 x5 : FVec Ideal S1x192 .f32)
    (h0 : R2 x0 (fun _ k => W.z k)) (h1 : R2 x1 (fun k g => W.wih g k)) (h2 : R2 x2 (fun k g => W.whh g k)) (h3 : R2 x3 (fun _ _ => 0))
    (h4 : R2 x4 (fun _ g => W.bih g)) (h5 : R2 x5 (fun _ g => W.bhh g)) : R2 (nodes x0 x1 x2 x3 x4 x5) (X W) :=
  fun i c => hid_val W x0 x1 x2 x3 x4 x5 h0 h1 h2 h3 h4 h5 (i.val + 1) 0 c

/-- The source half of the edge layer. -/
theorem tP_val (n : FVec Ideal S512x64 .f32) (x6 : FVec Ideal S64x256 .f32) (hn : R2 n (X W)) (h6 : R2 x6 (fun c k => W.ew1 ⟨c, by omega⟩ k)) :
    R2 (k0_pay33 (F := Ideal) n x6) (P W) := by
  intro i k
  pointwise [k0_pay33]
  simp only [hn _ _, h6 _ _, ← EReal.coe_mul, csum]
  rfl

/-- The target half of the edge layer. -/
theorem tQ_val (n : FVec Ideal S512x64 .f32) (x7 : FVec Ideal S64x256 .f32) (x8 : FVec Ideal S1x256 .f32) (hn : R2 n (X W))
    (h7 : R2 x7 (fun c k => W.ew1 ⟨64 + c, by omega⟩ k)) (h8 : R2 x8 (fun _ k => W.eb1 k)) : R2 (k0_pay34 (F := Ideal) n x7 x8) (Q W) := by
  intro i k
  pointwise [k0_pay34]
  simp only [hn _ _, h7 _ _, h8 _ _, ← EReal.coe_mul, csum, ← EReal.coe_add]
  rfl

/-- The attention's node term, first layer. -/
theorem tW0_val (n : FVec Ideal S512x64 .f32) (x : Fin 512 → Fin 64 → ℝ) (x11 : FVec Ideal S64x8 .f32) (x12 : FVec Ideal S1x8 .f32) (hn : R2 n x)
    (h11 : R2 x11 (fun c t => C.aw1 ⟨16 + c, by omega⟩ t)) (h12 : R2 x12 (fun _ t => C.ab1 t + ∑ e : Fin 16, W.eb2 e * C.aw1 ⟨e, by omega⟩ t)) :
    R2 (k0_pay35 (F := Ideal) n x11 x12) (Wn W C x) := by
  intro i k
  pointwise [k0_pay35]
  simp only [hn _ _, h11 _ _, h12 _ _, ← EReal.coe_mul, csum, ← EReal.coe_add]
  rfl

/-- The messages, first layer. -/
theorem tM0_val (n : FVec Ideal S512x64 .f32) (x : Fin 512 → Fin 64 → ℝ) (x19 : FVec Ideal S64x64 .f32) (x20 : FVec Ideal S1x64 .f32) (hn : R2 n x)
    (h19 : R2 x19 C.cw) (h20 : R2 x20 (fun _ c => C.cb c)) : R2 (k0_pay36 (F := Ideal) n x19 x20) (Ms C x) := by
  intro i k
  pointwise [k0_pay36]
  simp only [hn _ _, h19 _ _, h20 _ _, ← EReal.coe_mul, csum, ← EReal.coe_add]
  rfl

/-- The second layer's input. -/
theorem pay40_val (n : FVec Ideal S512x64 .f32) (x : Fin 512 → Fin 64 → ℝ) (hn : R2 n x) : R2 (k0_pay40 (F := Ideal) n) (fun i c => max (x i c) 0) := by
  intro i k
  pointwise [k0_pay40]
  simp only [hn _ _, cmax0]

/-- The attention's node term, second layer. -/
theorem tW1_val (n : FVec Ideal S512x64 .f32) (x : Fin 512 → Fin 64 → ℝ) (x13 : FVec Ideal S64x8 .f32) (x14 : FVec Ideal S1x8 .f32) (hn : R2 n x)
    (h13 : R2 x13 (fun c t => C.aw1 ⟨16 + c, by omega⟩ t)) (h14 : R2 x14 (fun _ t => C.ab1 t + ∑ e : Fin 16, W.eb2 e * C.aw1 ⟨e, by omega⟩ t)) :
    R2 (k0_pay2 (F := Ideal) n x13 x14) (Wn W C x) := by
  intro i k
  pointwise [k0_pay2]
  simp only [hn _ _, h13 _ _, h14 _ _, ← EReal.coe_mul, csum, ← EReal.coe_add]
  rfl

/-- The messages, second layer. -/
theorem tM1_val (n : FVec Ideal S512x64 .f32) (x : Fin 512 → Fin 64 → ℝ) (x21 : FVec Ideal S64x64 .f32) (x22 : FVec Ideal S1x64 .f32) (hn : R2 n x)
    (h21 : R2 x21 C.cw) (h22 : R2 x22 (fun _ c => C.cb c)) : R2 (k0_pay1 (F := Ideal) (k0_pay41 n x21 x22)) (Ms C (fun i c => max (x i c) 0)) := by
  intro i k
  have hm := pay40_val n x hn
  pointwise [k0_pay1, k0_pay41]
  simp only [hm _ _, h21 _ _, h22 _ _, ← EReal.coe_mul, csum, ← EReal.coe_add]
  rfl

/-- A block of rows. -/
theorem blk_val {b : ℕ} (x : (⟨2, ![512, b]⟩ : Shape).Idx → EReal) (r : Fin 512 → Fin b → ℝ) (h : R2 x r) (i : Fin 4) (s : Fin 128) (j : Fin b) :
    blk x i.val (ix2 s j) = ((r ⟨i.val * 128 + s.val, by omega⟩ j : ℝ) : EReal) := by
  refine (h _ _).trans (congrArg (fun k => ((r k j : ℝ) : EReal)) (Fin.ext ?_))
  show (128 * i.val + s.val) % 512 = i.val * 128 + s.val
  rw [Nat.mod_eq_of_lt (by omega), mul_comm]

/-- Both layers' edge terms of one pair of blocks. -/
theorem pairU_val (p q : FVec Ideal S128x256 .f32) (x9 x10 : FVec Ideal S256x16 .bf16) (rp rq : Fin 128 → Fin 256 → ℝ) (m : Fin 256 → Fin 16 → ℝ)
    (hp : R2 p rp) (hq : R2 q rq) (h9 : R2 x9 m) (h10 : R2 x10 (fun _ _ => 0)) :
    R2 (pairU p q x9 x10) (fun r t => ∑ k, max (rp ⟨r.val / 128, by omega⟩ k + rq ⟨r.val % 128, by omega⟩ k) 0 * m k t) := by
  intro r t
  pointwise [pairU, k0_pay6]
  simp only [hp _ _, hq _ _, h9 _ _, h10 _ _, ← EReal.coe_add, cmax0, csub_self, EReal.coe_zero, mul_zero, zero_mul, Finset.sum_const_zero, add_zero, zero_add, ← EReal.coe_mul, csum]

/-- Row `s` of block `i`. -/
abbrev row (i : Fin 4) (s : Fin 128) : Fin 512 := ⟨i.val * 128 + s.val, by omega⟩

/-- A counter plus an offset, as a number. -/
theorem word_val (i s : ℕ) (hi : i < 4) (hs : s < 128) :
    (IntOp.addi (Scalar.muli (Scf.iv 0#32 1#32 i) 128#32) (BitVec.ofNat 32 s)).toNat = i * 128 + s := by
  interval_cases i <;> simp only [IntOp.addi, Scalar.muli, IntOp.muli, Scf.iv] <;> simp [BitVec.toNat_add] <;> omega

/-- The diagonal test of the first convolution. -/
theorem sel_diag {α : Type} (i s j d : ℕ) (hi : i < 4) (hs : s < 128) (hj : j < 4) (hd : d < 128) (a b : α) :
    Scalar.select (IntOp.cmpi .eq (IntOp.addi (Scalar.muli (Scf.iv 0#32 1#32 i) 128#32) (BitVec.ofNat 32 s))
      (IntOp.addi (Scalar.muli (Scf.iv 0#32 1#32 j) 128#32) (BitVec.ofNat 32 d))) a b = if i * 128 + s = j * 128 + d then a else b := by
  have h : (IntOp.addi (Scalar.muli (Scf.iv 0#32 1#32 i) 128#32) (BitVec.ofNat 32 s)
      = IntOp.addi (Scalar.muli (Scf.iv 0#32 1#32 j) 128#32) (BitVec.ofNat 32 d)) ↔ i * 128 + s = j * 128 + d := by
    rw [← BitVec.toNat_inj, word_val i s hi hs, word_val j d hj hd]
  by_cases e : i * 128 + s = j * 128 + d
  · rw [if_pos e, h.mpr e]; simp [Scalar.select, IntOp.cmpi]
  · rw [if_neg e]
    have := mt h.mp e
    simp only [Scalar.select, IntOp.cmpi, beq_false_of_ne this]; rfl

/-- What one pair of blocks adds to the first convolution. -/
theorem pairAcc_val (p q : FVec Ideal S128x256 .f32) (x9 x10 : FVec Ideal S256x16 .bf16) (w : FVec Ideal S128x8 .f32) (mm : FVec Ideal S128x64 .f32)
    (x15 : FVec Ideal S1x8 .f32) (x16 : FVec Ideal S1x1 .f32) (i j : Fin 4) (x : Fin 512 → Fin 64 → ℝ) (m : Fin 256 → Fin 16 → ℝ)
    (hm : ∀ k (t : Fin 8), m k ⟨t, by omega⟩ = M W C k t)
    (hp : R2 p (fun s k => P W (row i s) k)) (hq : R2 q (fun d k => Q W (row j d) k)) (h9 : R2 x9 m) (h10 : R2 x10 (fun _ _ => 0))
    (hw : R2 w (fun s t => Wn W C x (row i s) t)) (hmm : R2 mm (fun s c => Ms C x (row i s) c))
    (h15 : R2 x15 (fun _ t => C.aw2 t)) (h16 : R2 x16 (fun _ _ => C.ab2)) :
    R2 (pairAcc p q x9 x10 w mm x15 x16 (tI i.val) j.val)
      (fun d c => ∑ s : Fin 128, (if row i s = row j d then 0 else al W C x (row i s) (row j d)) * Ms C x (row i s) c) := by
  have hu := pairU_val p q x9 x10 _ _ m hp hq h9 h10
  intro d c
  have ht : ((tI i.val : Fin k0_t2_loop.trips) : ℕ) = i.val := Nat.mod_eq_of_lt i.isLt
  pointwise [pairAcc, k0_pay24, k0_pay37, k0_pay38]
  refine (Finset.sum_congr rfl fun s _ => ?_).trans (csum _)
  rw [ht, sel_diag i.val s.val j.val d.val i.isLt s.isLt j.isLt d.isLt, hmm s c, EReal.coe_mul]
  have e : (i.val * 128 + s.val = j.val * 128 + d.val) ↔ row i s = row j d :=
    ⟨fun h => Fin.ext h, fun h => congrArg Fin.val h⟩
  by_cases hd : row i s = row j d
  · rw [if_pos (e.mpr hd), if_pos hd, EReal.coe_zero, zero_mul]
  · rw [if_neg (mt e.mp hd), if_neg hd]
    refine congrArg (fun y : EReal => y * ((Ms C x (row i s) c : ℝ) : EReal)) ?_
    simp only [hu _ _, hw _ _, h15 _ _, h16 _ _, ← EReal.coe_add, cmax0, ← EReal.coe_mul, csum]
    refine congrArg _ (congrArg (· + _) (Finset.sum_congr rfl fun t _ => ?_))
    unfold term U E1
    refine congrArg (fun y => max (y + _) 0 * _) (Finset.sum_congr rfl fun k _ => ?_)
    rw [hm]
    have e1 : (⟨(s.val * 128 + d.val) / 128, by omega⟩ : Fin 128) = s := Fin.ext (by show (s.val * 128 + d.val) / 128 = s.val; omega)
    have e2 : (⟨(s.val * 128 + d.val) % 128, by omega⟩ : Fin 128) = d := Fin.ext (by show (s.val * 128 + d.val) % 128 = d.val; omega)
    rw [e1, e2]

/-- The first convolution, one block of targets. -/
theorem sumB_val (p q : FVec Ideal S512x256 .f32) (x9 x10 : FVec Ideal S256x16 .bf16) (w : FVec Ideal S512x8 .f32) (mm : FVec Ideal S512x64 .f32)
    (x15 : FVec Ideal S1x8 .f32) (x16 : FVec Ideal S1x1 .f32) (j : Fin 4) (x : Fin 512 → Fin 64 → ℝ) (m : Fin 256 → Fin 16 → ℝ)
    (hm : ∀ k (t : Fin 8), m k ⟨t, by omega⟩ = M W C k t)
    (hp : R2 p (P W)) (hq : R2 q (Q W)) (h9 : R2 x9 m) (h10 : R2 x10 (fun _ _ => 0))
    (hw : R2 w (Wn W C x)) (hmm : R2 mm (Ms C x))
    (h15 : R2 x15 (fun _ t => C.aw2 t)) (h16 : R2 x16 (fun _ _ => C.ab2)) :
    R2 (sumB p q w mm x9 x10 x15 x16 j.val 3) (fun d c => conv W C x (row j d) c) := by
  have hA : ∀ i : Fin 4, R2 (pairAcc (blk p i.val) (blk q j.val) x9 x10 (blk w i.val) (blk mm i.val) x15 x16 (tI i.val) j.val)
      (fun d c => ∑ s : Fin 128, (if row i s = row j d then 0 else al W C x (row i s) (row j d)) * Ms C x (row i s) c) := fun i =>
    pairAcc_val W C _ _ x9 x10 _ _ x15 x16 i j x m hm (fun s k => blk_val p _ hp i s k) (fun s k => blk_val q _ hq j s k) h9 h10
      (fun s k => blk_val w _ hw i s k) (fun s k => blk_val mm _ hmm i s k) h15 h16
  have hS : ∀ (a b : FVec Ideal S128x64 .f32) (d : Fin 128) (c : Fin 64), k0_pay39 a b (ix2 d c) = b (ix2 d c) + a (ix2 d c) := fun a b d c => by
    pointwise [k0_pay39]
  intro d c
  have h0 := hA 0 d c; have h1 := hA 1 d c; have h2 := hA 2 d c; have h3 := hA 3 d c
  simp only [sumB]
  rw [hS, hS, hS]
  refine (congrArg₂ (· + ·) (congrArg₂ (· + ·) (congrArg₂ (· + ·) h0 h1) h2) h3).trans ?_
  simp only [← EReal.coe_add]
  refine congrArg _ ?_
  unfold conv
  rw [Fin.sum_univ_tiles 4 128 rfl, Fin.sum_univ_four]

/-- The first convolution. -/
theorem outT_val (p q : FVec Ideal S512x256 .f32) (x9 x10 : FVec Ideal S256x16 .bf16) (w : FVec Ideal S512x8 .f32) (mm : FVec Ideal S512x64 .f32)
    (x15 : FVec Ideal S1x8 .f32) (x16 : FVec Ideal S1x1 .f32) (x : Fin 512 → Fin 64 → ℝ) (m : Fin 256 → Fin 16 → ℝ)
    (hm : ∀ k (t : Fin 8), m k ⟨t, by omega⟩ = M W C k t)
    (hp : R2 p (P W)) (hq : R2 q (Q W)) (h9 : R2 x9 m) (h10 : R2 x10 (fun _ _ => 0))
    (hw : R2 w (Wn W C x)) (hmm : R2 mm (Ms C x))
    (h15 : R2 x15 (fun _ t => C.aw2 t)) (h16 : R2 x16 (fun _ _ => C.ab2)) :
    R2 (outT p q w mm x9 x10 x15 x16 3) (conv W C x) := by
  intro i c
  refine (sumB_val W C p q x9 x10 w mm x15 x16 ⟨i.val / 128, by omega⟩ x m hm hp hq h9 h10 hw hmm h15 h16 ⟨i.val % 128, Nat.mod_lt _ (by omega)⟩ c).trans ?_
  refine congrArg (fun k => ((conv W C x k c : ℝ) : EReal)) (Fin.ext ?_)
  show i.val / 128 * 128 + i.val % 128 = i.val
  omega

/-- The lane's block number, as the kernel computes it. -/
theorem lane_div (s d : Fin 128) (l : Fin 32) :
    Scalar.select (k0_pay29 (ix3 s d l)) (IntOp.subi (k0_pay28 (ix3 s d l)) 1#32) (k0_pay28 (ix3 s d l)) = BitVec.ofNat 32 (l.val / 8) := by
  pointwise [k0_pay28, k0_pay29]
  revert l
  decide +kernel

/-- The diagonal test of the second convolution. -/
theorem sel_diag' {α : Type} (q d k s : ℕ) (hq : q < 4) (hd : d < 128) (hk : k < 4) (hs : s < 128) (a b : α) :
    Scalar.select (IntOp.cmpi .eq (IntOp.addi (IntOp.muli (BitVec.ofNat 32 q) 128#32) (BitVec.ofNat 32 d))
      (IntOp.addi (Scalar.muli (Scf.iv 0#32 1#32 k) 128#32) (BitVec.ofNat 32 s))) a b = if q * 128 + d = k * 128 + s then a else b := by
  have h := sel_diag q d k s hq hd hk hs a b
  rwa [show Scf.iv 0#32 1#32 q = BitVec.ofNat 32 q by interval_cases q <;> rfl] at h

/-- The weights repeated along the lanes. -/
theorem pay3_val (x17 : FVec Ideal S1x8 .f32) (l : Fin 32) : k0_pay3 x17 (ix2 0 l) = x17 (ix2 0 ⟨l.val % 8, by omega⟩) := by
  pointwise [k0_pay3]
  split_ifs <;> exact congrArg (fun t => x17 (ix2 0 t)) (Fin.ext (by simp only []; omega))

/-- One summand of the second convolution's attention, at a lane. -/
theorem pay26_val (v : FVec Ideal S1x32 .f32) (w : FVec Ideal S128x8 .f32) (u : FVec Ideal S16384x32 .f32) (s d : Fin 128) (l : Fin 32) :
    k0_pay26 v w u (ix3 s d l) = max (u (ix2 ⟨s.val * 128 + d.val, by omega⟩ l) + w (ix2 s ⟨l.val % 8, by omega⟩)) 0 * v (ix2 0 l) := by
  pointwise [k0_pay26]
  refine congrArg (fun y => max (_ + y) 0 * _) ?_
  split_ifs <;> exact congrArg (fun t => w (ix2 s t)) (Fin.ext (by simp only []; omega))

/-- The constant of the second convolution's sum. -/
theorem c511 : Ideal.ofBits .f32 0x43FF8000#32 = ((511 : ℝ) : EReal) := by
  simp [Ideal.ofBits, Ideal.ieee, -EReal.coe_mul]; norm_num

/-- A sum over a target's offset and the lanes is a sum over the targets and the eight channels. -/
theorem sum_lanes (f : Fin 512 → Fin 8 → ℝ) :
    ∑ d : Fin 128, ∑ l : Fin 32, f (row ⟨l.val / 8, by omega⟩ d) ⟨l.val % 8, by omega⟩ = ∑ e, ∑ t, f e t := by
  rw [Fin.sum_univ_tiles 4 128 rfl, Finset.sum_comm (s := Finset.univ (α := Fin 4))]
  refine Finset.sum_congr rfl fun d _ => ?_
  rw [Fin.sum_univ_tiles 4 8 rfl]
  refine Finset.sum_congr rfl fun q _ => Finset.sum_congr rfl fun t _ => ?_
  refine congrArg₂ f (Fin.ext ?_) (Fin.ext ?_)
  · show (q.val * 8 + t.val) / 8 * 128 + d.val = q.val * 128 + d.val; omega
  · show (q.val * 8 + t.val) % 8 = t.val; omega

/-- One trip of the last loop. -/
theorem lastStep_val (w : FVec Ideal S128x8 .f32) (u : FVec Ideal S16384x32 .f32) (mm : FVec Ideal S128x64 .f32) (x17 : FVec Ideal S1x8 .f32) (x18 : FVec Ideal S1x1 .f32)
    (k : Fin 4) (acc : FVec Ideal S1x64 .f32) (a : Fin 64 → ℝ) (x : Fin 512 → Fin 64 → ℝ)
    (hu : ∀ (s d : Fin 128) (l : Fin 32), u (ix2 ⟨s.val * 128 + d.val, by omega⟩ l) = ((U W C (row k s) (row ⟨l.val / 8, by omega⟩ d) ⟨l.val % 8, by omega⟩ : ℝ) : EReal))
    (hw : R2 w (fun s t => Wn W C x (row k s) t)) (hmm : R2 mm (fun s c => Ms C x (row k s) c))
    (h17 : R2 x17 (fun _ t => C.aw2 t)) (h18 : R2 x18 (fun _ _ => C.ab2)) (ha : R2 acc (fun _ c => a c)) :
    R2 (lastStep w u mm x17 x18 k.val acc) (fun _ c => a c + ∑ s : Fin 128, tot W C x (row k s) * Ms C x (row k s) c) := by
  have hT : ∀ (s d : Fin 128) (l : Fin 32), k0_pay26 (k0_pay3 x17) w u (ix3 s d l)
      = ((term W C x (row k s) (row ⟨l.val / 8, by omega⟩ d) ⟨l.val % 8, by omega⟩ : ℝ) : EReal) := fun s d l => by
    rw [pay26_val, pay3_val, hu, hw, h17, ← EReal.coe_add, cmax0, ← EReal.coe_mul]; rfl
  intro z c
  obtain rfl : z = 0 := Subsingleton.elim _ _
  pointwise [lastStep, k0_pay5, k0_pay27]
  rw [ha, EReal.coe_add]
  refine congrArg _ ((Finset.sum_congr rfl fun s _ => ?_).trans (csum _))
  rw [hmm s c, EReal.coe_mul]
  refine congrArg (fun y : EReal => y * _) ?_
  have h1 : ∀ (d : Fin 128) (l : Fin 32), Scalar.select (IntOp.cmpi CmpIPredicate.eq
        (IntOp.addi (IntOp.muli (Scalar.select (k0_pay29 (ix3 s d l)) (IntOp.subi (k0_pay28 (ix3 s d l)) 1#32) (k0_pay28 (ix3 s d l))) 128#32) (BitVec.ofNat 32 d.val))
        (IntOp.addi (Scalar.muli (Scf.iv 0#32 1#32 k.val) 128#32) (BitVec.ofNat 32 s.val))) (k0_pay26 (k0_pay3 x17) w u (ix3 s d l)) (0 : EReal)
      = (((fun (e : Fin 512) (t : Fin 8) => if e = row k s then term W C x (row k s) e t else 0) (row ⟨l.val / 8, by omega⟩ d) ⟨l.val % 8, by omega⟩ : ℝ) : EReal) := fun d l => by
    rw [lane_div, sel_diag' _ _ _ _ (by omega) d.isLt k.isLt s.isLt, hT]
    have e : (l.val / 8 * 128 + d.val = k.val * 128 + s.val) ↔ row ⟨l.val / 8, by omega⟩ d = row k s :=
      ⟨fun h => Fin.ext h, fun h => congrArg Fin.val h⟩
    by_cases hd : row ⟨l.val / 8, by omega⟩ d = row k s
    · rw [if_pos (e.mpr hd)]; simp only [if_pos hd]
    · rw [if_neg (mt e.mp hd)]; simp only [if_neg hd]; rfl
  simp only [h1]
  simp only [hT, csum, h18 _ _, c511, ← EReal.coe_mul, ← EReal.coe_add, ← EReal.coe_sub]
  refine congrArg _ ?_
  rw [sum_lanes (fun e t => term W C x (row k s) e t), sum_lanes (fun (e : Fin 512) (t : Fin 8) => if e = row k s then term W C x (row k s) e t else 0)]
  unfold tot
  refine congrArg (fun y => _ - y + _) ?_
  rw [Finset.sum_comm]
  refine Finset.sum_congr rfl fun t _ => ?_
  rw [Finset.sum_ite_eq' Finset.univ (row k s), if_pos (Finset.mem_univ _)]

/-- What the second layer keeps of the pairs, by columns. -/
theorem keepU_val (p q : FVec Ideal S512x256 .f32) (x9 x10 : FVec Ideal S256x16 .bf16) (k : Fin 4) (m : Fin 256 → Fin 16 → ℝ)
    (hm : ∀ k (t : Fin 8), m k ⟨8 + t, by omega⟩ = M W C k t)
    (hp : R2 p (P W)) (hq : R2 q (Q W)) (h9 : R2 x9 m) (h10 : R2 x10 (fun _ _ => 0)) (s d : Fin 128) (l : Fin 32) :
    cols32 (keepU p q x9 x10) k.val (ix2 ⟨s.val * 128 + d.val, by omega⟩ l)
      = ((U W C (row k s) (row ⟨l.val / 8, by omega⟩ d) ⟨l.val % 8, by omega⟩ : ℝ) : EReal) := by
  have e1 : (32 * k.val + l.val) % 128 / 8 / 4 = k.val := by omega
  have e2 : (32 * k.val + l.val) % 128 / 8 % 4 = l.val / 8 := by omega
  have e3 : (32 * k.val + l.val) % 128 % 8 = l.val % 8 := by omega
  show pairU1 (blk p ((32 * k.val + l.val) % 128 / 8 / 4)) (blk q ((32 * k.val + l.val) % 128 / 8 % 4)) x9 x10
    (ix2 (⟨s.val * 128 + d.val, by omega⟩ : Fin 16384) (⟨(32 * k.val + l.val) % 128 % 8, Nat.mod_lt _ (by omega)⟩ : Fin 8)) = _
  simp only [e1, e2, e3]
  have hu := pairU_val (blk p k.val) (blk q (l.val / 8)) x9 x10 _ _ m (fun s k' => blk_val p _ hp k s k')
    (fun s k' => blk_val q _ hq ⟨l.val / 8, by omega⟩ s k') h9 h10 ⟨s.val * 128 + d.val, by omega⟩ ⟨8 + l.val % 8, by omega⟩
  refine Eq.trans ?_ (hu.trans ?_)
  · pointwise [pairU1, k0_pay7, pairU]
  · refine congrArg _ ?_
    unfold U E1
    refine Finset.sum_congr rfl fun k' _ => ?_
    rw [← hm]
    have e1 : (⟨(s.val * 128 + d.val) / 128, by omega⟩ : Fin 128) = s := Fin.ext (by show (s.val * 128 + d.val) / 128 = s.val; omega)
    have e2 : (⟨(s.val * 128 + d.val) % 128, by omega⟩ : Fin 128) = d := Fin.ext (by show (s.val * 128 + d.val) % 128 = d.val; omega)
    rw [e1, e2]

/-- The running total of the last loop after its four trips. -/
theorem lastT_val (w : FVec Ideal S512x8 .f32) (u : FVec Ideal S16384x128 .f32) (mm : FVec Ideal S512x64 .f32) (x17 : FVec Ideal S1x8 .f32) (x18 : FVec Ideal S1x1 .f32)
    (x : Fin 512 → Fin 64 → ℝ)
    (hu : ∀ (k : Fin 4) (s d : Fin 128) (l : Fin 32), cols32 u k.val (ix2 ⟨s.val * 128 + d.val, by omega⟩ l)
      = ((U W C (row k s) (row ⟨l.val / 8, by omega⟩ d) ⟨l.val % 8, by omega⟩ : ℝ) : EReal))
    (hw : R2 w (Wn W C x)) (hmm : R2 mm (Ms C x)) (h17 : R2 x17 (fun _ t => C.aw2 t)) (h18 : R2 x18 (fun _ _ => C.ab2)) :
    R2 (lastT w u mm x17 x18 4) (fun _ c => ∑ s, tot W C x s * Ms C x s c) := by
  have hS := fun (k : Fin 4) (acc : FVec Ideal S1x64 .f32) (a : Fin 64 → ℝ) (ha : R2 acc (fun _ c => a c)) =>
    lastStep_val W C (blk w k.val) (cols32 u k.val) (blk mm k.val) x17 x18 k acc a x (hu k) (fun s t => blk_val w _ hw k s t)
      (fun s t => blk_val mm _ hmm k s t) h17 h18 ha
  have h0 : R2 (lastT w u mm x17 x18 0) (fun _ _ => 0) := by
    intro z c; show k0_pay4 (F := Ideal) (ix2 z c) = _; pointwise [k0_pay4]; rfl
  have h4 := hS 3 _ _ (hS 2 _ _ (hS 1 _ _ (hS 0 _ _ h0)))
  intro z c
  refine (h4 z c).trans (congrArg _ ?_)
  dsimp only
  rw [Fin.sum_univ_tiles 4 128 rfl, Fin.sum_univ_four, zero_add]

/-- Both layers' folded edge weights side by side. -/
def mm (k : Fin 256) (t : Fin 16) : ℝ := if h : t.val < 8 then M W C k ⟨t, h⟩ else M W D k ⟨t - 8, by omega⟩

/-- THE VALUE: the kernel's result on blocks of reals. -/
theorem result_val (x0 : FVec Ideal S1x128 .f32) (x1 : FVec Ideal S128x192 .f32) (x2 : FVec Ideal S64x192 .bf16) (x3 : FVec Ideal S64x192 .bf16) (x4 : FVec Ideal S1x192 .f32) (x5 : FVec Ideal S1x192 .f32) (x6 : FVec Ideal S64x256 .f32) (x7 : FVec Ideal S64x256 .f32) (x8 : FVec Ideal S1x256 .f32) (x9 : FVec Ideal S256x16 .bf16) (x10 : FVec Ideal S256x16 .bf16) (x11 : FVec Ideal S64x8 .f32) (x12 : FVec Ideal S1x8 .f32) (x13 : FVec Ideal S64x8 .f32) (x14 : FVec Ideal S1x8 .f32) (x15 : FVec Ideal S1x8 .f32) (x16 : FVec Ideal S1x1 .f32) (x17 : FVec Ideal S1x8 .f32) (x18 : FVec Ideal S1x1 .f32) (x19 : FVec Ideal S64x64 .f32) (x20 : FVec Ideal S1x64 .f32) (x21 : FVec Ideal S64x64 .f32) (x22 : FVec Ideal S1x64 .f32)
    (h0 : R2 x0 (fun _ k => W.z k))
    (h1 : R2 x1 (fun k g => W.wih g k))
    (h2 : R2 x2 (fun k g => W.whh g k))
    (h3 : R2 x3 (fun _ _ => 0))
    (h4 : R2 x4 (fun _ g => W.bih g))
    (h5 : R2 x5 (fun _ g => W.bhh g))
    (h6 : R2 x6 (fun c k => W.ew1 ⟨c, by omega⟩ k))
    (h7 : R2 x7 (fun c k => W.ew1 ⟨64 + c, by omega⟩ k))
    (h8 : R2 x8 (fun _ k => W.eb1 k))
    (h9 : R2 x9 (mm W C D))
    (h10 : R2 x10 (fun _ _ => 0))
    (h11 : R2 x11 (fun c t => C.aw1 ⟨16 + c, by omega⟩ t))
    (h12 : R2 x12 (fun _ t => C.ab1 t + ∑ e : Fin 16, W.eb2 e * C.aw1 ⟨e, by omega⟩ t))
    (h13 : R2 x13 (fun c t => D.aw1 ⟨16 + c, by omega⟩ t))
    (h14 : R2 x14 (fun _ t => D.ab1 t + ∑ e : Fin 16, W.eb2 e * D.aw1 ⟨e, by omega⟩ t))
    (h15 : R2 x15 (fun _ t => C.aw2 t))
    (h16 : R2 x16 (fun _ _ => C.ab2))
    (h17 : R2 x17 (fun _ t => D.aw2 t))
    (h18 : R2 x18 (fun _ _ => D.ab2))
    (h19 : R2 x19 (C.cw))
    (h20 : R2 x20 (fun _ c => C.cb c))
    (h21 : R2 x21 (D.cw))
    (h22 : R2 x22 (fun _ c => D.cb c)) :
    R2 (result x0 x1 x2 x3 x4 x5 x6 x7 x8 x9 x10 x11 x12 x13 x14 x15 x16 x17 x18 x19 x20 x21 x22) (fun _ c => res W C D c) := by
  have hm0 : ∀ k (t : Fin 8), mm W C D k ⟨t, by omega⟩ = M W C k t := fun k t => by unfold mm; rw [dif_pos (show t.val < 8 from t.isLt)]
  have hm1 : ∀ k (t : Fin 8), mm W C D k ⟨8 + t, by omega⟩ = M W D k t := fun k t => by
    unfold mm; rw [dif_neg (show ¬ (8 + t.val < 8) by omega)]
    exact congrArg (M W D k) (Fin.ext (show 8 + t.val - 8 = t.val by omega))
  have hn : R2 (tNodes x0 x1 x2 x3 x4 x5) (X W) := nodes_val W x0 x1 x2 x3 x4 x5 h0 h1 h2 h3 h4 h5
  have hP : R2 (tP x0 x1 x2 x3 x4 x5 x6) (P W) := tP_val W _ x6 hn h6
  have hQ : R2 (tQ x0 x1 x2 x3 x4 x5 x7 x8) (Q W) := tQ_val W _ x7 x8 hn h7 h8
  have hW0 : R2 (tW0 x0 x1 x2 x3 x4 x5 x11 x12) (Wn W C (X W)) := tW0_val W C _ _ x11 x12 hn h11 h12
  have hM0 : R2 (tM0 x0 x1 x2 x3 x4 x5 x19 x20) (Ms C (X W)) := tM0_val C _ _ x19 x20 hn h19 h20
  have hO : R2 (tOut x0 x1 x2 x3 x4 x5 x6 x7 x8 x9 x10 x11 x12 x15 x16 x19 x20) (conv W C (X W)) :=
    outT_val W C _ _ x9 x10 _ _ x15 x16 _ _ hm0 hP hQ h9 h10 hW0 hM0 h15 h16
  refine lastT_val W D _ _ _ x17 x18 (X1 W C) (fun k s d l => keepU_val W D _ _ x9 x10 k _ hm1 hP hQ h9 h10 s d l) ?_ ?_ h17 h18
  · exact tW1_val W D _ _ x13 x14 (pay40_val _ _ hO) h13 h14
  · exact tM1_val D _ _ x21 x22 hO h21 h22

end Cert.Proof.KernelIdeal
end
end
-- ==== Proof.Args.lean ====
module

public import proofs.«01_k».proof.Proof.Real

@[expose] public section

noncomputable section

namespace Cert.Proof.Math

open Idealize.ShloMosaic

/-- The arguments hold the given real weights, element by element. -/
structure IsArgs (W : Wt) (C D : Cv) (a0 : FVec Ideal ⟨2, ![1,128]⟩ .f32) (a1 : FVec Ideal ⟨2, ![192,128]⟩ .f32) (a2 : FVec Ideal ⟨2, ![192,64]⟩ .f32) (a3 : FVec Ideal ⟨1, ![192]⟩ .f32) (a4 : FVec Ideal ⟨1, ![192]⟩ .f32) (a5 : FVec Ideal ⟨2, ![128,256]⟩ .f32) (a6 : FVec Ideal ⟨1, ![256]⟩ .f32) (a7 : FVec Ideal ⟨2, ![256,16]⟩ .f32) (a8 : FVec Ideal ⟨1, ![16]⟩ .f32) (a9 : FVec Ideal ⟨2, ![80,8]⟩ .f32) (a10 : FVec Ideal ⟨1, ![8]⟩ .f32) (a11 : FVec Ideal ⟨2, ![8,1]⟩ .f32) (a12 : FVec Ideal ⟨1, ![1]⟩ .f32) (a13 : FVec Ideal ⟨2, ![80,8]⟩ .f32) (a14 : FVec Ideal ⟨1, ![8]⟩ .f32) (a15 : FVec Ideal ⟨2, ![8,1]⟩ .f32) (a16 : FVec Ideal ⟨1, ![1]⟩ .f32) (a17 : FVec Ideal ⟨2, ![64,64]⟩ .f32) (a18 : FVec Ideal ⟨1, ![64]⟩ .f32) (a19 : FVec Ideal ⟨2, ![64,64]⟩ .f32) (a20 : FVec Ideal ⟨1, ![64]⟩ .f32) : Prop where
  /-- argument 0 -/
  z : ∀ (k : Fin 128), a0 (ix2 (0:Fin 1) k) = ((W.z k : ℝ) : EReal)
  /-- argument 1 -/
  wih : ∀ (g : Fin 192) (k : Fin 128), a1 (ix2 g k) = ((W.wih g k : ℝ) : EReal)
  /-- argument 2 -/
  whh : ∀ (g : Fin 192) (k : Fin 64), a2 (ix2 g k) = ((W.whh g k : ℝ) : EReal)
  /-- argument 3 -/
  bih : ∀ (g : Fin 192), a3 (ix1 g) = ((W.bih g : ℝ) : EReal)
  /-- argument 4 -/
  bhh : ∀ (g : Fin 192), a4 (ix1 g) = ((W.bhh g : ℝ) : EReal)
  /-- argument 5 -/
  ew1 : ∀ (i : Fin 128) (k : Fin 256), a5 (ix2 i k) = ((W.ew1 i k : ℝ) : EReal)
  /-- argument 6 -/
  eb1 : ∀ (k : Fin 256), a6 (ix1 k) = ((W.eb1 k : ℝ) : EReal)
  /-- argument 7 -/
  ew2 : ∀ (k : Fin 256) (e : Fin 16), a7 (ix2 k e) = ((W.ew2 k e : ℝ) : EReal)
  /-- argument 8 -/
  eb2 : ∀ (e : Fin 16), a8 (ix1 e) = ((W.eb2 e : ℝ) : EReal)
  /-- argument 9 -/
  aw10 : ∀ (i : Fin 80) (t : Fin 8), a9 (ix2 i t) = ((C.aw1 i t : ℝ) : EReal)
  /-- argument 10 -/
  ab10 : ∀ (t : Fin 8), a10 (ix1 t) = ((C.ab1 t : ℝ) : EReal)
  /-- argument 11 -/
  aw20 : ∀ (t : Fin 8), a11 (ix2 t 0) = ((C.aw2 t : ℝ) : EReal)
  /-- argument 12 -/
  ab20 : a12 (ix1 0) = ((C.ab2 : ℝ) : EReal)
  /-- argument 13 -/
  aw11 : ∀ (i : Fin 80) (t : Fin 8), a13 (ix2 i t) = ((D.aw1 i t : ℝ) : EReal)
  /-- argument 14 -/
  ab11 : ∀ (t : Fin 8), a14 (ix1 t) = ((D.ab1 t : ℝ) : EReal)
  /-- argument 15 -/
  aw21 : ∀ (t : Fin 8), a15 (ix2 t 0) = ((D.aw2 t : ℝ) : EReal)
  /-- argument 16 -/
  ab21 : a16 (ix1 0) = ((D.ab2 : ℝ) : EReal)
  /-- argument 17 -/
  cw0 : ∀ (i c : Fin 64), a17 (ix2 i c) = ((C.cw i c : ℝ) : EReal)
  /-- argument 18 -/
  cb0 : ∀ (c : Fin 64), a18 (ix1 c) = ((C.cb c : ℝ) : EReal)
  /-- argument 19 -/
  cw1 : ∀ (i c : Fin 64), a19 (ix2 i c) = ((D.cw i c : ℝ) : EReal)
  /-- argument 20 -/
  cb1 : ∀ (c : Fin 64), a20 (ix1 c) = ((D.cb c : ℝ) : EReal)

end Cert.Proof.Math
end
end
-- ==== Proof.KerRun.lean ====
module

public import proofs.«01_k».proof.Proof.KerVal
public import proofs.«01_k».proof.Proof.Run
public import proofs.«01_k».proof.Proof.Args
public import Idealize.ShloMosaic.Lib.Pipeline.ValueKit
public import Idealize.ShloMosaic.Lib.StableHlo.ReadAt

@[expose] public section

set_option maxRecDepth 65536

noncomputable section

namespace Cert.Proof.KernelIdeal

open Cert.KernelIdeal Cert.KernelIdeal.Gen
open Idealize.ShloMosaic Idealize.ShloMosaic.TcCoe Idealize.ShloMosaic.Tactic Idealize.SL.Sem
open Cert.Proof.Math

variable (m : (ℓ : Loc nD τ sig) → Buf (Elt Ideal) ℓ) (ρ : Dev nD → PrngReg)

/-- The only grid point. -/
def t0 : Fin cfg0.N := ⟨0, by decide⟩

/-- The memory's arguments on a device hold the given real weights. -/
def Holds (W : Wt) (C D : Cv) (c : Dev nD) : Prop := IsArgs W C D (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) (m (c.tc.loc main_arg14)) (m (c.tc.loc main_arg15)) (m (c.tc.loc main_arg16)) (m (c.tc.loc main_arg17)) (m (c.tc.loc main_arg18)) (m (c.tc.loc main_arg19)) (m (c.tc.loc main_arg20))

/-- Block 0 is the whole of its array. -/
theorem blk0 (c : Dev nD) : iblk m c 0 t0 = V m c main_arg0 := by
  funext y
  unfold iblk
  blk_point []
  · rfl
  · show 0 * 128 + _ = _
    omega

/-- Block 1 is the whole of its array. -/
theorem blk1 (c : Dev nD) : iblk m c 1 t0 = V m c main_v20 := by
  funext y
  unfold iblk
  blk_point []
  · show 0 * 128 + _ = _
    omega
  · show 0 * 192 + _ = _
    omega

/-- Block 2 is the whole of its array. -/
theorem blk2 (c : Dev nD) : iblk m c 2 t0 = V m c main_v9 := by
  funext y
  unfold iblk
  blk_point []
  · show 0 * 64 + _ = _
    omega
  · show 0 * 192 + _ = _
    omega

/-- Block 3 is the whole of its array. -/
theorem blk3 (c : Dev nD) : iblk m c 3 t0 = V m c main_v12 := by
  funext y
  unfold iblk
  blk_point []
  · show 0 * 64 + _ = _
    omega
  · show 0 * 192 + _ = _
    omega

/-- Block 4 is the whole of its array. -/
theorem blk4 (c : Dev nD) : iblk m c 4 t0 = V m c main_v21 := by
  funext y
  unfold iblk
  blk_point []
  · rfl
  · show 0 * 192 + _ = _
    omega

/-- Block 5 is the whole of its array. -/
theorem blk5 (c : Dev nD) : iblk m c 5 t0 = V m c main_v22 := by
  funext y
  unfold iblk
  blk_point []
  · rfl
  · show 0 * 192 + _ = _
    omega

/-- Block 6 is the whole of its array. -/
theorem blk6 (c : Dev nD) : iblk m c 6 t0 = V m c main_v23 := by
  funext y
  unfold iblk
  blk_point []
  · show 0 * 64 + _ = _
    omega
  · show 0 * 256 + _ = _
    omega

/-- Block 7 is the whole of its array. -/
theorem blk7 (c : Dev nD) : iblk m c 7 t0 = V m c main_v24 := by
  funext y
  unfold iblk
  blk_point []
  · show 0 * 64 + _ = _
    omega
  · show 0 * 256 + _ = _
    omega

/-- Block 8 is the whole of its array. -/
theorem blk8 (c : Dev nD) : iblk m c 8 t0 = V m c main_v25 := by
  funext y
  unfold iblk
  blk_point []
  · rfl
  · show 0 * 256 + _ = _
    omega

/-- Block 9 is the whole of its array. -/
theorem blk9 (c : Dev nD) : iblk m c 9 t0 = V m c main_v4 := by
  funext y
  unfold iblk
  blk_point []
  · show 0 * 256 + _ = _
    omega
  · show 0 * 16 + _ = _
    omega

/-- Block 10 is the whole of its array. -/
theorem blk10 (c : Dev nD) : iblk m c 10 t0 = V m c main_v7 := by
  funext y
  unfold iblk
  blk_point []
  · show 0 * 256 + _ = _
    omega
  · show 0 * 16 + _ = _
    omega

/-- Block 11 is the whole of its array. -/
theorem blk11 (c : Dev nD) : iblk m c 11 t0 = V m c main_v26 := by
  funext y
  unfold iblk
  blk_point []
  · show 0 * 64 + _ = _
    omega
  · show 0 * 8 + _ = _
    omega

/-- Block 12 is the whole of its array. -/
theorem blk12 (c : Dev nD) : iblk m c 12 t0 = V m c main_v16 := by
  funext y
  unfold iblk
  blk_point []
  · rfl
  · show 0 * 8 + _ = _
    omega

/-- Block 13 is the whole of its array. -/
theorem blk13 (c : Dev nD) : iblk m c 13 t0 = V m c main_v27 := by
  funext y
  unfold iblk
  blk_point []
  · show 0 * 64 + _ = _
    omega
  · show 0 * 8 + _ = _
    omega

/-- Block 14 is the whole of its array. -/
theorem blk14 (c : Dev nD) : iblk m c 14 t0 = V m c main_v19 := by
  funext y
  unfold iblk
  blk_point []
  · rfl
  · show 0 * 8 + _ = _
    omega

/-- Block 15 is the whole of its array. -/
theorem blk15 (c : Dev nD) : iblk m c 15 t0 = V m c main_v28 := by
  funext y
  unfold iblk
  blk_point []
  · rfl
  · show 0 * 8 + _ = _
    omega

/-- Block 16 is the whole of its array. -/
theorem blk16 (c : Dev nD) : iblk m c 16 t0 = V m c main_v29 := by
  funext y
  unfold iblk
  blk_point []
  · rfl
  · rfl

/-- Block 17 is the whole of its array. -/
theorem blk17 (c : Dev nD) : iblk m c 17 t0 = V m c main_v30 := by
  funext y
  unfold iblk
  blk_point []
  · rfl
  · show 0 * 8 + _ = _
    omega

/-- Block 18 is the whole of its array. -/
theorem blk18 (c : Dev nD) : iblk m c 18 t0 = V m c main_v31 := by
  funext y
  unfold iblk
  blk_point []
  · rfl
  · rfl

/-- Block 19 is the whole of its array. -/
theorem blk19 (c : Dev nD) : iblk m c 19 t0 = V m c main_arg17 := by
  funext y
  unfold iblk
  blk_point []
  · show 0 * 64 + _ = _
    omega
  · show 0 * 64 + _ = _
    omega

/-- Block 20 is the whole of its array. -/
theorem blk20 (c : Dev nD) : iblk m c 20 t0 = V m c main_v32 := by
  funext y
  unfold iblk
  blk_point []
  · rfl
  · show 0 * 64 + _ = _
    omega

/-- Block 21 is the whole of its array. -/
theorem blk21 (c : Dev nD) : iblk m c 21 t0 = V m c main_arg19 := by
  funext y
  unfold iblk
  blk_point []
  · show 0 * 64 + _ = _
    omega
  · show 0 * 64 + _ = _
    omega

/-- Block 22 is the whole of its array. -/
theorem blk22 (c : Dev nD) : iblk m c 22 t0 = V m c main_v33 := by
  funext y
  unfold iblk
  blk_point []
  · rfl
  · show 0 * 64 + _ = _
    omega

variable (W : Wt) (C D : Cv) (c : Dev nD) (h : Holds m W C D c)

include h in
/-- The array of block 0. -/
theorem arr0 : R2 (a := 1) (b := 128) (V m c main_arg0) (fun _ k => W.z k) := by
  intro i j
  rw [V_main_arg0]
  obtain rfl : i = 0 := Subsingleton.elim _ _
  exact h.z j

include h in
/-- The array of block 1. -/
theorem arr1 : R2 (a := 128) (b := 192) (V m c main_v20) (fun k g => W.wih g k) := by
  intro i j
  unfold V
  after_reads_at
  exact h.wih _ _

include h in
/-- The array of block 4. -/
theorem arr4 : R2 (a := 1) (b := 192) (V m c main_v21) (fun _ g => W.bih g) := by
  intro i j
  unfold V
  after_reads_at
  exact h.bih _

include h in
/-- The array of block 5. -/
theorem arr5 : R2 (a := 1) (b := 192) (V m c main_v22) (fun _ g => W.bhh g) := by
  intro i j
  unfold V
  after_reads_at
  exact h.bhh _

include h in
/-- The array of block 6. -/
theorem arr6 : R2 (a := 64) (b := 256) (V m c main_v23) (fun c k => W.ew1 ⟨c, by omega⟩ k) := by
  intro i j
  unfold V
  after_reads_at
  exact h.ew1 _ _

include h in
/-- The array of block 7. -/
theorem arr7 : R2 (a := 64) (b := 256) (V m c main_v24) (fun c k => W.ew1 ⟨64 + c, by omega⟩ k) := by
  intro i j
  unfold V
  after_reads_at
  exact h.ew1 _ _

include h in
/-- The array of block 8. -/
theorem arr8 : R2 (a := 1) (b := 256) (V m c main_v25) (fun _ k => W.eb1 k) := by
  intro i j
  unfold V
  after_reads_at
  exact h.eb1 _

include h in
/-- The array of block 11. -/
theorem arr11 : R2 (a := 64) (b := 8) (V m c main_v26) (fun c t => C.aw1 ⟨16 + c, by omega⟩ t) := by
  intro i j
  unfold V
  after_reads_at
  exact h.aw10 _ _

include h in
/-- The array of block 13. -/
theorem arr13 : R2 (a := 64) (b := 8) (V m c main_v27) (fun c t => D.aw1 ⟨16 + c, by omega⟩ t) := by
  intro i j
  unfold V
  after_reads_at
  exact h.aw11 _ _

include h in
/-- The array of block 15. -/
theorem arr15 : R2 (a := 1) (b := 8) (V m c main_v28) (fun _ t => C.aw2 t) := by
  intro i j
  unfold V
  after_reads_at
  exact h.aw20 _

include h in
/-- The array of block 16. -/
theorem arr16 : R2 (a := 1) (b := 1) (V m c main_v29) (fun _ _ => C.ab2) := by
  intro i j
  unfold V
  after_reads_at
  exact h.ab20

include h in
/-- The array of block 17. -/
theorem arr17 : R2 (a := 1) (b := 8) (V m c main_v30) (fun _ t => D.aw2 t) := by
  intro i j
  unfold V
  after_reads_at
  exact h.aw21 _

include h in
/-- The array of block 18. -/
theorem arr18 : R2 (a := 1) (b := 1) (V m c main_v31) (fun _ _ => D.ab2) := by
  intro i j
  unfold V
  after_reads_at
  exact h.ab21

include h in
/-- The array of block 19. -/
theorem arr19 : R2 (a := 64) (b := 64) (V m c main_arg17) (C.cw) := by
  intro i j
  rw [V_main_arg17]
  exact h.cw0 i j

include h in
/-- The array of block 20. -/
theorem arr20 : R2 (a := 1) (b := 64) (V m c main_v32) (fun _ c => C.cb c) := by
  intro i j
  unfold V
  after_reads_at
  exact h.cb0 _

include h in
/-- The array of block 21. -/
theorem arr21 : R2 (a := 64) (b := 64) (V m c main_arg19) (D.cw) := by
  intro i j
  rw [V_main_arg19]
  exact h.cw1 i j

include h in
/-- The array of block 22. -/
theorem arr22 : R2 (a := 1) (b := 64) (V m c main_v33) (fun _ c => D.cb c) := by
  intro i j
  unfold V
  after_reads_at
  exact h.cb1 _

include h in
/-- The array of block 2. -/
theorem arr2 : R2 (a := 64) (b := 192) (V m c main_v9) (fun k g => W.whh g k) := by
  intro i j
  unfold V
  after_reads_at
  exact h.whh _ _

include h in
/-- The array of block 3: what is left of the weights is zero. -/
theorem arr3 : R2 (a := 64) (b := 192) (V m c main_v12) (fun _ _ => 0) := by
  intro i j
  unfold V
  after_reads_at
  exact (congrArg (fun y : EReal => y - y) (h.whh j i)).trans (csub_self _)

/-- The first eight columns of the joined attention weights. -/
theorem up0 (x : Fin 16) (t : Fin 8) : StableHlo.upto [hostOps0].flatten (fun b => m (c, b)) 2 (Proc.tc.devRef main_v0) (ix2 x t)
    = m (c.tc.loc main_arg9) (ix2 ⟨x, by omega⟩ t) := by
  after_reads_at

/-- The last eight. -/
theorem up1 (x : Fin 16) (t : Fin 8) : StableHlo.upto [hostOps0].flatten (fun b => m (c, b)) 2 (Proc.tc.devRef main_v1) (ix2 x t)
    = m (c.tc.loc main_arg13) (ix2 ⟨x, by omega⟩ t) := by
  after_reads_at

/-- A product of real matrices whose right factor is two blocks of columns. -/
theorem joined (A : (⟨2, ![256, 16]⟩ : Shape).Idx → EReal) (B0 B1 : (⟨2, ![16, 8]⟩ : Shape).Idx → EReal)
    (hA : R2 A W.ew2) (h0 : R2 B0 (fun e t => C.aw1 ⟨e, by omega⟩ t)) (h1 : R2 B1 (fun e t => D.aw1 ⟨e, by omega⟩ t)) (i : Fin 256) (j : Fin 16) :
    (∑ x : Fin 16, A (ix2 i x) * (if h : j.val < 8 then B0 (ix2 x ⟨j, h⟩) else B1 (ix2 x ⟨j.val - 8, by omega⟩))) = ((mm W C D i j : ℝ) : EReal) := by
  unfold mm
  split_ifs with hj
  · refine (Finset.sum_congr rfl fun x _ => ?_).trans (csum _)
    rw [hA i x, h0, ← EReal.coe_mul]
  · refine (Finset.sum_congr rfl fun x _ => ?_).trans (csum _)
    rw [hA i x, h1, ← EReal.coe_mul]

/-- A folded bias over the reals. -/
theorem folded (A : (⟨1, ![16]⟩ : Shape).Idx → EReal) (B : (⟨2, ![16, 8]⟩ : Shape).Idx → EReal) (x : EReal) (y : ℝ)
    (hx : x = y) (hA : ∀ e, A (ix1 e) = ((W.eb2 e : ℝ) : EReal)) (h0 : R2 B (fun e t => C.aw1 ⟨e, by omega⟩ t)) (j : Fin 8) :
    x + (∑ e : Fin 16, A (ix1 e) * B (ix2 e j)) = ((y + ∑ e : Fin 16, W.eb2 e * C.aw1 ⟨e, by omega⟩ j : ℝ) : EReal) := by
  rw [hx, EReal.coe_add]
  refine congrArg (fun w : EReal => (y : EReal) + w) ((Finset.sum_congr rfl fun e _ => ?_).trans (csum _))
  rw [hA e, h0, ← EReal.coe_mul]

/-- The flattened row. -/
theorem cast_flat (G : FVec Ideal S1x64 .f32) (j : Fin 64) : shapeCast S64 G shapeCasts_S1x64_S64 (ix1 j) = G (ix2 0 j) := by
  pointwise []

include h in
/-- The array of block 9. -/
theorem arr9 : R2 (a := 256) (b := 16) (V m c main_v4) (mm W C D) := by
  intro i j
  unfold V
  after_reads_at
  exact (joined W C D _ _ _ (fun i x => h.ew2 i x) (fun e t => (up0 m c e t).trans (h.aw10 _ t)) (fun e t => (up1 m c e t).trans (h.aw11 _ t)) i j)

include h in
/-- The array of block 10: what is left of the product is zero. -/
theorem arr10 : R2 (a := 256) (b := 16) (V m c main_v7) (fun _ _ => 0) := by
  intro i j
  unfold V
  after_reads_at
  exact (congrArg (fun y : EReal => y - y) (joined W C D _ _ _ (fun i x => h.ew2 i x) (fun e t => (up0 m c e t).trans (h.aw10 _ t)) (fun e t => (up1 m c e t).trans (h.aw11 _ t)) i j)).trans (csub_self _)

include h in
/-- The array of block 12. -/
theorem arr12 : R2 (a := 1) (b := 8) (V m c main_v16) (fun _ t => C.ab1 t + ∑ e : Fin 16, W.eb2 e * C.aw1 ⟨e, by omega⟩ t) := by
  intro i j
  unfold V
  after_reads_at
  exact folded W C _ _ _ _ (h.ab10 j) (fun e => h.eb2 e) (fun e t => (up0 m c e t).trans (h.aw10 _ t)) j

include h in
/-- The array of block 14. -/
theorem arr14 : R2 (a := 1) (b := 8) (V m c main_v19) (fun _ t => D.ab1 t + ∑ e : Fin 16, W.eb2 e * D.aw1 ⟨e, by omega⟩ t) := by
  intro i j
  unfold V
  after_reads_at
  exact folded W D _ _ _ _ (h.ab11 j) (fun e => h.eb2 e) (fun e t => (up1 m c e t).trans (h.aw11 _ t)) j

include h in
/-- The output array holds the result. -/
theorem out_arr : R2 (a := 1) (b := 64) ((dats m 0 c).arrAt 23 (cfgs 0).N) (fun _ c => res W C D c) := by
  have hr : R2 (a := 1) (b := 64) (outBlk m c 23 t0) (fun _ c => res W C D c) := by
    show R2 (a := 1) (b := 64) (result (F := Ideal) (iblk m c 0 t0) (iblk m c 1 t0) (iblk m c 2 t0) (iblk m c 3 t0) (iblk m c 4 t0) (iblk m c 5 t0) (iblk m c 6 t0) (iblk m c 7 t0) (iblk m c 8 t0) (iblk m c 9 t0) (iblk m c 10 t0) (iblk m c 11 t0) (iblk m c 12 t0) (iblk m c 13 t0) (iblk m c 14 t0) (iblk m c 15 t0) (iblk m c 16 t0) (iblk m c 17 t0) (iblk m c 18 t0) (iblk m c 19 t0) (iblk m c 20 t0) (iblk m c 21 t0) (iblk m c 22 t0)) _
    rw [blk0, blk1, blk2, blk3, blk4, blk5, blk6, blk7, blk8, blk9, blk10, blk11, blk12, blk13, blk14, blk15, blk16, blk17, blk18, blk19, blk20, blk21, blk22]
    exact result_val W C D _ _ _ _ _ _ _ _ _ _ _ _ _ _ _ _ _ _ _ _ _ _ _ (arr0 m W C D c h) (arr1 m W C D c h) (arr2 m W C D c h) (arr3 m W C D c h) (arr4 m W C D c h) (arr5 m W C D c h) (arr6 m W C D c h) (arr7 m W C D c h) (arr8 m W C D c h) (arr9 m W C D c h) (arr10 m W C D c h) (arr11 m W C D c h) (arr12 m W C D c h) (arr13 m W C D c h) (arr14 m W C D c h) (arr15 m W C D c h) (arr16 m W C D c h) (arr17 m W C D c h) (arr18 m W C D c h) (arr19 m W C D c h) (arr20 m W C D c h) (arr21 m W C D c h) (arr22 m W C D c h)
  have hw : (dats m 0 c).arrAt 23 (cfgs 0).N = fun j => outBlk m c 23 t0 j := by
    refine (dats m 0 c).arrAt_eq_of_after_last 23 ⟨0, by decide⟩ (by decide +kernel) _ fun j => ?_
    blk_simp
    rfl
  intro i j
  rw [hw]
  exact hr i j

include h in
/-- The flat result. -/
theorem out_flat (j : Fin 64) : (Pipeline.afterTail₀ cfgs (dats m) 0 (V0 m) [hostOps1] c main_v35 : FVec Ideal S64 .f32) (ix1 j) = ((res W C D j : ℝ) : EReal) := by
  unfold Pipeline.afterTail₀
  after_reads_simp
  refine Eq.trans ?_ (out_arr m W C D c h 0 j)
  refine Eq.trans ?_ (congrFun (Pipeline.withArrays_arr (spec0) (by decide +kernel) c (V0 m c) (fun w => (dats m 0 c).arrAt w (cfgs 0).N) 23) (ix2 0 j))
  exact cast_flat _ j

/-- THE KERNEL'S RUN, with its result on real weights. -/
theorem run_value : θ_run defs (onTc (τ := τ) (main (F := Ideal))) ⟨m, fun _ => 0, ρ⟩ (fun r =>
    (∀ c : Dev nD, ∀ W C D, Holds m W C D c → ∀ j : Fin 64, (r.2.mem (c.tc.loc main_v35) : FVec Ideal S64 .f32) (ix1 j) = ((res W C D j : ℝ) : EReal))) := by
  refine (θ_run defs _ _).mono ?_ (run_all m ρ)
  rintro r ⟨hr, -⟩ c W C D h j
  rw [(hr c).2 main_v35 (by decide)]
  exact out_flat m W C D c h j

end Cert.Proof.KernelIdeal
end
end
-- ==== Proof.RefRun.lean ====
module

public import proofs.«01_k».proof.Defs
public import proofs.«01_k».proof.Proof.Gen.ReferenceIdeal
public import Idealize.ShloMosaic.Lib.StableHlo.RunLoop
public import Idealize.ShloMosaic.Lib.StableHlo.RunRead
public import Idealize.ShloMosaic.Lib.Scf.Counter
public import Idealize.ShloMosaic.Lib.Scf.ExitTest
public import Idealize.ShloMosaic.Lib.HostLoop.Rules

@[expose] public section

set_option maxRecDepth 65536

noncomputable section

namespace Cert.Proof.Ref

open Cert.ReferenceIdeal Cert.ReferenceIdeal.Facts₀ Cert.ReferenceIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo (after held afterL atTrip)

variable {F : FTy → Type} [FloatOps F]

local instance : Cert.ReferenceIdeal.Facts := Cert.ReferenceIdeal.Gen.facts

/-- The operations before the loop. -/
abbrev preOps : List (HloOp τ sig (Elt F)) :=
  [ StableHlo.reshape main_arg0 main_v0 (rfl : (.f32 : EltTy) = .f32) shapeCasts_S1x128_S128,
    StableHlo.unary main_arg1 main_v1 ((transpose S128x192 [1, 0] · transposes_S192x128_S128x192_1_0) : (⟨S192x128, .f32⟩ : BufTy).Contents (Elt F) → (⟨S128x192, .f32⟩ : BufTy).Contents (Elt F)),
    StableHlo.binary main_v0 main_v1 main_v2 ((fun l r => Host.dotGeneral dot_S128_S128x192_S192_0_0_n_1_n_n none l r) : (⟨S128, .f32⟩ : BufTy).Contents (Elt F) → (⟨S128x192, .f32⟩ : BufTy).Contents (Elt F) → (⟨S192, .f32⟩ : BufTy).Contents (Elt F)),
    StableHlo.binary main_v2 main_arg3 main_v3 (addf : (⟨S192, .f32⟩ : BufTy).Contents (Elt F) → (⟨S192, .f32⟩ : BufTy).Contents (Elt F) → (⟨S192, .f32⟩ : BufTy).Contents (Elt F)),
    StableHlo.nullary main_cst (constant S_ .f32 0x00000000#32),
    StableHlo.unary main_cst main_v4 (broadcastInDim S64 ![] bcast_S_S64 : (⟨S_, .f32⟩ : BufTy).Contents (Elt F) → (⟨S64, .f32⟩ : BufTy).Contents (Elt F)),
    StableHlo.nullary main_cst_0 (constant S_ .f32 0x00000000#32),
    StableHlo.unary main_cst_0 main_v5 (broadcastInDim S512x64 ![] bcast_S_S512x64 : (⟨S_, .f32⟩ : BufTy).Contents (Elt F) → (⟨S512x64, .f32⟩ : BufTy).Contents (Elt F)),
    StableHlo.nullary main_c (constantI S_ 32 0#32),
    StableHlo.unary main_arg2 main_v6_0 id,
    StableHlo.unary main_arg4 main_v6_1 id,
    StableHlo.unary main_v3 main_v6_2 id,
    StableHlo.unary main_c main_v6_3 id,
    StableHlo.unary main_v4 main_v6_4 id,
    StableHlo.unary main_v5 main_v6_5 id ]

/-- The loop's condition. -/
abbrev condOps : List (HloOp τ sig (Elt F)) :=
  [ StableHlo.nullary main_while0c_c_25 (constantI S_ 32 512#32),
    StableHlo.binary main_v6_3 main_while0c_c_25 main_while0c_v104 (cmpi .slt : (⟨S_, .i32⟩ : BufTy).Contents (Elt F) → (⟨S_, .i32⟩ : BufTy).Contents (Elt F) → (⟨S_, .i1⟩ : BufTy).Contents (Elt F)) ]

/-- One step of the recurrence, up to the new state. -/
abbrev bodyOps : List (HloOp τ sig (Elt F)) :=
  [ StableHlo.unary main_v6_0 main_while0b_v104 ((transpose S64x192 [1, 0] · transposes_S192x64_S64x192_1_0) : (⟨S192x64, .f32⟩ : BufTy).Contents (Elt F) → (⟨S64x192, .f32⟩ : BufTy).Contents (Elt F)),
    StableHlo.binary main_v6_4 main_while0b_v104 main_while0b_v105 ((fun l r => Host.dotGeneral dot_S64_S64x192_S192_0_0_n_1_n_n none l r) : (⟨S64, .f32⟩ : BufTy).Contents (Elt F) → (⟨S64x192, .f32⟩ : BufTy).Contents (Elt F) → (⟨S192, .f32⟩ : BufTy).Contents (Elt F)),
    StableHlo.binary main_while0b_v105 main_v6_1 main_while0b_v106 (addf : (⟨S192, .f32⟩ : BufTy).Contents (Elt F) → (⟨S192, .f32⟩ : BufTy).Contents (Elt F) → (⟨S192, .f32⟩ : BufTy).Contents (Elt F)),
    StableHlo.unary main_v6_2 main_while0b_v107 ((extractStridedSlice S64 ![0] · slices_S192_S64_0) : (⟨S192, .f32⟩ : BufTy).Contents (Elt F) → (⟨S64, .f32⟩ : BufTy).Contents (Elt F)),
    StableHlo.unary main_while0b_v106 main_while0b_v108 ((extractStridedSlice S64 ![0] · slices_S192_S64_0) : (⟨S192, .f32⟩ : BufTy).Contents (Elt F) → (⟨S64, .f32⟩ : BufTy).Contents (Elt F)),
    StableHlo.binary main_while0b_v107 main_while0b_v108 main_while0b_v109 (addf : (⟨S64, .f32⟩ : BufTy).Contents (Elt F) → (⟨S64, .f32⟩ : BufTy).Contents (Elt F) → (⟨S64, .f32⟩ : BufTy).Contents (Elt F)),
    StableHlo.unary main_while0b_v109 main_while0b_v110 (Host.negf : (⟨S64, .f32⟩ : BufTy).Contents (Elt F) → (⟨S64, .f32⟩ : BufTy).Contents (Elt F)),
    StableHlo.unary main_while0b_v110 main_while0b_v111 (Host.exp : (⟨S64, .f32⟩ : BufTy).Contents (Elt F) → (⟨S64, .f32⟩ : BufTy).Contents (Elt F)),
    StableHlo.nullary main_while0b_cst_25 (constant S_ .f32 0x3F800000#32),
    StableHlo.unary main_while0b_cst_25 main_while0b_v112 (broadcastInDim S64 ![] bcast_S_S64 : (⟨S_, .f32⟩ : BufTy).Contents (Elt F) → (⟨S64, .f32⟩ : BufTy).Contents (Elt F)),
    StableHlo.binary main_while0b_v112 main_while0b_v111 main_while0b_v113 (addf : (⟨S64, .f32⟩ : BufTy).Contents (Elt F) → (⟨S64, .f32⟩ : BufTy).Contents (Elt F) → (⟨S64, .f32⟩ : BufTy).Contents (Elt F)),
    StableHlo.nullary main_while0b_cst_26 (constant S_ .f32 0x3F800000#32),
    StableHlo.unary main_while0b_cst_26 main_while0b_v114 (broadcastInDim S64 ![] bcast_S_S64 : (⟨S_, .f32⟩ : BufTy).Contents (Elt F) → (⟨S64, .f32⟩ : BufTy).Contents (Elt F)),
    StableHlo.binary main_while0b_v114 main_while0b_v113 main_while0b_v115 (Host.divf : (⟨S64, .f32⟩ : BufTy).Contents (Elt F) → (⟨S64, .f32⟩ : BufTy).Contents (Elt F) → (⟨S64, .f32⟩ : BufTy).Contents (Elt F)),
    StableHlo.unary main_v6_2 main_while0b_v116 ((extractStridedSlice S64 ![64] · slices_S192_S64_64) : (⟨S192, .f32⟩ : BufTy).Contents (Elt F) → (⟨S64, .f32⟩ : BufTy).Contents (Elt F)),
    StableHlo.unary main_while0b_v106 main_while0b_v117 ((extractStridedSlice S64 ![64] · slices_S192_S64_64) : (⟨S192, .f32⟩ : BufTy).Contents (Elt F) → (⟨S64, .f32⟩ : BufTy).Contents (Elt F)),
    StableHlo.binary main_while0b_v116 main_while0b_v117 main_while0b_v118 (addf : (⟨S64, .f32⟩ : BufTy).Contents (Elt F) → (⟨S64, .f32⟩ : BufTy).Contents (Elt F) → (⟨S64, .f32⟩ : BufTy).Contents (Elt F)),
    StableHlo.unary main_while0b_v118 main_while0b_v119 (Host.negf : (⟨S64, .f32⟩ : BufTy).Contents (Elt F) → (⟨S64, .f32⟩ : BufTy).Contents (Elt F)),
    StableHlo.unary main_while0b_v119 main_while0b_v120 (Host.exp : (⟨S64, .f32⟩ : BufTy).Contents (Elt F) → (⟨S64, .f32⟩ : BufTy).Contents (Elt F)),
    StableHlo.nullary main_while0b_cst_27 (constant S_ .f32 0x3F800000#32),
    StableHlo.unary main_while0b_cst_27 main_while0b_v121 (broadcastInDim S64 ![] bcast_S_S64 : (⟨S_, .f32⟩ : BufTy).Contents (Elt F) → (⟨S64, .f32⟩ : BufTy).Contents (Elt F)),
    StableHlo.binary main_while0b_v121 main_while0b_v120 main_while0b_v122 (addf : (⟨S64, .f32⟩ : BufTy).Contents (Elt F) → (⟨S64, .f32⟩ : BufTy).Contents (Elt F) → (⟨S64, .f32⟩ : BufTy).Contents (Elt F)),
    StableHlo.nullary main_while0b_cst_28 (constant S_ .f32 0x3F800000#32),
    StableHlo.unary main_while0b_cst_28 main_while0b_v123 (broadcastInDim S64 ![] bcast_S_S64 : (⟨S_, .f32⟩ : BufTy).Contents (Elt F) → (⟨S64, .f32⟩ : BufTy).Contents (Elt F)),
    StableHlo.binary main_while0b_v123 main_while0b_v122 main_while0b_v124 (Host.divf : (⟨S64, .f32⟩ : BufTy).Contents (Elt F) → (⟨S64, .f32⟩ : BufTy).Contents (Elt F) → (⟨S64, .f32⟩ : BufTy).Contents (Elt F)),
    StableHlo.unary main_v6_2 main_while0b_v125 ((extractStridedSlice S64 ![128] · slices_S192_S64_128) : (⟨S192, .f32⟩ : BufTy).Contents (Elt F) → (⟨S64, .f32⟩ : BufTy).Contents (Elt F)),
    StableHlo.unary main_while0b_v106 main_while0b_v126 ((extractStridedSlice S64 ![128] · slices_S192_S64_128) : (⟨S192, .f32⟩ : BufTy).Contents (Elt F) → (⟨S64, .f32⟩ : BufTy).Contents (Elt F)),
    StableHlo.binary main_while0b_v115 main_while0b_v126 main_while0b_v127 (mulf : (⟨S64, .f32⟩ : BufTy).Contents (Elt F) → (⟨S64, .f32⟩ : BufTy).Contents (Elt F) → (⟨S64, .f32⟩ : BufTy).Contents (Elt F)),
    StableHlo.binary main_while0b_v125 main_while0b_v127 main_while0b_v128 (addf : (⟨S64, .f32⟩ : BufTy).Contents (Elt F) → (⟨S64, .f32⟩ : BufTy).Contents (Elt F) → (⟨S64, .f32⟩ : BufTy).Contents (Elt F)),
    StableHlo.unary main_while0b_v128 main_while0b_v129 (Host.tanh : (⟨S64, .f32⟩ : BufTy).Contents (Elt F) → (⟨S64, .f32⟩ : BufTy).Contents (Elt F)),
    StableHlo.nullary main_while0b_cst_29 (constant S_ .f32 0x3F800000#32),
    StableHlo.unary main_while0b_cst_29 main_while0b_v130 (broadcastInDim S64 ![] bcast_S_S64 : (⟨S_, .f32⟩ : BufTy).Contents (Elt F) → (⟨S64, .f32⟩ : BufTy).Contents (Elt F)),
    StableHlo.binary main_while0b_v130 main_while0b_v124 main_while0b_v131 (subf : (⟨S64, .f32⟩ : BufTy).Contents (Elt F) → (⟨S64, .f32⟩ : BufTy).Contents (Elt F) → (⟨S64, .f32⟩ : BufTy).Contents (Elt F)),
    StableHlo.binary main_while0b_v131 main_while0b_v129 main_while0b_v132 (mulf : (⟨S64, .f32⟩ : BufTy).Contents (Elt F) → (⟨S64, .f32⟩ : BufTy).Contents (Elt F) → (⟨S64, .f32⟩ : BufTy).Contents (Elt F)),
    StableHlo.binary main_while0b_v124 main_v6_4 main_while0b_v133 (mulf : (⟨S64, .f32⟩ : BufTy).Contents (Elt F) → (⟨S64, .f32⟩ : BufTy).Contents (Elt F) → (⟨S64, .f32⟩ : BufTy).Contents (Elt F)),
    StableHlo.binary main_while0b_v132 main_while0b_v133 main_while0b_v134 (addf : (⟨S64, .f32⟩ : BufTy).Contents (Elt F) → (⟨S64, .f32⟩ : BufTy).Contents (Elt F) → (⟨S64, .f32⟩ : BufTy).Contents (Elt F)) ]

/-- The new state written into its row of the node array. -/
abbrev storeOps : List (HloOp τ sig (Elt F)) :=
  [ StableHlo.TRef.unary (StableHlo.TRef.of main_while0b_v134 : StableHlo.TRef sig ⟨S64, .f32⟩) main_while0b_call0.v0 (broadcastInDim S1x64 ![1] bcast_S64_S1x64_1),
    StableHlo.TRef.nullary main_while0b_call0.c (constantI S_ 32 0#32),
    StableHlo.TRef.binaryIndexed (StableHlo.TRef.of main_v6_5 : StableHlo.TRef sig ⟨S512x64, .f32⟩) main_while0b_call0.v0 ![(StableHlo.TRef.of main_v6_3 : StableHlo.TRef sig ⟨S_, .i32⟩), main_while0b_call0.c] main_while0b_call0.v1 (fun x u i => Host.dynamicUpdateSlice x u (fun k => (i k (Shape.Idx.first h_S_)).toInt) updateFits_S512x64_S1x64) ]

/-- The carried values copied back. -/
abbrev carryOps : List (HloOp τ sig (Elt F)) :=
  [ StableHlo.nullary main_while0b_c_30 (constantI S_ 32 1#32),
    StableHlo.binary main_v6_3 main_while0b_c_30 main_while0b_v136 (addi : (⟨S_, .i32⟩ : BufTy).Contents (Elt F) → (⟨S_, .i32⟩ : BufTy).Contents (Elt F) → (⟨S_, .i32⟩ : BufTy).Contents (Elt F)),
    StableHlo.unary main_while0b_v136 main_v6_3 id,
    StableHlo.unary main_while0b_v134 main_v6_4 id,
    StableHlo.unary main_while0b_v135 main_v6_5 id ]

/-- The edge list. -/
abbrev postIx : List (HloOp τ sig (Elt F)) :=
  [ StableHlo.nullary main_v7 (iotaInDim S512x511 32 0),
    StableHlo.nullary main_v8 (iotaInDim S512x511 32 1),
    StableHlo.binary main_v8 main_v7 main_v9 (cmpi .sge : (⟨S512x511, .i32⟩ : BufTy).Contents (Elt F) → (⟨S512x511, .i32⟩ : BufTy).Contents (Elt F) → (⟨S512x511, .i1⟩ : BufTy).Contents (Elt F)),
    StableHlo.unary main_v9 main_v10 ((extui 32 · natLt_1_32) : (⟨S512x511, .i1⟩ : BufTy).Contents (Elt F) → (⟨S512x511, .i32⟩ : BufTy).Contents (Elt F)),
    StableHlo.binary main_v8 main_v10 main_v11 (addi : (⟨S512x511, .i32⟩ : BufTy).Contents (Elt F) → (⟨S512x511, .i32⟩ : BufTy).Contents (Elt F) → (⟨S512x511, .i32⟩ : BufTy).Contents (Elt F)) ]

/-- The edge features. -/
abbrev postEdge : List (HloOp τ sig (Elt F)) :=
  [ StableHlo.nullary main_c_1 (constantI S_ 32 0#32),
    StableHlo.unary main_c_1 main_v12 (broadcastInDim S512x511 ![] bcast_S_S512x511 : (⟨S_, .i32⟩ : BufTy).Contents (Elt F) → (⟨S512x511, .i32⟩ : BufTy).Contents (Elt F)),
    StableHlo.binary main_v7 main_v12 main_v13 (cmpi .slt : (⟨S512x511, .i32⟩ : BufTy).Contents (Elt F) → (⟨S512x511, .i32⟩ : BufTy).Contents (Elt F) → (⟨S512x511, .i1⟩ : BufTy).Contents (Elt F)),
    StableHlo.nullary main_c_2 (constantI S_ 32 512#32),
    StableHlo.unary main_c_2 main_v14 (broadcastInDim S512x511 ![] bcast_S_S512x511 : (⟨S_, .i32⟩ : BufTy).Contents (Elt F) → (⟨S512x511, .i32⟩ : BufTy).Contents (Elt F)),
    StableHlo.binary main_v7 main_v14 main_v15 (addi : (⟨S512x511, .i32⟩ : BufTy).Contents (Elt F) → (⟨S512x511, .i32⟩ : BufTy).Contents (Elt F) → (⟨S512x511, .i32⟩ : BufTy).Contents (Elt F)),
    StableHlo.ternary main_v13 main_v15 main_v7 main_v16 (select : (⟨S512x511, .i1⟩ : BufTy).Contents (Elt F) → (⟨S512x511, .i32⟩ : BufTy).Contents (Elt F) → (⟨S512x511, .i32⟩ : BufTy).Contents (Elt F) → (⟨S512x511, .i32⟩ : BufTy).Contents (Elt F)),
    StableHlo.unary main_v16 main_v17 (broadcastInDim S512x511x1 ![0, 1] bcast_S512x511_S512x511x1_0_1 : (⟨S512x511, .i32⟩ : BufTy).Contents (Elt F) → (⟨S512x511x1, .i32⟩ : BufTy).Contents (Elt F)),
    StableHlo.binary main_v6_5 main_v17 main_v18 ((fun x i => Host.gather gather_S512x64_S512x511x1_S512x511x64_2_0_n_n_0_2_164 x i) : (⟨S512x64, .f32⟩ : BufTy).Contents (Elt F) → (⟨S512x511x1, .i32⟩ : BufTy).Contents (Elt F) → (⟨S512x511x64, .f32⟩ : BufTy).Contents (Elt F)),
    StableHlo.nullary main_c_3 (constantI S_ 32 0#32),
    StableHlo.unary main_c_3 main_v19 (broadcastInDim S512x511 ![] bcast_S_S512x511 : (⟨S_, .i32⟩ : BufTy).Contents (Elt F) → (⟨S512x511, .i32⟩ : BufTy).Contents (Elt F)),
    StableHlo.binary main_v11 main_v19 main_v20 (cmpi .slt : (⟨S512x511, .i32⟩ : BufTy).Contents (Elt F) → (⟨S512x511, .i32⟩ : BufTy).Contents (Elt F) → (⟨S512x511, .i1⟩ : BufTy).Contents (Elt F)),
    StableHlo.nullary main_c_4 (constantI S_ 32 512#32),
    StableHlo.unary main_c_4 main_v21 (broadcastInDim S512x511 ![] bcast_S_S512x511 : (⟨S_, .i32⟩ : BufTy).Contents (Elt F) → (⟨S512x511, .i32⟩ : BufTy).Contents (Elt F)),
    StableHlo.binary main_v11 main_v21 main_v22 (addi : (⟨S512x511, .i32⟩ : BufTy).Contents (Elt F) → (⟨S512x511, .i32⟩ : BufTy).Contents (Elt F) → (⟨S512x511, .i32⟩ : BufTy).Contents (Elt F)),
    StableHlo.ternary main_v20 main_v22 main_v11 main_v23 (select : (⟨S512x511, .i1⟩ : BufTy).Contents (Elt F) → (⟨S512x511, .i32⟩ : BufTy).Contents (Elt F) → (⟨S512x511, .i32⟩ : BufTy).Contents (Elt F) → (⟨S512x511, .i32⟩ : BufTy).Contents (Elt F)),
    StableHlo.unary main_v23 main_v24 (broadcastInDim S512x511x1 ![0, 1] bcast_S512x511_S512x511x1_0_1 : (⟨S512x511, .i32⟩ : BufTy).Contents (Elt F) → (⟨S512x511x1, .i32⟩ : BufTy).Contents (Elt F)),
    StableHlo.binary main_v6_5 main_v24 main_v25 ((fun x i => Host.gather gather_S512x64_S512x511x1_S512x511x64_2_0_n_n_0_2_164 x i) : (⟨S512x64, .f32⟩ : BufTy).Contents (Elt F) → (⟨S512x511x1, .i32⟩ : BufTy).Contents (Elt F) → (⟨S512x511x64, .f32⟩ : BufTy).Contents (Elt F)),
    StableHlo.binary main_v18 main_v25 main_v26 ((fun a b => concatenate S512x511x128 2 [⟨S512x511x64, a⟩, ⟨S512x511x64, b⟩] concatenates_S512x511x64_S512x511x64_S512x511x128_d2) : (⟨S512x511x64, .f32⟩ : BufTy).Contents (Elt F) → (⟨S512x511x64, .f32⟩ : BufTy).Contents (Elt F) → (⟨S512x511x128, .f32⟩ : BufTy).Contents (Elt F)),
    StableHlo.binary main_v26 main_arg5 main_v27 ((fun l r => Host.dotGeneral dot_S512x511x128_S128x256_S512x511x256_2_0_01_1_n_n none l r) : (⟨S512x511x128, .f32⟩ : BufTy).Contents (Elt F) → (⟨S128x256, .f32⟩ : BufTy).Contents (Elt F) → (⟨S512x511x256, .f32⟩ : BufTy).Contents (Elt F)),
    StableHlo.unary main_arg6 main_v28 (broadcastInDim S1x1x256 ![2] bcast_S256_S1x1x256_2 : (⟨S256, .f32⟩ : BufTy).Contents (Elt F) → (⟨S1x1x256, .f32⟩ : BufTy).Contents (Elt F)),
    StableHlo.unary main_v28 main_v29 (broadcastInDim S512x511x256 ![0, 1, 2] bcast_S1x1x256_S512x511x256_0_1_2 : (⟨S1x1x256, .f32⟩ : BufTy).Contents (Elt F) → (⟨S512x511x256, .f32⟩ : BufTy).Contents (Elt F)),
    StableHlo.binary main_v27 main_v29 main_v30 (addf : (⟨S512x511x256, .f32⟩ : BufTy).Contents (Elt F) → (⟨S512x511x256, .f32⟩ : BufTy).Contents (Elt F) → (⟨S512x511x256, .f32⟩ : BufTy).Contents (Elt F)),
    StableHlo.nullary main_cst_5 (constant S_ .f32 0x00000000#32),
    StableHlo.unary main_cst_5 main_v31 (broadcastInDim S512x511x256 ![] bcast_S_S512x511x256 : (⟨S_, .f32⟩ : BufTy).Contents (Elt F) → (⟨S512x511x256, .f32⟩ : BufTy).Contents (Elt F)),
    StableHlo.binary main_v30 main_v31 main_v32 (maximumf : (⟨S512x511x256, .f32⟩ : BufTy).Contents (Elt F) → (⟨S512x511x256, .f32⟩ : BufTy).Contents (Elt F) → (⟨S512x511x256, .f32⟩ : BufTy).Contents (Elt F)),
    StableHlo.binary main_v32 main_arg7 main_v33 ((fun l r => Host.dotGeneral dot_S512x511x256_S256x16_S512x511x16_2_0_01_1_n_n none l r) : (⟨S512x511x256, .f32⟩ : BufTy).Contents (Elt F) → (⟨S256x16, .f32⟩ : BufTy).Contents (Elt F) → (⟨S512x511x16, .f32⟩ : BufTy).Contents (Elt F)),
    StableHlo.unary main_arg8 main_v34 (broadcastInDim S1x1x16 ![2] bcast_S16_S1x1x16_2 : (⟨S16, .f32⟩ : BufTy).Contents (Elt F) → (⟨S1x1x16, .f32⟩ : BufTy).Contents (Elt F)),
    StableHlo.unary main_v34 main_v35 (broadcastInDim S512x511x16 ![0, 1, 2] bcast_S1x1x16_S512x511x16_0_1_2 : (⟨S1x1x16, .f32⟩ : BufTy).Contents (Elt F) → (⟨S512x511x16, .f32⟩ : BufTy).Contents (Elt F)),
    StableHlo.binary main_v33 main_v35 main_v36 (addf : (⟨S512x511x16, .f32⟩ : BufTy).Contents (Elt F) → (⟨S512x511x16, .f32⟩ : BufTy).Contents (Elt F) → (⟨S512x511x16, .f32⟩ : BufTy).Contents (Elt F)) ]

/-- The first convolution and its activation. -/
abbrev postConv0 : List (HloOp τ sig (Elt F)) :=
  [ StableHlo.nullary main_c_6 (constantI S_ 32 0#32),
    StableHlo.unary main_c_6 main_v37 (broadcastInDim S512x511 ![] bcast_S_S512x511 : (⟨S_, .i32⟩ : BufTy).Contents (Elt F) → (⟨S512x511, .i32⟩ : BufTy).Contents (Elt F)),
    StableHlo.binary main_v7 main_v37 main_v38 (cmpi .slt : (⟨S512x511, .i32⟩ : BufTy).Contents (Elt F) → (⟨S512x511, .i32⟩ : BufTy).Contents (Elt F) → (⟨S512x511, .i1⟩ : BufTy).Contents (Elt F)),
    StableHlo.nullary main_c_7 (constantI S_ 32 512#32),
    StableHlo.unary main_c_7 main_v39 (broadcastInDim S512x511 ![] bcast_S_S512x511 : (⟨S_, .i32⟩ : BufTy).Contents (Elt F) → (⟨S512x511, .i32⟩ : BufTy).Contents (Elt F)),
    StableHlo.binary main_v7 main_v39 main_v40 (addi : (⟨S512x511, .i32⟩ : BufTy).Contents (Elt F) → (⟨S512x511, .i32⟩ : BufTy).Contents (Elt F) → (⟨S512x511, .i32⟩ : BufTy).Contents (Elt F)),
    StableHlo.ternary main_v38 main_v40 main_v7 main_v41 (select : (⟨S512x511, .i1⟩ : BufTy).Contents (Elt F) → (⟨S512x511, .i32⟩ : BufTy).Contents (Elt F) → (⟨S512x511, .i32⟩ : BufTy).Contents (Elt F) → (⟨S512x511, .i32⟩ : BufTy).Contents (Elt F)),
    StableHlo.unary main_v41 main_v42 (broadcastInDim S512x511x1 ![0, 1] bcast_S512x511_S512x511x1_0_1 : (⟨S512x511, .i32⟩ : BufTy).Contents (Elt F) → (⟨S512x511x1, .i32⟩ : BufTy).Contents (Elt F)),
    StableHlo.binary main_v6_5 main_v42 main_v43 ((fun x i => Host.gather gather_S512x64_S512x511x1_S512x511x64_2_0_n_n_0_2_164 x i) : (⟨S512x64, .f32⟩ : BufTy).Contents (Elt F) → (⟨S512x511x1, .i32⟩ : BufTy).Contents (Elt F) → (⟨S512x511x64, .f32⟩ : BufTy).Contents (Elt F)),
    StableHlo.binary main_v36 main_v43 main_v44 ((fun a b => concatenate S512x511x80 2 [⟨S512x511x16, a⟩, ⟨S512x511x64, b⟩] concatenates_S512x511x16_S512x511x64_S512x511x80_d2) : (⟨S512x511x16, .f32⟩ : BufTy).Contents (Elt F) → (⟨S512x511x64, .f32⟩ : BufTy).Contents (Elt F) → (⟨S512x511x80, .f32⟩ : BufTy).Contents (Elt F)),
    StableHlo.binary main_v44 main_arg9 main_v45 ((fun l r => Host.dotGeneral dot_S512x511x80_S80x8_S512x511x8_2_0_01_1_n_n none l r) : (⟨S512x511x80, .f32⟩ : BufTy).Contents (Elt F) → (⟨S80x8, .f32⟩ : BufTy).Contents (Elt F) → (⟨S512x511x8, .f32⟩ : BufTy).Contents (Elt F)),
    StableHlo.unary main_arg10 main_v46 (broadcastInDim S1x1x8 ![2] bcast_S8_S1x1x8_2 : (⟨S8, .f32⟩ : BufTy).Contents (Elt F) → (⟨S1x1x8, .f32⟩ : BufTy).Contents (Elt F)),
    StableHlo.unary main_v46 main_v47 (broadcastInDim S512x511x8 ![0, 1, 2] bcast_S1x1x8_S512x511x8_0_1_2 : (⟨S1x1x8, .f32⟩ : BufTy).Contents (Elt F) → (⟨S512x511x8, .f32⟩ : BufTy).Contents (Elt F)),
    StableHlo.binary main_v45 main_v47 main_v48 (addf : (⟨S512x511x8, .f32⟩ : BufTy).Contents (Elt F) → (⟨S512x511x8, .f32⟩ : BufTy).Contents (Elt F) → (⟨S512x511x8, .f32⟩ : BufTy).Contents (Elt F)),
    StableHlo.nullary main_cst_8 (constant S_ .f32 0x00000000#32),
    StableHlo.unary main_cst_8 main_v49 (broadcastInDim S512x511x8 ![] bcast_S_S512x511x8 : (⟨S_, .f32⟩ : BufTy).Contents (Elt F) → (⟨S512x511x8, .f32⟩ : BufTy).Contents (Elt F)),
    StableHlo.binary main_v48 main_v49 main_v50 (maximumf : (⟨S512x511x8, .f32⟩ : BufTy).Contents (Elt F) → (⟨S512x511x8, .f32⟩ : BufTy).Contents (Elt F) → (⟨S512x511x8, .f32⟩ : BufTy).Contents (Elt F)),
    StableHlo.binary main_v50 main_arg11 main_v51 ((fun l r => Host.dotGeneral dot_S512x511x8_S8x1_S512x511x1_2_0_01_1_n_n none l r) : (⟨S512x511x8, .f32⟩ : BufTy).Contents (Elt F) → (⟨S8x1, .f32⟩ : BufTy).Contents (Elt F) → (⟨S512x511x1, .f32⟩ : BufTy).Contents (Elt F)),
    StableHlo.unary main_arg12 main_v52 (broadcastInDim S1x1x1 ![2] bcast_S1_S1x1x1_2 : (⟨S1, .f32⟩ : BufTy).Contents (Elt F) → (⟨S1x1x1, .f32⟩ : BufTy).Contents (Elt F)),
    StableHlo.unary main_v52 main_v53 (broadcastInDim S512x511x1 ![0, 1, 2] bcast_S1x1x1_S512x511x1_0_1_2 : (⟨S1x1x1, .f32⟩ : BufTy).Contents (Elt F) → (⟨S512x511x1, .f32⟩ : BufTy).Contents (Elt F)),
    StableHlo.binary main_v51 main_v53 main_v54 (addf : (⟨S512x511x1, .f32⟩ : BufTy).Contents (Elt F) → (⟨S512x511x1, .f32⟩ : BufTy).Contents (Elt F) → (⟨S512x511x1, .f32⟩ : BufTy).Contents (Elt F)),
    StableHlo.binary main_v43 main_arg17 main_v55 ((fun l r => Host.dotGeneral dot_S512x511x64_S64x64_S512x511x64_2_0_01_1_n_n none l r) : (⟨S512x511x64, .f32⟩ : BufTy).Contents (Elt F) → (⟨S64x64, .f32⟩ : BufTy).Contents (Elt F) → (⟨S512x511x64, .f32⟩ : BufTy).Contents (Elt F)),
    StableHlo.unary main_arg18 main_v56 (broadcastInDim S1x1x64 ![2] bcast_S64_S1x1x64_2 : (⟨S64, .f32⟩ : BufTy).Contents (Elt F) → (⟨S1x1x64, .f32⟩ : BufTy).Contents (Elt F)),
    StableHlo.unary main_v56 main_v57 (broadcastInDim S512x511x64 ![0, 1, 2] bcast_S1x1x64_S512x511x64_0_1_2 : (⟨S1x1x64, .f32⟩ : BufTy).Contents (Elt F) → (⟨S512x511x64, .f32⟩ : BufTy).Contents (Elt F)),
    StableHlo.binary main_v55 main_v57 main_v58 (addf : (⟨S512x511x64, .f32⟩ : BufTy).Contents (Elt F) → (⟨S512x511x64, .f32⟩ : BufTy).Contents (Elt F) → (⟨S512x511x64, .f32⟩ : BufTy).Contents (Elt F)),
    StableHlo.unary main_v54 main_v59 (broadcastInDim S512x511x64 ![0, 1, 2] bcast_S512x511x1_S512x511x64_0_1_2 : (⟨S512x511x1, .f32⟩ : BufTy).Contents (Elt F) → (⟨S512x511x64, .f32⟩ : BufTy).Contents (Elt F)),
    StableHlo.binary main_v59 main_v58 main_v60 (mulf : (⟨S512x511x64, .f32⟩ : BufTy).Contents (Elt F) → (⟨S512x511x64, .f32⟩ : BufTy).Contents (Elt F) → (⟨S512x511x64, .f32⟩ : BufTy).Contents (Elt F)),
    StableHlo.nullary main_cst_9 (constant S_ .f32 0x00000000#32),
    StableHlo.unary main_cst_9 main_v61 (broadcastInDim S512x64 ![] bcast_S_S512x64 : (⟨S_, .f32⟩ : BufTy).Contents (Elt F) → (⟨S512x64, .f32⟩ : BufTy).Contents (Elt F)),
    StableHlo.nullary main_c_10 (constantI S_ 32 0#32),
    StableHlo.unary main_c_10 main_v62 (broadcastInDim S512x511 ![] bcast_S_S512x511 : (⟨S_, .i32⟩ : BufTy).Contents (Elt F) → (⟨S512x511, .i32⟩ : BufTy).Contents (Elt F)),
    StableHlo.binary main_v11 main_v62 main_v63 (cmpi .slt : (⟨S512x511, .i32⟩ : BufTy).Contents (Elt F) → (⟨S512x511, .i32⟩ : BufTy).Contents (Elt F) → (⟨S512x511, .i1⟩ : BufTy).Contents (Elt F)),
    StableHlo.nullary main_c_11 (constantI S_ 32 512#32),
    StableHlo.unary main_c_11 main_v64 (broadcastInDim S512x511 ![] bcast_S_S512x511 : (⟨S_, .i32⟩ : BufTy).Contents (Elt F) → (⟨S512x511, .i32⟩ : BufTy).Contents (Elt F)),
    StableHlo.binary main_v11 main_v64 main_v65 (addi : (⟨S512x511, .i32⟩ : BufTy).Contents (Elt F) → (⟨S512x511, .i32⟩ : BufTy).Contents (Elt F) → (⟨S512x511, .i32⟩ : BufTy).Contents (Elt F)),
    StableHlo.ternary main_v63 main_v65 main_v11 main_v66 (select : (⟨S512x511, .i1⟩ : BufTy).Contents (Elt F) → (⟨S512x511, .i32⟩ : BufTy).Contents (Elt F) → (⟨S512x511, .i32⟩ : BufTy).Contents (Elt F) → (⟨S512x511, .i32⟩ : BufTy).Contents (Elt F)),
    StableHlo.unary main_v66 main_v67 (broadcastInDim S512x511x1 ![0, 1] bcast_S512x511_S512x511x1_0_1 : (⟨S512x511, .i32⟩ : BufTy).Contents (Elt F) → (⟨S512x511x1, .i32⟩ : BufTy).Contents (Elt F)),
    StableHlo.ternary main_v61 main_v67 main_v60 main_v68 ((fun x i u => Host.scatterAdd scatter_S512x64_S512x511x1_S512x511x64_2_0_0_2 x i u) : (⟨S512x64, .f32⟩ : BufTy).Contents (Elt F) → (⟨S512x511x1, .i32⟩ : BufTy).Contents (Elt F) → (⟨S512x511x64, .f32⟩ : BufTy).Contents (Elt F) → (⟨S512x64, .f32⟩ : BufTy).Contents (Elt F)),
    StableHlo.nullary main_cst_12 (constant S_ .f32 0x00000000#32),
    StableHlo.unary main_cst_12 main_v69 (broadcastInDim S512x64 ![] bcast_S_S512x64 : (⟨S_, .f32⟩ : BufTy).Contents (Elt F) → (⟨S512x64, .f32⟩ : BufTy).Contents (Elt F)),
    StableHlo.binary main_v68 main_v69 main_v70 (maximumf : (⟨S512x64, .f32⟩ : BufTy).Contents (Elt F) → (⟨S512x64, .f32⟩ : BufTy).Contents (Elt F) → (⟨S512x64, .f32⟩ : BufTy).Contents (Elt F)) ]

/-- The second convolution, summed over the nodes. -/
abbrev postConv1 : List (HloOp τ sig (Elt F)) :=
  [ StableHlo.nullary main_c_13 (constantI S_ 32 0#32),
    StableHlo.unary main_c_13 main_v71 (broadcastInDim S512x511 ![] bcast_S_S512x511 : (⟨S_, .i32⟩ : BufTy).Contents (Elt F) → (⟨S512x511, .i32⟩ : BufTy).Contents (Elt F)),
    StableHlo.binary main_v7 main_v71 main_v72 (cmpi .slt : (⟨S512x511, .i32⟩ : BufTy).Contents (Elt F) → (⟨S512x511, .i32⟩ : BufTy).Contents (Elt F) → (⟨S512x511, .i1⟩ : BufTy).Contents (Elt F)),
    StableHlo.nullary main_c_14 (constantI S_ 32 512#32),
    StableHlo.unary main_c_14 main_v73 (broadcastInDim S512x511 ![] bcast_S_S512x511 : (⟨S_, .i32⟩ : BufTy).Contents (Elt F) → (⟨S512x511, .i32⟩ : BufTy).Contents (Elt F)),
    StableHlo.binary main_v7 main_v73 main_v74 (addi : (⟨S512x511, .i32⟩ : BufTy).Contents (Elt F) → (⟨S512x511, .i32⟩ : BufTy).Contents (Elt F) → (⟨S512x511, .i32⟩ : BufTy).Contents (Elt F)),
    StableHlo.ternary main_v72 main_v74 main_v7 main_v75 (select : (⟨S512x511, .i1⟩ : BufTy).Contents (Elt F) → (⟨S512x511, .i32⟩ : BufTy).Contents (Elt F) → (⟨S512x511, .i32⟩ : BufTy).Contents (Elt F) → (⟨S512x511, .i32⟩ : BufTy).Contents (Elt F)),
    StableHlo.unary main_v75 main_v76 (broadcastInDim S512x511x1 ![0, 1] bcast_S512x511_S512x511x1_0_1 : (⟨S512x511, .i32⟩ : BufTy).Contents (Elt F) → (⟨S512x511x1, .i32⟩ : BufTy).Contents (Elt F)),
    StableHlo.binary main_v70 main_v76 main_v77 ((fun x i => Host.gather gather_S512x64_S512x511x1_S512x511x64_2_0_n_n_0_2_164 x i) : (⟨S512x64, .f32⟩ : BufTy).Contents (Elt F) → (⟨S512x511x1, .i32⟩ : BufTy).Contents (Elt F) → (⟨S512x511x64, .f32⟩ : BufTy).Contents (Elt F)),
    StableHlo.binary main_v36 main_v77 main_v78 ((fun a b => concatenate S512x511x80 2 [⟨S512x511x16, a⟩, ⟨S512x511x64, b⟩] concatenates_S512x511x16_S512x511x64_S512x511x80_d2) : (⟨S512x511x16, .f32⟩ : BufTy).Contents (Elt F) → (⟨S512x511x64, .f32⟩ : BufTy).Contents (Elt F) → (⟨S512x511x80, .f32⟩ : BufTy).Contents (Elt F)),
    StableHlo.binary main_v78 main_arg13 main_v79 ((fun l r => Host.dotGeneral dot_S512x511x80_S80x8_S512x511x8_2_0_01_1_n_n none l r) : (⟨S512x511x80, .f32⟩ : BufTy).Contents (Elt F) → (⟨S80x8, .f32⟩ : BufTy).Contents (Elt F) → (⟨S512x511x8, .f32⟩ : BufTy).Contents (Elt F)),
    StableHlo.unary main_arg14 main_v80 (broadcastInDim S1x1x8 ![2] bcast_S8_S1x1x8_2 : (⟨S8, .f32⟩ : BufTy).Contents (Elt F) → (⟨S1x1x8, .f32⟩ : BufTy).Contents (Elt F)),
    StableHlo.unary main_v80 main_v81 (broadcastInDim S512x511x8 ![0, 1, 2] bcast_S1x1x8_S512x511x8_0_1_2 : (⟨S1x1x8, .f32⟩ : BufTy).Contents (Elt F) → (⟨S512x511x8, .f32⟩ : BufTy).Contents (Elt F)),
    StableHlo.binary main_v79 main_v81 main_v82 (addf : (⟨S512x511x8, .f32⟩ : BufTy).Contents (Elt F) → (⟨S512x511x8, .f32⟩ : BufTy).Contents (Elt F) → (⟨S512x511x8, .f32⟩ : BufTy).Contents (Elt F)),
    StableHlo.nullary main_cst_15 (constant S_ .f32 0x00000000#32),
    StableHlo.unary main_cst_15 main_v83 (broadcastInDim S512x511x8 ![] bcast_S_S512x511x8 : (⟨S_, .f32⟩ : BufTy).Contents (Elt F) → (⟨S512x511x8, .f32⟩ : BufTy).Contents (Elt F)),
    StableHlo.binary main_v82 main_v83 main_v84 (maximumf : (⟨S512x511x8, .f32⟩ : BufTy).Contents (Elt F) → (⟨S512x511x8, .f32⟩ : BufTy).Contents (Elt F) → (⟨S512x511x8, .f32⟩ : BufTy).Contents (Elt F)),
    StableHlo.binary main_v84 main_arg15 main_v85 ((fun l r => Host.dotGeneral dot_S512x511x8_S8x1_S512x511x1_2_0_01_1_n_n none l r) : (⟨S512x511x8, .f32⟩ : BufTy).Contents (Elt F) → (⟨S8x1, .f32⟩ : BufTy).Contents (Elt F) → (⟨S512x511x1, .f32⟩ : BufTy).Contents (Elt F)),
    StableHlo.unary main_arg16 main_v86 (broadcastInDim S1x1x1 ![2] bcast_S1_S1x1x1_2 : (⟨S1, .f32⟩ : BufTy).Contents (Elt F) → (⟨S1x1x1, .f32⟩ : BufTy).Contents (Elt F)),
    StableHlo.unary main_v86 main_v87 (broadcastInDim S512x511x1 ![0, 1, 2] bcast_S1x1x1_S512x511x1_0_1_2 : (⟨S1x1x1, .f32⟩ : BufTy).Contents (Elt F) → (⟨S512x511x1, .f32⟩ : BufTy).Contents (Elt F)),
    StableHlo.binary main_v85 main_v87 main_v88 (addf : (⟨S512x511x1, .f32⟩ : BufTy).Contents (Elt F) → (⟨S512x511x1, .f32⟩ : BufTy).Contents (Elt F) → (⟨S512x511x1, .f32⟩ : BufTy).Contents (Elt F)),
    StableHlo.binary main_v77 main_arg19 main_v89 ((fun l r => Host.dotGeneral dot_S512x511x64_S64x64_S512x511x64_2_0_01_1_n_n none l r) : (⟨S512x511x64, .f32⟩ : BufTy).Contents (Elt F) → (⟨S64x64, .f32⟩ : BufTy).Contents (Elt F) → (⟨S512x511x64, .f32⟩ : BufTy).Contents (Elt F)),
    StableHlo.unary main_arg20 main_v90 (broadcastInDim S1x1x64 ![2] bcast_S64_S1x1x64_2 : (⟨S64, .f32⟩ : BufTy).Contents (Elt F) → (⟨S1x1x64, .f32⟩ : BufTy).Contents (Elt F)),
    StableHlo.unary main_v90 main_v91 (broadcastInDim S512x511x64 ![0, 1, 2] bcast_S1x1x64_S512x511x64_0_1_2 : (⟨S1x1x64, .f32⟩ : BufTy).Contents (Elt F) → (⟨S512x511x64, .f32⟩ : BufTy).Contents (Elt F)),
    StableHlo.binary main_v89 main_v91 main_v92 (addf : (⟨S512x511x64, .f32⟩ : BufTy).Contents (Elt F) → (⟨S512x511x64, .f32⟩ : BufTy).Contents (Elt F) → (⟨S512x511x64, .f32⟩ : BufTy).Contents (Elt F)),
    StableHlo.unary main_v88 main_v93 (broadcastInDim S512x511x64 ![0, 1, 2] bcast_S512x511x1_S512x511x64_0_1_2 : (⟨S512x511x1, .f32⟩ : BufTy).Contents (Elt F) → (⟨S512x511x64, .f32⟩ : BufTy).Contents (Elt F)),
    StableHlo.binary main_v93 main_v92 main_v94 (mulf : (⟨S512x511x64, .f32⟩ : BufTy).Contents (Elt F) → (⟨S512x511x64, .f32⟩ : BufTy).Contents (Elt F) → (⟨S512x511x64, .f32⟩ : BufTy).Contents (Elt F)),
    StableHlo.nullary main_cst_16 (constant S_ .f32 0x00000000#32),
    StableHlo.unary main_cst_16 main_v95 (broadcastInDim S512x64 ![] bcast_S_S512x64 : (⟨S_, .f32⟩ : BufTy).Contents (Elt F) → (⟨S512x64, .f32⟩ : BufTy).Contents (Elt F)),
    StableHlo.nullary main_c_17 (constantI S_ 32 0#32),
    StableHlo.unary main_c_17 main_v96 (broadcastInDim S512x511 ![] bcast_S_S512x511 : (⟨S_, .i32⟩ : BufTy).Contents (Elt F) → (⟨S512x511, .i32⟩ : BufTy).Contents (Elt F)),
    StableHlo.binary main_v11 main_v96 main_v97 (cmpi .slt : (⟨S512x511, .i32⟩ : BufTy).Contents (Elt F) → (⟨S512x511, .i32⟩ : BufTy).Contents (Elt F) → (⟨S512x511, .i1⟩ : BufTy).Contents (Elt F)),
    StableHlo.nullary main_c_18 (constantI S_ 32 512#32),
    StableHlo.unary main_c_18 main_v98 (broadcastInDim S512x511 ![] bcast_S_S512x511 : (⟨S_, .i32⟩ : BufTy).Contents (Elt F) → (⟨S512x511, .i32⟩ : BufTy).Contents (Elt F)),
    StableHlo.binary main_v11 main_v98 main_v99 (addi : (⟨S512x511, .i32⟩ : BufTy).Contents (Elt F) → (⟨S512x511, .i32⟩ : BufTy).Contents (Elt F) → (⟨S512x511, .i32⟩ : BufTy).Contents (Elt F)),
    StableHlo.ternary main_v97 main_v99 main_v11 main_v100 (select : (⟨S512x511, .i1⟩ : BufTy).Contents (Elt F) → (⟨S512x511, .i32⟩ : BufTy).Contents (Elt F) → (⟨S512x511, .i32⟩ : BufTy).Contents (Elt F) → (⟨S512x511, .i32⟩ : BufTy).Contents (Elt F)),
    StableHlo.unary main_v100 main_v101 (broadcastInDim S512x511x1 ![0, 1] bcast_S512x511_S512x511x1_0_1 : (⟨S512x511, .i32⟩ : BufTy).Contents (Elt F) → (⟨S512x511x1, .i32⟩ : BufTy).Contents (Elt F)),
    StableHlo.ternary main_v95 main_v101 main_v94 main_v102 ((fun x i u => Host.scatterAdd scatter_S512x64_S512x511x1_S512x511x64_2_0_0_2 x i u) : (⟨S512x64, .f32⟩ : BufTy).Contents (Elt F) → (⟨S512x511x1, .i32⟩ : BufTy).Contents (Elt F) → (⟨S512x511x64, .f32⟩ : BufTy).Contents (Elt F) → (⟨S512x64, .f32⟩ : BufTy).Contents (Elt F)),
    StableHlo.nullary main_cst_19 (constant S_ .f32 0x00000000#32),
    StableHlo.binary main_v102 main_cst_19 main_v103 ((fun x v => Host.reduceAdd x v reducesTo_S512x64_S64_d0 h_S_) : (⟨S512x64, .f32⟩ : BufTy).Contents (Elt F) → (⟨S_, .f32⟩ : BufTy).Contents (Elt F) → (⟨S64, .f32⟩ : BufTy).Contents (Elt F)) ]

/-- The stretch before the loop, as a list. -/
abbrev preI : List (List (HloOp τ sig (Elt F))) := [preOps]
/-- One trip of the loop. -/
abbrev bodyI : List (List (HloOp τ sig (Elt F))) := [bodyOps, storeOps, carryOps]
/-- The stretches after the loop. -/
abbrev postI : List (List (HloOp τ sig (Elt F))) := [postIx, postEdge, postConv0, postConv1]

set_option maxHeartbeats 2000000 in
/-- The host function is its stretches around the loop. -/
theorem main_chain (c : Dev nD) : main (F := F) c = Pipeline.chain ((preI.map fun ops => (StableHlo.seq ops : Prog _ PUnit))
    ++ HostLoop.enter 0 :: postI.map fun ops => (StableHlo.seq ops : Prog _ PUnit)) := by
  simp only [List.map_cons, List.map_nil, List.cons_append, List.nil_append]
  repeat first | rewrite [StableHlo.chain_seq_cons] | rewrite [Pipeline.chain_cons]
  chain_rfl

set_option maxHeartbeats 2000000 in
/-- The loop's body is its three stretches. -/
theorem body_chain : main_while0_body (F := F) = Pipeline.chain (bodyI.map fun ops => (StableHlo.seq ops : Prog _ PUnit)) := by
  simp only [List.map_cons, List.map_nil]
  repeat first | rewrite [StableHlo.chain_seq_cons] | rewrite [Pipeline.chain_cons]
  chain_rfl

/-- Before the loop, every buffer used is one of the program's. -/
theorem preOps_sub : (preOps : List (HloOp τ sig (Elt F))).Forall fun op => op.bufs ⊆ StableHlo.tcRefs τ sig :=
  ⟨StableHlo.reshape_bufs_sub .., StableHlo.unary_bufs_sub .., StableHlo.binary_bufs_sub .., StableHlo.binary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩
/-- In the loop's step, every buffer used is one of the program's. -/
theorem bodyOps_sub : (bodyOps : List (HloOp τ sig (Elt F))).Forall fun op => op.bufs ⊆ StableHlo.tcRefs τ sig :=
  ⟨StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.nullary_bufs_sub .., StableHlo.unary_bufs_sub .., StableHlo.binary_bufs_sub .., StableHlo.binary_bufs_sub .., StableHlo.binary_bufs_sub .., StableHlo.binary_bufs_sub ..⟩
/-- In the row's store, every buffer used is one of the program's. -/
theorem storeOps_sub : (storeOps : List (HloOp τ sig (Elt F))).Forall fun op => op.bufs ⊆ StableHlo.tcRefs τ sig :=
  ⟨StableHlo.unary_bufs_sub .., StableHlo.nullary_bufs_sub .., StableHlo.binaryIndexed_bufs_sub ..⟩
/-- In the carry of the state, every buffer used is one of the program's. -/
theorem carryOps_sub : (carryOps : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub ..⟩
/-- In the index part, every buffer used is one of the program's. -/
theorem postIx_sub : (postIx : List (HloOp τ sig (Elt F))).Forall fun op => op.bufs ⊆ StableHlo.tcRefs τ sig :=
  ⟨StableHlo.nullary_bufs_sub .., StableHlo.nullary_bufs_sub .., StableHlo.binary_bufs_sub .., StableHlo.unary_bufs_sub .., StableHlo.binary_bufs_sub ..⟩
/-- In the edge part, every buffer used is one of the program's. -/
theorem postEdge_sub : (postEdge : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub ..⟩
/-- In the first convolution, every buffer used is one of the program's. -/
theorem postConv0_sub : (postConv0 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.nullary_bufs_sub .., StableHlo.unary_bufs_sub .., StableHlo.binary_bufs_sub ..⟩
/-- In the second convolution, every buffer used is one of the program's. -/
theorem postConv1_sub : (postConv1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.nullary_bufs_sub .., StableHlo.binary_bufs_sub ..⟩

/-- The operations before the loop name tensor buffers only. -/
theorem pre_plain : StableHlo.Plain (preI (F := F)) :=
  .cons preOps_sub .nil
/-- So do those of a trip. -/
theorem body_plain : StableHlo.Plain (bodyI (F := F)) :=
  .cons bodyOps_sub (.cons storeOps_sub
    (.cons carryOps_sub .nil))
/-- And those after the loop. -/
theorem post_plain : StableHlo.Plain (postI (F := F)) :=
  .cons postIx_sub (.cons postEdge_sub
    (.cons postConv0_sub (.cons postConv1_sub .nil)))

/-- A trip adds one to the counter. -/
theorem trip_ctr (V : Valuation τ sig (Elt F)) :
    afterL bodyI (after condOps V) (Proc.devRef .tc main_v6_3) = addi (V (Proc.devRef .tc main_v6_3)) (constantI S_ 32 1#32) := by
  simp only [StableHlo.afterL_cons, StableHlo.afterL_nil]
  after_reads_simp
  rfl

variable (m : (ℓ : Loc nD τ sig) → Buf (Elt F) ℓ) (ρ : Dev nD → PrngReg)

/-- Every buffer before trip `k`. -/
abbrev atK (k : ℕ) (c : Dev nD) : Valuation τ sig (Elt F) := atTrip condOps bodyI (StableHlo.entryContents preI m) k c

/-- The counter before trip `k`. -/
theorem ctr (c : Dev nD) : ∀ k, atK m k c (Proc.devRef .tc main_v6_3) = fun _ => Scf.iv 0#32 1#32 k
  | 0 => by
    show afterL preI _ _ = _
    simp only [StableHlo.afterL_cons, StableHlo.afterL_nil]
    after_reads_simp
    funext i; exact (Scf.iv_zero _ _).symm
  | k + 1 => by
    show afterL bodyI (after condOps (atK m k c)) _ = _
    rw [trip_ctr, ctr c k]
    funext i; exact (Scf.iv_succ _ _ _).symm

/-- The loop's bounds. -/
theorem ok512 : Scf.OK (0#32 : BitVec 32) 512#32 1#32 := by decide

/-- The number of trips. -/
theorem trips512 : Scf.trips (0#32 : BitVec 32) 512#32 1#32 = 512 := by decide

/-- The condition holds before each of the 512 trips and fails after them. -/
theorem cond_spec : StableHlo.CondSpec (pcfgs (F := F)) defs₀ loops main_while0_cond condOps bodyI (StableHlo.entryContents preI m) 512 := by
  intro k hk c bd
  have hctr := ctr m c k
  unfold main_while0_cond
  rw [wp_bind]
  iintro ⟨Hb, Hh⟩
  iapply (StableHlo.wp_hlo_within (Variants.lift Variants.none) (c : Thread nD τ) bd Set.univ (Pipeline.sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (Pipeline.sub_ucRefs _ (StableHlo.binary_bufs_sub ..))) $$ [Hb Hh]
  · isplitl [Hb]; · iexact Hb
    iexact Hh
  iintro ⟨Hb, Hh⟩
  erw [HostLoop.elt_apply]
  rw [wp_ret]; imodintro
  isplitr
  · ipureintro
    show Iff (IntOp.cmpi .slt (HloOp.result _ (atK m k c) main_v6_3 HostLoop.idx0)
        (HloOp.result _ (atK m k c) main_while0c_c_25 HostLoop.idx0) = 1#1) (k < 512)
    rw [StableHlo.nullary_result_ne _ _ _ _ (by decide), StableHlo.nullary_result, hctr]
    exact (Scf.cmpi_slt_iv_ub_iff ok512 (by rw [trips512]; exact hk)).trans (by rw [trips512])
  isplitl [Hb]; · iexact Hb
  simp only [condOps, StableHlo.after_cons, StableHlo.after_nil]; iexact Hh

/-- The run: every buffer ends at the fold of the stretches around 512 trips. -/
theorem run_all : θ_run defs (onTc (τ := τ) (main (F := F))) ⟨m, fun _ => 0, ρ⟩
    (fun r => ∀ (c : Dev nD) (b : Ref sig .tc), (Proc.devRef .tc b : DevRef τ sig).isScoped = false →
        r.2.mem ((c.tc : Thread nD τ).loc b) = StableHlo.finalContents condOps preI bodyI postI 512 m c (Proc.devRef .tc b)) :=
  StableHlo.run_loop pcfgs defs₀ loops main 0 main_while0_cond main_while0_body rfl preI bodyI postI condOps
    pre_plain body_plain post_plain main_chain body_chain 512 m ρ (cond_spec m)

end Cert.Proof.Ref

end

end
-- ==== Proof.RefVal.lean ====
module

public import proofs.«01_k».proof.Defs
public import proofs.«01_k».proof.Proof.RefRun
public import Idealize.ShloMosaic.Lib.Quiescent
public import Idealize.ShloMosaic.Lib.StableHlo.RunLoop
public import Idealize.ShloMosaic.Lib.StableHlo.RunRead
public import Idealize.ShloMosaic.Lib.Scf.Counter
public import Idealize.ShloMosaic.Lib.Scf.ExitTest
public import Idealize.ShloMosaic.Lib.HostLoop.Rules

@[expose] public section

set_option maxRecDepth 65536

noncomputable section

namespace Cert.Proof.Ref

open Cert.ReferenceIdeal Cert.ReferenceIdeal.Facts₀ Cert.ReferenceIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo (after held afterL atTrip)

variable {F : FTy → Type} [FloatOps F]

local instance : Cert.ReferenceIdeal.Facts := Cert.ReferenceIdeal.Gen.facts

/-- The input part of the gates, the same at every step. -/
def giR (arg1 : (⟨S192x128, .f32⟩ : BufTy).Contents (Elt F)) (v0 : (⟨S128, .f32⟩ : BufTy).Contents (Elt F)) (arg3 : (⟨S192, .f32⟩ : BufTy).Contents (Elt F)) :
    (⟨S192, .f32⟩ : BufTy).Contents (Elt F) :=
  let v1 : (⟨S128x192, .f32⟩ : BufTy).Contents (Elt F) := ((transpose S128x192 [1, 0] · transposes_S192x128_S128x192_1_0) : (⟨S192x128, .f32⟩ : BufTy).Contents (Elt F) → (⟨S128x192, .f32⟩ : BufTy).Contents (Elt F)) arg1
  let v2 : (⟨S192, .f32⟩ : BufTy).Contents (Elt F) := ((fun l r => Host.dotGeneral dot_S128_S128x192_S192_0_0_n_1_n_n none l r) : (⟨S128, .f32⟩ : BufTy).Contents (Elt F) → (⟨S128x192, .f32⟩ : BufTy).Contents (Elt F) → (⟨S192, .f32⟩ : BufTy).Contents (Elt F)) v0 v1
  let v3 : (⟨S192, .f32⟩ : BufTy).Contents (Elt F) := (addf : (⟨S192, .f32⟩ : BufTy).Contents (Elt F) → (⟨S192, .f32⟩ : BufTy).Contents (Elt F) → (⟨S192, .f32⟩ : BufTy).Contents (Elt F)) v2 arg3
  v3

/-- One step of the recurrence. -/
def stepR (v6_0 : (⟨S192x64, .f32⟩ : BufTy).Contents (Elt F)) (v6_4 : (⟨S64, .f32⟩ : BufTy).Contents (Elt F)) (v6_1 : (⟨S192, .f32⟩ : BufTy).Contents (Elt F)) (v6_2 : (⟨S192, .f32⟩ : BufTy).Contents (Elt F)) :
    (⟨S64, .f32⟩ : BufTy).Contents (Elt F) :=
  let v104 : (⟨S64x192, .f32⟩ : BufTy).Contents (Elt F) := ((transpose S64x192 [1, 0] · transposes_S192x64_S64x192_1_0) : (⟨S192x64, .f32⟩ : BufTy).Contents (Elt F) → (⟨S64x192, .f32⟩ : BufTy).Contents (Elt F)) v6_0
  let v105 : (⟨S192, .f32⟩ : BufTy).Contents (Elt F) := ((fun l r => Host.dotGeneral dot_S64_S64x192_S192_0_0_n_1_n_n none l r) : (⟨S64, .f32⟩ : BufTy).Contents (Elt F) → (⟨S64x192, .f32⟩ : BufTy).Contents (Elt F) → (⟨S192, .f32⟩ : BufTy).Contents (Elt F)) v6_4 v104
  let v106 : (⟨S192, .f32⟩ : BufTy).Contents (Elt F) := (addf : (⟨S192, .f32⟩ : BufTy).Contents (Elt F) → (⟨S192, .f32⟩ : BufTy).Contents (Elt F) → (⟨S192, .f32⟩ : BufTy).Contents (Elt F)) v105 v6_1
  let v107 : (⟨S64, .f32⟩ : BufTy).Contents (Elt F) := ((extractStridedSlice S64 ![0] · slices_S192_S64_0) : (⟨S192, .f32⟩ : BufTy).Contents (Elt F) → (⟨S64, .f32⟩ : BufTy).Contents (Elt F)) v6_2
  let v108 : (⟨S64, .f32⟩ : BufTy).Contents (Elt F) := ((extractStridedSlice S64 ![0] · slices_S192_S64_0) : (⟨S192, .f32⟩ : BufTy).Contents (Elt F) → (⟨S64, .f32⟩ : BufTy).Contents (Elt F)) v106
  let v109 : (⟨S64, .f32⟩ : BufTy).Contents (Elt F) := (addf : (⟨S64, .f32⟩ : BufTy).Contents (Elt F) → (⟨S64, .f32⟩ : BufTy).Contents (Elt F) → (⟨S64, .f32⟩ : BufTy).Contents (Elt F)) v107 v108
  let v110 : (⟨S64, .f32⟩ : BufTy).Contents (Elt F) := (Host.negf : (⟨S64, .f32⟩ : BufTy).Contents (Elt F) → (⟨S64, .f32⟩ : BufTy).Contents (Elt F)) v109
  let v111 : (⟨S64, .f32⟩ : BufTy).Contents (Elt F) := (Host.exp : (⟨S64, .f32⟩ : BufTy).Contents (Elt F) → (⟨S64, .f32⟩ : BufTy).Contents (Elt F)) v110
  let cst_25 := (constant S_ .f32 0x3F800000#32)
  let v112 : (⟨S64, .f32⟩ : BufTy).Contents (Elt F) := (broadcastInDim S64 ![] bcast_S_S64 : (⟨S_, .f32⟩ : BufTy).Contents (Elt F) → (⟨S64, .f32⟩ : BufTy).Contents (Elt F)) cst_25
  let v113 : (⟨S64, .f32⟩ : BufTy).Contents (Elt F) := (addf : (⟨S64, .f32⟩ : BufTy).Contents (Elt F) → (⟨S64, .f32⟩ : BufTy).Contents (Elt F) → (⟨S64, .f32⟩ : BufTy).Contents (Elt F)) v112 v111
  let cst_26 := (constant S_ .f32 0x3F800000#32)
  let v114 : (⟨S64, .f32⟩ : BufTy).Contents (Elt F) := (broadcastInDim S64 ![] bcast_S_S64 : (⟨S_, .f32⟩ : BufTy).Contents (Elt F) → (⟨S64, .f32⟩ : BufTy).Contents (Elt F)) cst_26
  let v115 : (⟨S64, .f32⟩ : BufTy).Contents (Elt F) := (Host.divf : (⟨S64, .f32⟩ : BufTy).Contents (Elt F) → (⟨S64, .f32⟩ : BufTy).Contents (Elt F) → (⟨S64, .f32⟩ : BufTy).Contents (Elt F)) v114 v113
  let v116 : (⟨S64, .f32⟩ : BufTy).Contents (Elt F) := ((extractStridedSlice S64 ![64] · slices_S192_S64_64) : (⟨S192, .f32⟩ : BufTy).Contents (Elt F) → (⟨S64, .f32⟩ : BufTy).Contents (Elt F)) v6_2
  let v117 : (⟨S64, .f32⟩ : BufTy).Contents (Elt F) := ((extractStridedSlice S64 ![64] · slices_S192_S64_64) : (⟨S192, .f32⟩ : BufTy).Contents (Elt F) → (⟨S64, .f32⟩ : BufTy).Contents (Elt F)) v106
  let v118 : (⟨S64, .f32⟩ : BufTy).Contents (Elt F) := (addf : (⟨S64, .f32⟩ : BufTy).Contents (Elt F) → (⟨S64, .f32⟩ : BufTy).Contents (Elt F) → (⟨S64, .f32⟩ : BufTy).Contents (Elt F)) v116 v117
  let v119 : (⟨S64, .f32⟩ : BufTy).Contents (Elt F) := (Host.negf : (⟨S64, .f32⟩ : BufTy).Contents (Elt F) → (⟨S64, .f32⟩ : BufTy).Contents (Elt F)) v118
  let v120 : (⟨S64, .f32⟩ : BufTy).Contents (Elt F) := (Host.exp : (⟨S64, .f32⟩ : BufTy).Contents (Elt F) → (⟨S64, .f32⟩ : BufTy).Contents (Elt F)) v119
  let cst_27 := (constant S_ .f32 0x3F800000#32)
  let v121 : (⟨S64, .f32⟩ : BufTy).Contents (Elt F) := (broadcastInDim S64 ![] bcast_S_S64 : (⟨S_, .f32⟩ : BufTy).Contents (Elt F) → (⟨S64, .f32⟩ : BufTy).Contents (Elt F)) cst_27
  let v122 : (⟨S64, .f32⟩ : BufTy).Contents (Elt F) := (addf : (⟨S64, .f32⟩ : BufTy).Contents (Elt F) → (⟨S64, .f32⟩ : BufTy).Contents (Elt F) → (⟨S64, .f32⟩ : BufTy).Contents (Elt F)) v121 v120
  let cst_28 := (constant S_ .f32 0x3F800000#32)
  let v123 : (⟨S64, .f32⟩ : BufTy).Contents (Elt F) := (broadcastInDim S64 ![] bcast_S_S64 : (⟨S_, .f32⟩ : BufTy).Contents (Elt F) → (⟨S64, .f32⟩ : BufTy).Contents (Elt F)) cst_28
  let v124 : (⟨S64, .f32⟩ : BufTy).Contents (Elt F) := (Host.divf : (⟨S64, .f32⟩ : BufTy).Contents (Elt F) → (⟨S64, .f32⟩ : BufTy).Contents (Elt F) → (⟨S64, .f32⟩ : BufTy).Contents (Elt F)) v123 v122
  let v125 : (⟨S64, .f32⟩ : BufTy).Contents (Elt F) := ((extractStridedSlice S64 ![128] · slices_S192_S64_128) : (⟨S192, .f32⟩ : BufTy).Contents (Elt F) → (⟨S64, .f32⟩ : BufTy).Contents (Elt F)) v6_2
  let v126 : (⟨S64, .f32⟩ : BufTy).Contents (Elt F) := ((extractStridedSlice S64 ![128] · slices_S192_S64_128) : (⟨S192, .f32⟩ : BufTy).Contents (Elt F) → (⟨S64, .f32⟩ : BufTy).Contents (Elt F)) v106
  let v127 : (⟨S64, .f32⟩ : BufTy).Contents (Elt F) := (mulf : (⟨S64, .f32⟩ : BufTy).Contents (Elt F) → (⟨S64, .f32⟩ : BufTy).Contents (Elt F) → (⟨S64, .f32⟩ : BufTy).Contents (Elt F)) v115 v126
  let v128 : (⟨S64, .f32⟩ : BufTy).Contents (Elt F) := (addf : (⟨S64, .f32⟩ : BufTy).Contents (Elt F) → (⟨S64, .f32⟩ : BufTy).Contents (Elt F) → (⟨S64, .f32⟩ : BufTy).Contents (Elt F)) v125 v127
  let v129 : (⟨S64, .f32⟩ : BufTy).Contents (Elt F) := (Host.tanh : (⟨S64, .f32⟩ : BufTy).Contents (Elt F) → (⟨S64, .f32⟩ : BufTy).Contents (Elt F)) v128
  let cst_29 := (constant S_ .f32 0x3F800000#32)
  let v130 : (⟨S64, .f32⟩ : BufTy).Contents (Elt F) := (broadcastInDim S64 ![] bcast_S_S64 : (⟨S_, .f32⟩ : BufTy).Contents (Elt F) → (⟨S64, .f32⟩ : BufTy).Contents (Elt F)) cst_29
  let v131 : (⟨S64, .f32⟩ : BufTy).Contents (Elt F) := (subf : (⟨S64, .f32⟩ : BufTy).Contents (Elt F) → (⟨S64, .f32⟩ : BufTy).Contents (Elt F) → (⟨S64, .f32⟩ : BufTy).Contents (Elt F)) v130 v124
  let v132 : (⟨S64, .f32⟩ : BufTy).Contents (Elt F) := (mulf : (⟨S64, .f32⟩ : BufTy).Contents (Elt F) → (⟨S64, .f32⟩ : BufTy).Contents (Elt F) → (⟨S64, .f32⟩ : BufTy).Contents (Elt F)) v131 v129
  let v133 : (⟨S64, .f32⟩ : BufTy).Contents (Elt F) := (mulf : (⟨S64, .f32⟩ : BufTy).Contents (Elt F) → (⟨S64, .f32⟩ : BufTy).Contents (Elt F) → (⟨S64, .f32⟩ : BufTy).Contents (Elt F)) v124 v6_4
  let v134 : (⟨S64, .f32⟩ : BufTy).Contents (Elt F) := (addf : (⟨S64, .f32⟩ : BufTy).Contents (Elt F) → (⟨S64, .f32⟩ : BufTy).Contents (Elt F) → (⟨S64, .f32⟩ : BufTy).Contents (Elt F)) v132 v133
  v134

/-- The source of each edge. -/
def srcR :
    (⟨S512x511, .i32⟩ : BufTy).Contents (Elt F) :=
  let v7 := (iotaInDim S512x511 32 0)
  v7

/-- The target of each edge. -/
def dstR  :
    (⟨S512x511, .i32⟩ : BufTy).Contents (Elt F) :=
  let v7 := (iotaInDim S512x511 32 0)
  let v8 := (iotaInDim S512x511 32 1)
  let v9 : (⟨S512x511, .i1⟩ : BufTy).Contents (Elt F) := (cmpi .sge : (⟨S512x511, .i32⟩ : BufTy).Contents (Elt F) → (⟨S512x511, .i32⟩ : BufTy).Contents (Elt F) → (⟨S512x511, .i1⟩ : BufTy).Contents (Elt F)) v8 v7
  let v10 : (⟨S512x511, .i32⟩ : BufTy).Contents (Elt F) := ((extui 32 · natLt_1_32) : (⟨S512x511, .i1⟩ : BufTy).Contents (Elt F) → (⟨S512x511, .i32⟩ : BufTy).Contents (Elt F)) v9
  let v11 : (⟨S512x511, .i32⟩ : BufTy).Contents (Elt F) := (addi : (⟨S512x511, .i32⟩ : BufTy).Contents (Elt F) → (⟨S512x511, .i32⟩ : BufTy).Contents (Elt F) → (⟨S512x511, .i32⟩ : BufTy).Contents (Elt F)) v8 v10
  v11

/-- The rows of an array that an index array names. -/
def rowsR (v7 : (⟨S512x511, .i32⟩ : BufTy).Contents (Elt F)) (v6_5 : (⟨S512x64, .f32⟩ : BufTy).Contents (Elt F)) :
    (⟨S512x511x64, .f32⟩ : BufTy).Contents (Elt F) :=
  let c_1 := (constantI S_ 32 0#32)
  let v12 : (⟨S512x511, .i32⟩ : BufTy).Contents (Elt F) := (broadcastInDim S512x511 ![] bcast_S_S512x511 : (⟨S_, .i32⟩ : BufTy).Contents (Elt F) → (⟨S512x511, .i32⟩ : BufTy).Contents (Elt F)) c_1
  let v13 : (⟨S512x511, .i1⟩ : BufTy).Contents (Elt F) := (cmpi .slt : (⟨S512x511, .i32⟩ : BufTy).Contents (Elt F) → (⟨S512x511, .i32⟩ : BufTy).Contents (Elt F) → (⟨S512x511, .i1⟩ : BufTy).Contents (Elt F)) v7 v12
  let c_2 := (constantI S_ 32 512#32)
  let v14 : (⟨S512x511, .i32⟩ : BufTy).Contents (Elt F) := (broadcastInDim S512x511 ![] bcast_S_S512x511 : (⟨S_, .i32⟩ : BufTy).Contents (Elt F) → (⟨S512x511, .i32⟩ : BufTy).Contents (Elt F)) c_2
  let v15 : (⟨S512x511, .i32⟩ : BufTy).Contents (Elt F) := (addi : (⟨S512x511, .i32⟩ : BufTy).Contents (Elt F) → (⟨S512x511, .i32⟩ : BufTy).Contents (Elt F) → (⟨S512x511, .i32⟩ : BufTy).Contents (Elt F)) v7 v14
  let v16 : (⟨S512x511, .i32⟩ : BufTy).Contents (Elt F) := (select : (⟨S512x511, .i1⟩ : BufTy).Contents (Elt F) → (⟨S512x511, .i32⟩ : BufTy).Contents (Elt F) → (⟨S512x511, .i32⟩ : BufTy).Contents (Elt F) → (⟨S512x511, .i32⟩ : BufTy).Contents (Elt F)) v13 v15 v7
  let v17 : (⟨S512x511x1, .i32⟩ : BufTy).Contents (Elt F) := (broadcastInDim S512x511x1 ![0, 1] bcast_S512x511_S512x511x1_0_1 : (⟨S512x511, .i32⟩ : BufTy).Contents (Elt F) → (⟨S512x511x1, .i32⟩ : BufTy).Contents (Elt F)) v16
  let v18 : (⟨S512x511x64, .f32⟩ : BufTy).Contents (Elt F) := ((fun x i => Host.gather gather_S512x64_S512x511x1_S512x511x64_2_0_n_n_0_2_164 x i) : (⟨S512x64, .f32⟩ : BufTy).Contents (Elt F) → (⟨S512x511x1, .i32⟩ : BufTy).Contents (Elt F) → (⟨S512x511x64, .f32⟩ : BufTy).Contents (Elt F)) v6_5 v17
  v18

/-- The features of each edge. -/
def edgeR (v18 : (⟨S512x511x64, .f32⟩ : BufTy).Contents (Elt F)) (v25 : (⟨S512x511x64, .f32⟩ : BufTy).Contents (Elt F)) (arg5 : (⟨S128x256, .f32⟩ : BufTy).Contents (Elt F)) (arg6 : (⟨S256, .f32⟩ : BufTy).Contents (Elt F)) (arg7 : (⟨S256x16, .f32⟩ : BufTy).Contents (Elt F)) (arg8 : (⟨S16, .f32⟩ : BufTy).Contents (Elt F)) :
    (⟨S512x511x16, .f32⟩ : BufTy).Contents (Elt F) :=
  let v26 : (⟨S512x511x128, .f32⟩ : BufTy).Contents (Elt F) := ((fun a b => concatenate S512x511x128 2 [⟨S512x511x64, a⟩, ⟨S512x511x64, b⟩] concatenates_S512x511x64_S512x511x64_S512x511x128_d2) : (⟨S512x511x64, .f32⟩ : BufTy).Contents (Elt F) → (⟨S512x511x64, .f32⟩ : BufTy).Contents (Elt F) → (⟨S512x511x128, .f32⟩ : BufTy).Contents (Elt F)) v18 v25
  let v27 : (⟨S512x511x256, .f32⟩ : BufTy).Contents (Elt F) := ((fun l r => Host.dotGeneral dot_S512x511x128_S128x256_S512x511x256_2_0_01_1_n_n none l r) : (⟨S512x511x128, .f32⟩ : BufTy).Contents (Elt F) → (⟨S128x256, .f32⟩ : BufTy).Contents (Elt F) → (⟨S512x511x256, .f32⟩ : BufTy).Contents (Elt F)) v26 arg5
  let v28 : (⟨S1x1x256, .f32⟩ : BufTy).Contents (Elt F) := (broadcastInDim S1x1x256 ![2] bcast_S256_S1x1x256_2 : (⟨S256, .f32⟩ : BufTy).Contents (Elt F) → (⟨S1x1x256, .f32⟩ : BufTy).Contents (Elt F)) arg6
  let v29 : (⟨S512x511x256, .f32⟩ : BufTy).Contents (Elt F) := (broadcastInDim S512x511x256 ![0, 1, 2] bcast_S1x1x256_S512x511x256_0_1_2 : (⟨S1x1x256, .f32⟩ : BufTy).Contents (Elt F) → (⟨S512x511x256, .f32⟩ : BufTy).Contents (Elt F)) v28
  let v30 : (⟨S512x511x256, .f32⟩ : BufTy).Contents (Elt F) := (addf : (⟨S512x511x256, .f32⟩ : BufTy).Contents (Elt F) → (⟨S512x511x256, .f32⟩ : BufTy).Contents (Elt F) → (⟨S512x511x256, .f32⟩ : BufTy).Contents (Elt F)) v27 v29
  let cst_5 := (constant S_ .f32 0x00000000#32)
  let v31 : (⟨S512x511x256, .f32⟩ : BufTy).Contents (Elt F) := (broadcastInDim S512x511x256 ![] bcast_S_S512x511x256 : (⟨S_, .f32⟩ : BufTy).Contents (Elt F) → (⟨S512x511x256, .f32⟩ : BufTy).Contents (Elt F)) cst_5
  let v32 : (⟨S512x511x256, .f32⟩ : BufTy).Contents (Elt F) := (maximumf : (⟨S512x511x256, .f32⟩ : BufTy).Contents (Elt F) → (⟨S512x511x256, .f32⟩ : BufTy).Contents (Elt F) → (⟨S512x511x256, .f32⟩ : BufTy).Contents (Elt F)) v30 v31
  let v33 : (⟨S512x511x16, .f32⟩ : BufTy).Contents (Elt F) := ((fun l r => Host.dotGeneral dot_S512x511x256_S256x16_S512x511x16_2_0_01_1_n_n none l r) : (⟨S512x511x256, .f32⟩ : BufTy).Contents (Elt F) → (⟨S256x16, .f32⟩ : BufTy).Contents (Elt F) → (⟨S512x511x16, .f32⟩ : BufTy).Contents (Elt F)) v32 arg7
  let v34 : (⟨S1x1x16, .f32⟩ : BufTy).Contents (Elt F) := (broadcastInDim S1x1x16 ![2] bcast_S16_S1x1x16_2 : (⟨S16, .f32⟩ : BufTy).Contents (Elt F) → (⟨S1x1x16, .f32⟩ : BufTy).Contents (Elt F)) arg8
  let v35 : (⟨S512x511x16, .f32⟩ : BufTy).Contents (Elt F) := (broadcastInDim S512x511x16 ![0, 1, 2] bcast_S1x1x16_S512x511x16_0_1_2 : (⟨S1x1x16, .f32⟩ : BufTy).Contents (Elt F) → (⟨S512x511x16, .f32⟩ : BufTy).Contents (Elt F)) v34
  let v36 : (⟨S512x511x16, .f32⟩ : BufTy).Contents (Elt F) := (addf : (⟨S512x511x16, .f32⟩ : BufTy).Contents (Elt F) → (⟨S512x511x16, .f32⟩ : BufTy).Contents (Elt F) → (⟨S512x511x16, .f32⟩ : BufTy).Contents (Elt F)) v33 v35
  v36

/-- The weight of each edge. -/
def alphaR (v36 : (⟨S512x511x16, .f32⟩ : BufTy).Contents (Elt F)) (v43 : (⟨S512x511x64, .f32⟩ : BufTy).Contents (Elt F)) (arg9 : (⟨S80x8, .f32⟩ : BufTy).Contents (Elt F)) (arg10 : (⟨S8, .f32⟩ : BufTy).Contents (Elt F)) (arg11 : (⟨S8x1, .f32⟩ : BufTy).Contents (Elt F)) (arg12 : (⟨S1, .f32⟩ : BufTy).Contents (Elt F)) :
    (⟨S512x511x1, .f32⟩ : BufTy).Contents (Elt F) :=
  let v44 : (⟨S512x511x80, .f32⟩ : BufTy).Contents (Elt F) := ((fun a b => concatenate S512x511x80 2 [⟨S512x511x16, a⟩, ⟨S512x511x64, b⟩] concatenates_S512x511x16_S512x511x64_S512x511x80_d2) : (⟨S512x511x16, .f32⟩ : BufTy).Contents (Elt F) → (⟨S512x511x64, .f32⟩ : BufTy).Contents (Elt F) → (⟨S512x511x80, .f32⟩ : BufTy).Contents (Elt F)) v36 v43
  let v45 : (⟨S512x511x8, .f32⟩ : BufTy).Contents (Elt F) := ((fun l r => Host.dotGeneral dot_S512x511x80_S80x8_S512x511x8_2_0_01_1_n_n none l r) : (⟨S512x511x80, .f32⟩ : BufTy).Contents (Elt F) → (⟨S80x8, .f32⟩ : BufTy).Contents (Elt F) → (⟨S512x511x8, .f32⟩ : BufTy).Contents (Elt F)) v44 arg9
  let v46 : (⟨S1x1x8, .f32⟩ : BufTy).Contents (Elt F) := (broadcastInDim S1x1x8 ![2] bcast_S8_S1x1x8_2 : (⟨S8, .f32⟩ : BufTy).Contents (Elt F) → (⟨S1x1x8, .f32⟩ : BufTy).Contents (Elt F)) arg10
  let v47 : (⟨S512x511x8, .f32⟩ : BufTy).Contents (Elt F) := (broadcastInDim S512x511x8 ![0, 1, 2] bcast_S1x1x8_S512x511x8_0_1_2 : (⟨S1x1x8, .f32⟩ : BufTy).Contents (Elt F) → (⟨S512x511x8, .f32⟩ : BufTy).Contents (Elt F)) v46
  let v48 : (⟨S512x511x8, .f32⟩ : BufTy).Contents (Elt F) := (addf : (⟨S512x511x8, .f32⟩ : BufTy).Contents (Elt F) → (⟨S512x511x8, .f32⟩ : BufTy).Contents (Elt F) → (⟨S512x511x8, .f32⟩ : BufTy).Contents (Elt F)) v45 v47
  let cst_8 := (constant S_ .f32 0x00000000#32)
  let v49 : (⟨S512x511x8, .f32⟩ : BufTy).Contents (Elt F) := (broadcastInDim S512x511x8 ![] bcast_S_S512x511x8 : (⟨S_, .f32⟩ : BufTy).Contents (Elt F) → (⟨S512x511x8, .f32⟩ : BufTy).Contents (Elt F)) cst_8
  let v50 : (⟨S512x511x8, .f32⟩ : BufTy).Contents (Elt F) := (maximumf : (⟨S512x511x8, .f32⟩ : BufTy).Contents (Elt F) → (⟨S512x511x8, .f32⟩ : BufTy).Contents (Elt F) → (⟨S512x511x8, .f32⟩ : BufTy).Contents (Elt F)) v48 v49
  let v51 : (⟨S512x511x1, .f32⟩ : BufTy).Contents (Elt F) := ((fun l r => Host.dotGeneral dot_S512x511x8_S8x1_S512x511x1_2_0_01_1_n_n none l r) : (⟨S512x511x8, .f32⟩ : BufTy).Contents (Elt F) → (⟨S8x1, .f32⟩ : BufTy).Contents (Elt F) → (⟨S512x511x1, .f32⟩ : BufTy).Contents (Elt F)) v50 arg11
  let v52 : (⟨S1x1x1, .f32⟩ : BufTy).Contents (Elt F) := (broadcastInDim S1x1x1 ![2] bcast_S1_S1x1x1_2 : (⟨S1, .f32⟩ : BufTy).Contents (Elt F) → (⟨S1x1x1, .f32⟩ : BufTy).Contents (Elt F)) arg12
  let v53 : (⟨S512x511x1, .f32⟩ : BufTy).Contents (Elt F) := (broadcastInDim S512x511x1 ![0, 1, 2] bcast_S1x1x1_S512x511x1_0_1_2 : (⟨S1x1x1, .f32⟩ : BufTy).Contents (Elt F) → (⟨S512x511x1, .f32⟩ : BufTy).Contents (Elt F)) v52
  let v54 : (⟨S512x511x1, .f32⟩ : BufTy).Contents (Elt F) := (addf : (⟨S512x511x1, .f32⟩ : BufTy).Contents (Elt F) → (⟨S512x511x1, .f32⟩ : BufTy).Contents (Elt F) → (⟨S512x511x1, .f32⟩ : BufTy).Contents (Elt F)) v51 v53
  v54

/-- The message along each edge. -/
def msgR (v43 : (⟨S512x511x64, .f32⟩ : BufTy).Contents (Elt F)) (arg17 : (⟨S64x64, .f32⟩ : BufTy).Contents (Elt F)) (arg18 : (⟨S64, .f32⟩ : BufTy).Contents (Elt F)) (v54 : (⟨S512x511x1, .f32⟩ : BufTy).Contents (Elt F)) :
    (⟨S512x511x64, .f32⟩ : BufTy).Contents (Elt F) :=
  let v55 : (⟨S512x511x64, .f32⟩ : BufTy).Contents (Elt F) := ((fun l r => Host.dotGeneral dot_S512x511x64_S64x64_S512x511x64_2_0_01_1_n_n none l r) : (⟨S512x511x64, .f32⟩ : BufTy).Contents (Elt F) → (⟨S64x64, .f32⟩ : BufTy).Contents (Elt F) → (⟨S512x511x64, .f32⟩ : BufTy).Contents (Elt F)) v43 arg17
  let v56 : (⟨S1x1x64, .f32⟩ : BufTy).Contents (Elt F) := (broadcastInDim S1x1x64 ![2] bcast_S64_S1x1x64_2 : (⟨S64, .f32⟩ : BufTy).Contents (Elt F) → (⟨S1x1x64, .f32⟩ : BufTy).Contents (Elt F)) arg18
  let v57 : (⟨S512x511x64, .f32⟩ : BufTy).Contents (Elt F) := (broadcastInDim S512x511x64 ![0, 1, 2] bcast_S1x1x64_S512x511x64_0_1_2 : (⟨S1x1x64, .f32⟩ : BufTy).Contents (Elt F) → (⟨S512x511x64, .f32⟩ : BufTy).Contents (Elt F)) v56
  let v58 : (⟨S512x511x64, .f32⟩ : BufTy).Contents (Elt F) := (addf : (⟨S512x511x64, .f32⟩ : BufTy).Contents (Elt F) → (⟨S512x511x64, .f32⟩ : BufTy).Contents (Elt F) → (⟨S512x511x64, .f32⟩ : BufTy).Contents (Elt F)) v55 v57
  let v59 : (⟨S512x511x64, .f32⟩ : BufTy).Contents (Elt F) := (broadcastInDim S512x511x64 ![0, 1, 2] bcast_S512x511x1_S512x511x64_0_1_2 : (⟨S512x511x1, .f32⟩ : BufTy).Contents (Elt F) → (⟨S512x511x64, .f32⟩ : BufTy).Contents (Elt F)) v54
  let v60 : (⟨S512x511x64, .f32⟩ : BufTy).Contents (Elt F) := (mulf : (⟨S512x511x64, .f32⟩ : BufTy).Contents (Elt F) → (⟨S512x511x64, .f32⟩ : BufTy).Contents (Elt F) → (⟨S512x511x64, .f32⟩ : BufTy).Contents (Elt F)) v59 v58
  v60

/-- The messages added at their targets. -/
def addR (v11 : (⟨S512x511, .i32⟩ : BufTy).Contents (Elt F)) (v60 : (⟨S512x511x64, .f32⟩ : BufTy).Contents (Elt F)) :
    (⟨S512x64, .f32⟩ : BufTy).Contents (Elt F) :=
  let cst_9 := (constant S_ .f32 0x00000000#32)
  let v61 : (⟨S512x64, .f32⟩ : BufTy).Contents (Elt F) := (broadcastInDim S512x64 ![] bcast_S_S512x64 : (⟨S_, .f32⟩ : BufTy).Contents (Elt F) → (⟨S512x64, .f32⟩ : BufTy).Contents (Elt F)) cst_9
  let c_10 := (constantI S_ 32 0#32)
  let v62 : (⟨S512x511, .i32⟩ : BufTy).Contents (Elt F) := (broadcastInDim S512x511 ![] bcast_S_S512x511 : (⟨S_, .i32⟩ : BufTy).Contents (Elt F) → (⟨S512x511, .i32⟩ : BufTy).Contents (Elt F)) c_10
  let v63 : (⟨S512x511, .i1⟩ : BufTy).Contents (Elt F) := (cmpi .slt : (⟨S512x511, .i32⟩ : BufTy).Contents (Elt F) → (⟨S512x511, .i32⟩ : BufTy).Contents (Elt F) → (⟨S512x511, .i1⟩ : BufTy).Contents (Elt F)) v11 v62
  let c_11 := (constantI S_ 32 512#32)
  let v64 : (⟨S512x511, .i32⟩ : BufTy).Contents (Elt F) := (broadcastInDim S512x511 ![] bcast_S_S512x511 : (⟨S_, .i32⟩ : BufTy).Contents (Elt F) → (⟨S512x511, .i32⟩ : BufTy).Contents (Elt F)) c_11
  let v65 : (⟨S512x511, .i32⟩ : BufTy).Contents (Elt F) := (addi : (⟨S512x511, .i32⟩ : BufTy).Contents (Elt F) → (⟨S512x511, .i32⟩ : BufTy).Contents (Elt F) → (⟨S512x511, .i32⟩ : BufTy).Contents (Elt F)) v11 v64
  let v66 : (⟨S512x511, .i32⟩ : BufTy).Contents (Elt F) := (select : (⟨S512x511, .i1⟩ : BufTy).Contents (Elt F) → (⟨S512x511, .i32⟩ : BufTy).Contents (Elt F) → (⟨S512x511, .i32⟩ : BufTy).Contents (Elt F) → (⟨S512x511, .i32⟩ : BufTy).Contents (Elt F)) v63 v65 v11
  let v67 : (⟨S512x511x1, .i32⟩ : BufTy).Contents (Elt F) := (broadcastInDim S512x511x1 ![0, 1] bcast_S512x511_S512x511x1_0_1 : (⟨S512x511, .i32⟩ : BufTy).Contents (Elt F) → (⟨S512x511x1, .i32⟩ : BufTy).Contents (Elt F)) v66
  let v68 : (⟨S512x64, .f32⟩ : BufTy).Contents (Elt F) := ((fun x i u => Host.scatterAdd scatter_S512x64_S512x511x1_S512x511x64_2_0_0_2 x i u) : (⟨S512x64, .f32⟩ : BufTy).Contents (Elt F) → (⟨S512x511x1, .i32⟩ : BufTy).Contents (Elt F) → (⟨S512x511x64, .f32⟩ : BufTy).Contents (Elt F) → (⟨S512x64, .f32⟩ : BufTy).Contents (Elt F)) v61 v67 v60
  v68

/-- The activation of the node array. -/
def actR (v68 : (⟨S512x64, .f32⟩ : BufTy).Contents (Elt F)) :
    (⟨S512x64, .f32⟩ : BufTy).Contents (Elt F) :=
  let cst_12 := (constant S_ .f32 0x00000000#32)
  let v69 : (⟨S512x64, .f32⟩ : BufTy).Contents (Elt F) := (broadcastInDim S512x64 ![] bcast_S_S512x64 : (⟨S_, .f32⟩ : BufTy).Contents (Elt F) → (⟨S512x64, .f32⟩ : BufTy).Contents (Elt F)) cst_12
  let v70 : (⟨S512x64, .f32⟩ : BufTy).Contents (Elt F) := (maximumf : (⟨S512x64, .f32⟩ : BufTy).Contents (Elt F) → (⟨S512x64, .f32⟩ : BufTy).Contents (Elt F) → (⟨S512x64, .f32⟩ : BufTy).Contents (Elt F)) v68 v69
  v70

/-- The sum over the nodes. -/
def sumR (v102 : (⟨S512x64, .f32⟩ : BufTy).Contents (Elt F)) :
    (⟨S64, .f32⟩ : BufTy).Contents (Elt F) :=
  let cst_19 := (constant S_ .f32 0x00000000#32)
  let v103 : (⟨S64, .f32⟩ : BufTy).Contents (Elt F) := ((fun x v => Host.reduceAdd x v reducesTo_S512x64_S64_d0 h_S_) : (⟨S512x64, .f32⟩ : BufTy).Contents (Elt F) → (⟨S_, .f32⟩ : BufTy).Contents (Elt F) → (⟨S64, .f32⟩ : BufTy).Contents (Elt F)) v102 cst_19
  v103

/-- A row of an array replaced. -/
def setR (x : (⟨S512x64, .f32⟩ : BufTy).Contents (Elt F)) (h : (⟨S64, .f32⟩ : BufTy).Contents (Elt F)) (k : (⟨S_, .i32⟩ : BufTy).Contents (Elt F)) :
    (⟨S512x64, .f32⟩ : BufTy).Contents (Elt F) :=
  Host.dynamicUpdateSlice x (broadcastInDim S1x64 ![1] bcast_S64_S1x64_1 h)
    (fun i => ((![k, constantI S_ 32 0#32] : Fin 2 → IVec S_ 32) i (Shape.Idx.first h_S_)).toInt) updateFits_S512x64_S1x64

variable (V : Valuation τ sig (Elt F))

set_option maxHeartbeats 2000000 in
/-- A trip takes the state one step on. -/
theorem trip_h : afterL bodyI (after condOps V) (Proc.devRef .tc main_v6_4) = stepR (V (Proc.devRef .tc main_v6_0)) (V (Proc.devRef .tc main_v6_4)) (V (Proc.devRef .tc main_v6_1)) (V (Proc.devRef .tc main_v6_2)) := by
  simp only [StableHlo.afterL_cons, StableHlo.afterL_nil]
  after_reads_simp
  try rfl

set_option maxHeartbeats 2000000 in
/-- The row store. -/
theorem store_nodes : afterL [storeOps, carryOps] V (Proc.devRef .tc main_v6_5) = setR (V (Proc.devRef .tc main_v6_5)) (V (Proc.devRef .tc main_while0b_v134)) (V (Proc.devRef .tc main_v6_3)) := by
  simp only [StableHlo.afterL_cons, StableHlo.afterL_nil]
  after_reads_simp
  unfold setR
  simp only [id, StableHlo.TRef.toBuf, StableHlo.TRef.ofBuf, cast_eq]
  refine congrArg (fun i => Host.dynamicUpdateSlice _ _ i _) (funext fun k => ?_)
  match k with
  | 0 =>
    refine congrArg BitVec.toInt (congrFun ?_ _)
    show StableHlo.upto storeOps V 2 (Proc.tc.devRef main_v6_3) = _
    after_reads_simp
    try rfl
  | 1 =>
    refine congrArg BitVec.toInt (congrFun ?_ _)
    show StableHlo.upto storeOps V 2 (Proc.tc.devRef main_while0b_call0_c) = _
    after_reads_simp
    try rfl

set_option maxHeartbeats 2000000 in
/-- The loop body before the row store. -/
theorem body_vals : after bodyOps (after condOps V) (Proc.devRef .tc main_while0b_v134) = stepR (V (Proc.devRef .tc main_v6_0)) (V (Proc.devRef .tc main_v6_4)) (V (Proc.devRef .tc main_v6_1)) (V (Proc.devRef .tc main_v6_2))
    ∧ after bodyOps (after condOps V) (Proc.devRef .tc main_v6_5) = (V (Proc.devRef .tc main_v6_5)) ∧ after bodyOps (after condOps V) (Proc.devRef .tc main_v6_3) = (V (Proc.devRef .tc main_v6_3)) := by
  refine ⟨?_, ?_, ?_⟩ <;> after_reads_simp <;> try rfl

set_option maxHeartbeats 2000000 in
/-- A trip writes the new state into its row. -/
theorem trip_nodes : afterL bodyI (after condOps V) (Proc.devRef .tc main_v6_5) = setR (V (Proc.devRef .tc main_v6_5)) (stepR (V (Proc.devRef .tc main_v6_0)) (V (Proc.devRef .tc main_v6_4)) (V (Proc.devRef .tc main_v6_1)) (V (Proc.devRef .tc main_v6_2))) (V (Proc.devRef .tc main_v6_3)) := by
  obtain ⟨h1, h2, h3⟩ := body_vals V
  have h := store_nodes (after bodyOps (after condOps V))
  rw [h1, h2, h3] at h
  exact h

set_option maxHeartbeats 2000000 in
/-- A trip leaves the arguments and the loop constants. -/
theorem trip_keep : afterL bodyI (after condOps V) (Proc.devRef .tc main_arg0) = V (Proc.devRef .tc main_arg0)
    ∧ afterL bodyI (after condOps V) (Proc.devRef .tc main_arg1) = V (Proc.devRef .tc main_arg1)
    ∧ afterL bodyI (after condOps V) (Proc.devRef .tc main_arg2) = V (Proc.devRef .tc main_arg2)
    ∧ afterL bodyI (after condOps V) (Proc.devRef .tc main_arg3) = V (Proc.devRef .tc main_arg3)
    ∧ afterL bodyI (after condOps V) (Proc.devRef .tc main_arg4) = V (Proc.devRef .tc main_arg4)
    ∧ afterL bodyI (after condOps V) (Proc.devRef .tc main_arg5) = V (Proc.devRef .tc main_arg5)
    ∧ afterL bodyI (after condOps V) (Proc.devRef .tc main_arg6) = V (Proc.devRef .tc main_arg6)
    ∧ afterL bodyI (after condOps V) (Proc.devRef .tc main_arg7) = V (Proc.devRef .tc main_arg7)
    ∧ afterL bodyI (after condOps V) (Proc.devRef .tc main_arg8) = V (Proc.devRef .tc main_arg8)
    ∧ afterL bodyI (after condOps V) (Proc.devRef .tc main_arg9) = V (Proc.devRef .tc main_arg9)
    ∧ afterL bodyI (after condOps V) (Proc.devRef .tc main_arg10) = V (Proc.devRef .tc main_arg10)
    ∧ afterL bodyI (after condOps V) (Proc.devRef .tc main_arg11) = V (Proc.devRef .tc main_arg11)
    ∧ afterL bodyI (after condOps V) (Proc.devRef .tc main_arg12) = V (Proc.devRef .tc main_arg12)
    ∧ afterL bodyI (after condOps V) (Proc.devRef .tc main_arg13) = V (Proc.devRef .tc main_arg13)
    ∧ afterL bodyI (after condOps V) (Proc.devRef .tc main_arg14) = V (Proc.devRef .tc main_arg14)
    ∧ afterL bodyI (after condOps V) (Proc.devRef .tc main_arg15) = V (Proc.devRef .tc main_arg15)
    ∧ afterL bodyI (after condOps V) (Proc.devRef .tc main_arg16) = V (Proc.devRef .tc main_arg16)
    ∧ afterL bodyI (after condOps V) (Proc.devRef .tc main_arg17) = V (Proc.devRef .tc main_arg17)
    ∧ afterL bodyI (after condOps V) (Proc.devRef .tc main_arg18) = V (Proc.devRef .tc main_arg18)
    ∧ afterL bodyI (after condOps V) (Proc.devRef .tc main_arg19) = V (Proc.devRef .tc main_arg19)
    ∧ afterL bodyI (after condOps V) (Proc.devRef .tc main_arg20) = V (Proc.devRef .tc main_arg20)
    ∧ afterL bodyI (after condOps V) (Proc.devRef .tc main_v6_0) = V (Proc.devRef .tc main_v6_0)
    ∧ afterL bodyI (after condOps V) (Proc.devRef .tc main_v6_1) = V (Proc.devRef .tc main_v6_1)
    ∧ afterL bodyI (after condOps V) (Proc.devRef .tc main_v6_2) = V (Proc.devRef .tc main_v6_2) := by
  simp only [StableHlo.afterL_cons, StableHlo.afterL_nil]
  refine ⟨?_, ?_, ?_, ?_, ?_, ?_, ?_, ?_, ?_, ?_, ?_, ?_, ?_, ?_, ?_, ?_, ?_, ?_, ?_, ?_, ?_, ?_, ?_, ?_⟩ <;> after_reads_simp <;> try rfl

set_option maxHeartbeats 2000000 in
/-- The operations before the loop leave the arguments. -/
theorem pre_keep : after preOps V (Proc.devRef .tc main_arg0) = V (Proc.devRef .tc main_arg0)
    ∧ after preOps V (Proc.devRef .tc main_arg1) = V (Proc.devRef .tc main_arg1)
    ∧ after preOps V (Proc.devRef .tc main_arg2) = V (Proc.devRef .tc main_arg2)
    ∧ after preOps V (Proc.devRef .tc main_arg3) = V (Proc.devRef .tc main_arg3)
    ∧ after preOps V (Proc.devRef .tc main_arg4) = V (Proc.devRef .tc main_arg4)
    ∧ after preOps V (Proc.devRef .tc main_arg5) = V (Proc.devRef .tc main_arg5)
    ∧ after preOps V (Proc.devRef .tc main_arg6) = V (Proc.devRef .tc main_arg6)
    ∧ after preOps V (Proc.devRef .tc main_arg7) = V (Proc.devRef .tc main_arg7)
    ∧ after preOps V (Proc.devRef .tc main_arg8) = V (Proc.devRef .tc main_arg8)
    ∧ after preOps V (Proc.devRef .tc main_arg9) = V (Proc.devRef .tc main_arg9)
    ∧ after preOps V (Proc.devRef .tc main_arg10) = V (Proc.devRef .tc main_arg10)
    ∧ after preOps V (Proc.devRef .tc main_arg11) = V (Proc.devRef .tc main_arg11)
    ∧ after preOps V (Proc.devRef .tc main_arg12) = V (Proc.devRef .tc main_arg12)
    ∧ after preOps V (Proc.devRef .tc main_arg13) = V (Proc.devRef .tc main_arg13)
    ∧ after preOps V (Proc.devRef .tc main_arg14) = V (Proc.devRef .tc main_arg14)
    ∧ after preOps V (Proc.devRef .tc main_arg15) = V (Proc.devRef .tc main_arg15)
    ∧ after preOps V (Proc.devRef .tc main_arg16) = V (Proc.devRef .tc main_arg16)
    ∧ after preOps V (Proc.devRef .tc main_arg17) = V (Proc.devRef .tc main_arg17)
    ∧ after preOps V (Proc.devRef .tc main_arg18) = V (Proc.devRef .tc main_arg18)
    ∧ after preOps V (Proc.devRef .tc main_arg19) = V (Proc.devRef .tc main_arg19)
    ∧ after preOps V (Proc.devRef .tc main_arg20) = V (Proc.devRef .tc main_arg20) := by
  refine ⟨?_, ?_, ?_, ?_, ?_, ?_, ?_, ?_, ?_, ?_, ?_, ?_, ?_, ?_, ?_, ?_, ?_, ?_, ?_, ?_, ?_⟩ <;> after_reads_simp <;> try rfl

set_option maxHeartbeats 2000000 in
/-- What the loop is entered with. -/
theorem pre_vals : after preOps V (Proc.devRef .tc main_v6_0) = (V (Proc.devRef .tc main_arg2))
    ∧ after preOps V (Proc.devRef .tc main_v6_1) = (V (Proc.devRef .tc main_arg4))
    ∧ after preOps V (Proc.devRef .tc main_v6_2) = giR (V (Proc.devRef .tc main_arg1)) (shapeCast S128 (V (Proc.devRef .tc main_arg0)) shapeCasts_S1x128_S128) (V (Proc.devRef .tc main_arg3))
    ∧ after preOps V (Proc.devRef .tc main_v6_4) = broadcastInDim S64 ![] bcast_S_S64 (constant S_ .f32 0x00000000#32)
    ∧ after preOps V (Proc.devRef .tc main_v6_5) = broadcastInDim S512x64 ![] bcast_S_S512x64 (constant S_ .f32 0x00000000#32) := by
  refine ⟨?_, ?_, ?_, ?_, ?_⟩ <;> after_reads_simp <;> try rfl

set_option maxHeartbeats 2000000 in
/-- The condition leaves the arguments and the nodes. -/
theorem cond_keep : after condOps V (Proc.devRef .tc main_arg0) = V (Proc.devRef .tc main_arg0)
    ∧ after condOps V (Proc.devRef .tc main_arg1) = V (Proc.devRef .tc main_arg1)
    ∧ after condOps V (Proc.devRef .tc main_arg2) = V (Proc.devRef .tc main_arg2)
    ∧ after condOps V (Proc.devRef .tc main_arg3) = V (Proc.devRef .tc main_arg3)
    ∧ after condOps V (Proc.devRef .tc main_arg4) = V (Proc.devRef .tc main_arg4)
    ∧ after condOps V (Proc.devRef .tc main_arg5) = V (Proc.devRef .tc main_arg5)
    ∧ after condOps V (Proc.devRef .tc main_arg6) = V (Proc.devRef .tc main_arg6)
    ∧ after condOps V (Proc.devRef .tc main_arg7) = V (Proc.devRef .tc main_arg7)
    ∧ after condOps V (Proc.devRef .tc main_arg8) = V (Proc.devRef .tc main_arg8)
    ∧ after condOps V (Proc.devRef .tc main_arg9) = V (Proc.devRef .tc main_arg9)
    ∧ after condOps V (Proc.devRef .tc main_arg10) = V (Proc.devRef .tc main_arg10)
    ∧ after condOps V (Proc.devRef .tc main_arg11) = V (Proc.devRef .tc main_arg11)
    ∧ after condOps V (Proc.devRef .tc main_arg12) = V (Proc.devRef .tc main_arg12)
    ∧ after condOps V (Proc.devRef .tc main_arg13) = V (Proc.devRef .tc main_arg13)
    ∧ after condOps V (Proc.devRef .tc main_arg14) = V (Proc.devRef .tc main_arg14)
    ∧ after condOps V (Proc.devRef .tc main_arg15) = V (Proc.devRef .tc main_arg15)
    ∧ after condOps V (Proc.devRef .tc main_arg16) = V (Proc.devRef .tc main_arg16)
    ∧ after condOps V (Proc.devRef .tc main_arg17) = V (Proc.devRef .tc main_arg17)
    ∧ after condOps V (Proc.devRef .tc main_arg18) = V (Proc.devRef .tc main_arg18)
    ∧ after condOps V (Proc.devRef .tc main_arg19) = V (Proc.devRef .tc main_arg19)
    ∧ after condOps V (Proc.devRef .tc main_arg20) = V (Proc.devRef .tc main_arg20)
    ∧ after condOps V (Proc.devRef .tc main_v6_5) = V (Proc.devRef .tc main_v6_5) := by
  refine ⟨?_, ?_, ?_, ?_, ?_, ?_, ?_, ?_, ?_, ?_, ?_, ?_, ?_, ?_, ?_, ?_, ?_, ?_, ?_, ?_, ?_, ?_⟩ <;> after_reads_simp <;> try rfl

set_option maxHeartbeats 2000000 in
/-- The operations after the loop leave the arguments. -/
theorem post_keep : afterL postI V (Proc.devRef .tc main_arg0) = V (Proc.devRef .tc main_arg0)
    ∧ afterL postI V (Proc.devRef .tc main_arg1) = V (Proc.devRef .tc main_arg1)
    ∧ afterL postI V (Proc.devRef .tc main_arg2) = V (Proc.devRef .tc main_arg2)
    ∧ afterL postI V (Proc.devRef .tc main_arg3) = V (Proc.devRef .tc main_arg3)
    ∧ afterL postI V (Proc.devRef .tc main_arg4) = V (Proc.devRef .tc main_arg4)
    ∧ afterL postI V (Proc.devRef .tc main_arg5) = V (Proc.devRef .tc main_arg5)
    ∧ afterL postI V (Proc.devRef .tc main_arg6) = V (Proc.devRef .tc main_arg6)
    ∧ afterL postI V (Proc.devRef .tc main_arg7) = V (Proc.devRef .tc main_arg7)
    ∧ afterL postI V (Proc.devRef .tc main_arg8) = V (Proc.devRef .tc main_arg8)
    ∧ afterL postI V (Proc.devRef .tc main_arg9) = V (Proc.devRef .tc main_arg9)
    ∧ afterL postI V (Proc.devRef .tc main_arg10) = V (Proc.devRef .tc main_arg10)
    ∧ afterL postI V (Proc.devRef .tc main_arg11) = V (Proc.devRef .tc main_arg11)
    ∧ afterL postI V (Proc.devRef .tc main_arg12) = V (Proc.devRef .tc main_arg12)
    ∧ afterL postI V (Proc.devRef .tc main_arg13) = V (Proc.devRef .tc main_arg13)
    ∧ afterL postI V (Proc.devRef .tc main_arg14) = V (Proc.devRef .tc main_arg14)
    ∧ afterL postI V (Proc.devRef .tc main_arg15) = V (Proc.devRef .tc main_arg15)
    ∧ afterL postI V (Proc.devRef .tc main_arg16) = V (Proc.devRef .tc main_arg16)
    ∧ afterL postI V (Proc.devRef .tc main_arg17) = V (Proc.devRef .tc main_arg17)
    ∧ afterL postI V (Proc.devRef .tc main_arg18) = V (Proc.devRef .tc main_arg18)
    ∧ afterL postI V (Proc.devRef .tc main_arg19) = V (Proc.devRef .tc main_arg19)
    ∧ afterL postI V (Proc.devRef .tc main_arg20) = V (Proc.devRef .tc main_arg20) := by
  simp only [StableHlo.afterL_cons, StableHlo.afterL_nil]
  refine ⟨?_, ?_, ?_, ?_, ?_, ?_, ?_, ?_, ?_, ?_, ?_, ?_, ?_, ?_, ?_, ?_, ?_, ?_, ?_, ?_, ?_⟩ <;> after_reads_simp <;> try rfl

set_option maxHeartbeats 2000000 in
/-- The edge list. -/
theorem ix_vals : after postIx V (Proc.devRef .tc main_v7) = srcR (F := F)
    ∧ after postIx V (Proc.devRef .tc main_v11) = dstR (F := F)
    ∧ after postIx V (Proc.devRef .tc main_arg0) = V (Proc.devRef .tc main_arg0)
    ∧ after postIx V (Proc.devRef .tc main_arg1) = V (Proc.devRef .tc main_arg1)
    ∧ after postIx V (Proc.devRef .tc main_arg2) = V (Proc.devRef .tc main_arg2)
    ∧ after postIx V (Proc.devRef .tc main_arg3) = V (Proc.devRef .tc main_arg3)
    ∧ after postIx V (Proc.devRef .tc main_arg4) = V (Proc.devRef .tc main_arg4)
    ∧ after postIx V (Proc.devRef .tc main_arg5) = V (Proc.devRef .tc main_arg5)
    ∧ after postIx V (Proc.devRef .tc main_arg6) = V (Proc.devRef .tc main_arg6)
    ∧ after postIx V (Proc.devRef .tc main_arg7) = V (Proc.devRef .tc main_arg7)
    ∧ after postIx V (Proc.devRef .tc main_arg8) = V (Proc.devRef .tc main_arg8)
    ∧ after postIx V (Proc.devRef .tc main_arg9) = V (Proc.devRef .tc main_arg9)
    ∧ after postIx V (Proc.devRef .tc main_arg10) = V (Proc.devRef .tc main_arg10)
    ∧ after postIx V (Proc.devRef .tc main_arg11) = V (Proc.devRef .tc main_arg11)
    ∧ after postIx V (Proc.devRef .tc main_arg12) = V (Proc.devRef .tc main_arg12)
    ∧ after postIx V (Proc.devRef .tc main_arg13) = V (Proc.devRef .tc main_arg13)
    ∧ after postIx V (Proc.devRef .tc main_arg14) = V (Proc.devRef .tc main_arg14)
    ∧ after postIx V (Proc.devRef .tc main_arg15) = V (Proc.devRef .tc main_arg15)
    ∧ after postIx V (Proc.devRef .tc main_arg16) = V (Proc.devRef .tc main_arg16)
    ∧ after postIx V (Proc.devRef .tc main_arg17) = V (Proc.devRef .tc main_arg17)
    ∧ after postIx V (Proc.devRef .tc main_arg18) = V (Proc.devRef .tc main_arg18)
    ∧ after postIx V (Proc.devRef .tc main_arg19) = V (Proc.devRef .tc main_arg19)
    ∧ after postIx V (Proc.devRef .tc main_arg20) = V (Proc.devRef .tc main_arg20)
    ∧ after postIx V (Proc.devRef .tc main_v6_5) = V (Proc.devRef .tc main_v6_5) := by
  refine ⟨?_, ?_, ?_, ?_, ?_, ?_, ?_, ?_, ?_, ?_, ?_, ?_, ?_, ?_, ?_, ?_, ?_, ?_, ?_, ?_, ?_, ?_, ?_, ?_⟩ <;> after_reads_simp <;> try rfl

set_option maxHeartbeats 2000000 in
/-- The edge features. -/
theorem edge_vals : after postEdge V (Proc.devRef .tc main_v36) = edgeR (rowsR (V (Proc.devRef .tc main_v7)) (V (Proc.devRef .tc main_v6_5))) (rowsR (V (Proc.devRef .tc main_v11)) (V (Proc.devRef .tc main_v6_5))) (V (Proc.devRef .tc main_arg5)) (V (Proc.devRef .tc main_arg6)) (V (Proc.devRef .tc main_arg7)) (V (Proc.devRef .tc main_arg8))
    ∧ after postEdge V (Proc.devRef .tc main_arg0) = V (Proc.devRef .tc main_arg0)
    ∧ after postEdge V (Proc.devRef .tc main_arg1) = V (Proc.devRef .tc main_arg1)
    ∧ after postEdge V (Proc.devRef .tc main_arg2) = V (Proc.devRef .tc main_arg2)
    ∧ after postEdge V (Proc.devRef .tc main_arg3) = V (Proc.devRef .tc main_arg3)
    ∧ after postEdge V (Proc.devRef .tc main_arg4) = V (Proc.devRef .tc main_arg4)
    ∧ after postEdge V (Proc.devRef .tc main_arg5) = V (Proc.devRef .tc main_arg5)
    ∧ after postEdge V (Proc.devRef .tc main_arg6) = V (Proc.devRef .tc main_arg6)
    ∧ after postEdge V (Proc.devRef .tc main_arg7) = V (Proc.devRef .tc main_arg7)
    ∧ after postEdge V (Proc.devRef .tc main_arg8) = V (Proc.devRef .tc main_arg8)
    ∧ after postEdge V (Proc.devRef .tc main_arg9) = V (Proc.devRef .tc main_arg9)
    ∧ after postEdge V (Proc.devRef .tc main_arg10) = V (Proc.devRef .tc main_arg10)
    ∧ after postEdge V (Proc.devRef .tc main_arg11) = V (Proc.devRef .tc main_arg11)
    ∧ after postEdge V (Proc.devRef .tc main_arg12) = V (Proc.devRef .tc main_arg12)
    ∧ after postEdge V (Proc.devRef .tc main_arg13) = V (Proc.devRef .tc main_arg13)
    ∧ after postEdge V (Proc.devRef .tc main_arg14) = V (Proc.devRef .tc main_arg14)
    ∧ after postEdge V (Proc.devRef .tc main_arg15) = V (Proc.devRef .tc main_arg15)
    ∧ after postEdge V (Proc.devRef .tc main_arg16) = V (Proc.devRef .tc main_arg16)
    ∧ after postEdge V (Proc.devRef .tc main_arg17) = V (Proc.devRef .tc main_arg17)
    ∧ after postEdge V (Proc.devRef .tc main_arg18) = V (Proc.devRef .tc main_arg18)
    ∧ after postEdge V (Proc.devRef .tc main_arg19) = V (Proc.devRef .tc main_arg19)
    ∧ after postEdge V (Proc.devRef .tc main_arg20) = V (Proc.devRef .tc main_arg20)
    ∧ after postEdge V (Proc.devRef .tc main_v6_5) = V (Proc.devRef .tc main_v6_5)
    ∧ after postEdge V (Proc.devRef .tc main_v7) = V (Proc.devRef .tc main_v7)
    ∧ after postEdge V (Proc.devRef .tc main_v11) = V (Proc.devRef .tc main_v11) := by
  refine ⟨?_, ?_, ?_, ?_, ?_, ?_, ?_, ?_, ?_, ?_, ?_, ?_, ?_, ?_, ?_, ?_, ?_, ?_, ?_, ?_, ?_, ?_, ?_, ?_, ?_⟩ <;> after_reads_simp <;> try rfl

set_option maxHeartbeats 2000000 in
/-- The first convolution. -/
theorem conv0_vals : after postConv0 V (Proc.devRef .tc main_v70) = actR (addR (V (Proc.devRef .tc main_v11)) (msgR (rowsR (V (Proc.devRef .tc main_v7)) (V (Proc.devRef .tc main_v6_5))) (V (Proc.devRef .tc main_arg17)) (V (Proc.devRef .tc main_arg18)) (alphaR (V (Proc.devRef .tc main_v36)) (rowsR (V (Proc.devRef .tc main_v7)) (V (Proc.devRef .tc main_v6_5))) (V (Proc.devRef .tc main_arg9)) (V (Proc.devRef .tc main_arg10)) (V (Proc.devRef .tc main_arg11)) (V (Proc.devRef .tc main_arg12)))))
    ∧ after postConv0 V (Proc.devRef .tc main_arg0) = V (Proc.devRef .tc main_arg0)
    ∧ after postConv0 V (Proc.devRef .tc main_arg1) = V (Proc.devRef .tc main_arg1)
    ∧ after postConv0 V (Proc.devRef .tc main_arg2) = V (Proc.devRef .tc main_arg2)
    ∧ after postConv0 V (Proc.devRef .tc main_arg3) = V (Proc.devRef .tc main_arg3)
    ∧ after postConv0 V (Proc.devRef .tc main_arg4) = V (Proc.devRef .tc main_arg4)
    ∧ after postConv0 V (Proc.devRef .tc main_arg5) = V (Proc.devRef .tc main_arg5)
    ∧ after postConv0 V (Proc.devRef .tc main_arg6) = V (Proc.devRef .tc main_arg6)
    ∧ after postConv0 V (Proc.devRef .tc main_arg7) = V (Proc.devRef .tc main_arg7)
    ∧ after postConv0 V (Proc.devRef .tc main_arg8) = V (Proc.devRef .tc main_arg8)
    ∧ after postConv0 V (Proc.devRef .tc main_arg9) = V (Proc.devRef .tc main_arg9)
    ∧ after postConv0 V (Proc.devRef .tc main_arg10) = V (Proc.devRef .tc main_arg10)
    ∧ after postConv0 V (Proc.devRef .tc main_arg11) = V (Proc.devRef .tc main_arg11)
    ∧ after postConv0 V (Proc.devRef .tc main_arg12) = V (Proc.devRef .tc main_arg12)
    ∧ after postConv0 V (Proc.devRef .tc main_arg13) = V (Proc.devRef .tc main_arg13)
    ∧ after postConv0 V (Proc.devRef .tc main_arg14) = V (Proc.devRef .tc main_arg14)
    ∧ after postConv0 V (Proc.devRef .tc main_arg15) = V (Proc.devRef .tc main_arg15)
    ∧ after postConv0 V (Proc.devRef .tc main_arg16) = V (Proc.devRef .tc main_arg16)
    ∧ after postConv0 V (Proc.devRef .tc main_arg17) = V (Proc.devRef .tc main_arg17)
    ∧ after postConv0 V (Proc.devRef .tc main_arg18) = V (Proc.devRef .tc main_arg18)
    ∧ after postConv0 V (Proc.devRef .tc main_arg19) = V (Proc.devRef .tc main_arg19)
    ∧ after postConv0 V (Proc.devRef .tc main_arg20) = V (Proc.devRef .tc main_arg20)
    ∧ after postConv0 V (Proc.devRef .tc main_v36) = V (Proc.devRef .tc main_v36)
    ∧ after postConv0 V (Proc.devRef .tc main_v7) = V (Proc.devRef .tc main_v7)
    ∧ after postConv0 V (Proc.devRef .tc main_v11) = V (Proc.devRef .tc main_v11) := by
  refine ⟨?_, ?_, ?_, ?_, ?_, ?_, ?_, ?_, ?_, ?_, ?_, ?_, ?_, ?_, ?_, ?_, ?_, ?_, ?_, ?_, ?_, ?_, ?_, ?_, ?_⟩ <;> after_reads_simp <;> try rfl

set_option maxHeartbeats 2000000 in
/-- The second convolution and the sum. -/
theorem conv1_vals : after postConv1 V (Proc.devRef .tc main_v103) = sumR (addR (V (Proc.devRef .tc main_v11)) (msgR (rowsR (V (Proc.devRef .tc main_v7)) (V (Proc.devRef .tc main_v70))) (V (Proc.devRef .tc main_arg19)) (V (Proc.devRef .tc main_arg20)) (alphaR (V (Proc.devRef .tc main_v36)) (rowsR (V (Proc.devRef .tc main_v7)) (V (Proc.devRef .tc main_v70))) (V (Proc.devRef .tc main_arg13)) (V (Proc.devRef .tc main_arg14)) (V (Proc.devRef .tc main_arg15)) (V (Proc.devRef .tc main_arg16))))) := by
  after_reads_simp
  try rfl

end Cert.Proof.Ref

end

end
-- ==== Proof.RefFrame.lean ====
module

public import proofs.«01_k».proof.Defs
public import proofs.«01_k».proof.Proof.RefVal
public import Idealize.ShloMosaic.Lib.Quiescent
public import Idealize.ShloMosaic.Lib.StableHlo.RunLoop
public import Idealize.ShloMosaic.Lib.StableHlo.RunRead
public import Idealize.ShloMosaic.Lib.Scf.Counter
public import Idealize.ShloMosaic.Lib.Scf.ExitTest
public import Idealize.ShloMosaic.Lib.HostLoop.Rules

@[expose] public section

set_option maxRecDepth 65536

noncomputable section

namespace Cert.Proof.Ref

open Cert.ReferenceIdeal Cert.ReferenceIdeal.Facts₀ Cert.ReferenceIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo (after held afterL atTrip)

variable {F : FTy → Type} [FloatOps F]

local instance : Cert.ReferenceIdeal.Facts := Cert.ReferenceIdeal.Gen.facts

/-- The state after `k` steps. -/
def hR (gi : (⟨S192, .f32⟩ : BufTy).Contents (Elt F)) (w : (⟨S192x64, .f32⟩ : BufTy).Contents (Elt F)) (b : (⟨S192, .f32⟩ : BufTy).Contents (Elt F)) : ℕ → (⟨S64, .f32⟩ : BufTy).Contents (Elt F)
  | 0 => broadcastInDim S64 ![] bcast_S_S64 (constant S_ .f32 0x00000000#32)
  | k + 1 => stepR w (hR gi w b k) b gi

/-- The node array after `k` steps. -/
def nodesR (gi : (⟨S192, .f32⟩ : BufTy).Contents (Elt F)) (w : (⟨S192x64, .f32⟩ : BufTy).Contents (Elt F)) (b : (⟨S192, .f32⟩ : BufTy).Contents (Elt F)) : ℕ → (⟨S512x64, .f32⟩ : BufTy).Contents (Elt F)
  | 0 => broadcastInDim S512x64 ![] bcast_S_S512x64 (constant S_ .f32 0x00000000#32)
  | k + 1 => setR (nodesR gi w b k) (hR gi w b (k + 1)) (fun _ => Scf.iv 0#32 1#32 k)

/-- One convolution over the edges, before its activation. -/
def convR (x : (⟨S512x64, .f32⟩ : BufTy).Contents (Elt F)) (e : (⟨S512x511x16, .f32⟩ : BufTy).Contents (Elt F)) (aw1 : (⟨S80x8, .f32⟩ : BufTy).Contents (Elt F)) (ab1 : (⟨S8, .f32⟩ : BufTy).Contents (Elt F)) (aw2 : (⟨S8x1, .f32⟩ : BufTy).Contents (Elt F)) (ab2 : (⟨S1, .f32⟩ : BufTy).Contents (Elt F))
    (cw : (⟨S64x64, .f32⟩ : BufTy).Contents (Elt F)) (cb : (⟨S64, .f32⟩ : BufTy).Contents (Elt F)) : (⟨S512x64, .f32⟩ : BufTy).Contents (Elt F) :=
  addR (dstR (F := F)) (msgR (rowsR (srcR (F := F)) x) cw cb (alphaR e (rowsR (srcR (F := F)) x) aw1 ab1 aw2 ab2))

/-- The nodes the reference runs on. -/
def nodesAll (a0 : (⟨S1x128, .f32⟩ : BufTy).Contents (Elt F)) (a1 : (⟨S192x128, .f32⟩ : BufTy).Contents (Elt F)) (a2 : (⟨S192x64, .f32⟩ : BufTy).Contents (Elt F)) (a3 : (⟨S192, .f32⟩ : BufTy).Contents (Elt F)) (a4 : (⟨S192, .f32⟩ : BufTy).Contents (Elt F)) : (⟨S512x64, .f32⟩ : BufTy).Contents (Elt F) :=
  nodesR (giR a1 (shapeCast S128 a0 shapeCasts_S1x128_S128) a3) a2 a4 512

/-- The two convolutions and the sum, from the nodes. -/
def tailR (x : (⟨S512x64, .f32⟩ : BufTy).Contents (Elt F)) (a5 : (⟨S128x256, .f32⟩ : BufTy).Contents (Elt F)) (a6 : (⟨S256, .f32⟩ : BufTy).Contents (Elt F)) (a7 : (⟨S256x16, .f32⟩ : BufTy).Contents (Elt F)) (a8 : (⟨S16, .f32⟩ : BufTy).Contents (Elt F)) (a9 : (⟨S80x8, .f32⟩ : BufTy).Contents (Elt F)) (a10 : (⟨S8, .f32⟩ : BufTy).Contents (Elt F)) (a11 : (⟨S8x1, .f32⟩ : BufTy).Contents (Elt F)) (a12 : (⟨S1, .f32⟩ : BufTy).Contents (Elt F)) (a13 : (⟨S80x8, .f32⟩ : BufTy).Contents (Elt F)) (a14 : (⟨S8, .f32⟩ : BufTy).Contents (Elt F)) (a15 : (⟨S8x1, .f32⟩ : BufTy).Contents (Elt F)) (a16 : (⟨S1, .f32⟩ : BufTy).Contents (Elt F)) (a17 : (⟨S64x64, .f32⟩ : BufTy).Contents (Elt F)) (a18 : (⟨S64, .f32⟩ : BufTy).Contents (Elt F)) (a19 : (⟨S64x64, .f32⟩ : BufTy).Contents (Elt F)) (a20 : (⟨S64, .f32⟩ : BufTy).Contents (Elt F)) : (⟨S64, .f32⟩ : BufTy).Contents (Elt F) :=
  let e := edgeR (rowsR (srcR (F := F)) x) (rowsR (dstR (F := F)) x) a5 a6 a7 a8
  sumR (convR (actR (convR x e a9 a10 a11 a12 a17 a18)) e a13 a14 a15 a16 a19 a20)

/-- What the reference computes. -/
def outR (a0 : (⟨S1x128, .f32⟩ : BufTy).Contents (Elt F)) (a1 : (⟨S192x128, .f32⟩ : BufTy).Contents (Elt F)) (a2 : (⟨S192x64, .f32⟩ : BufTy).Contents (Elt F)) (a3 : (⟨S192, .f32⟩ : BufTy).Contents (Elt F)) (a4 : (⟨S192, .f32⟩ : BufTy).Contents (Elt F)) (a5 : (⟨S128x256, .f32⟩ : BufTy).Contents (Elt F)) (a6 : (⟨S256, .f32⟩ : BufTy).Contents (Elt F)) (a7 : (⟨S256x16, .f32⟩ : BufTy).Contents (Elt F)) (a8 : (⟨S16, .f32⟩ : BufTy).Contents (Elt F)) (a9 : (⟨S80x8, .f32⟩ : BufTy).Contents (Elt F)) (a10 : (⟨S8, .f32⟩ : BufTy).Contents (Elt F)) (a11 : (⟨S8x1, .f32⟩ : BufTy).Contents (Elt F)) (a12 : (⟨S1, .f32⟩ : BufTy).Contents (Elt F)) (a13 : (⟨S80x8, .f32⟩ : BufTy).Contents (Elt F)) (a14 : (⟨S8, .f32⟩ : BufTy).Contents (Elt F)) (a15 : (⟨S8x1, .f32⟩ : BufTy).Contents (Elt F)) (a16 : (⟨S1, .f32⟩ : BufTy).Contents (Elt F)) (a17 : (⟨S64x64, .f32⟩ : BufTy).Contents (Elt F)) (a18 : (⟨S64, .f32⟩ : BufTy).Contents (Elt F)) (a19 : (⟨S64x64, .f32⟩ : BufTy).Contents (Elt F)) (a20 : (⟨S64, .f32⟩ : BufTy).Contents (Elt F)) : (⟨S64, .f32⟩ : BufTy).Contents (Elt F) :=
  tailR (nodesAll a0 a1 a2 a3 a4) a5 a6 a7 a8 a9 a10 a11 a12 a13 a14 a15 a16 a17 a18 a19 a20

variable (m : (ℓ : Loc nD τ sig) → Buf (Elt F) ℓ) (ρ : Dev nD → PrngReg)

/-- The input part of the gates, at the launch. -/
abbrev giM (c : Dev nD) : (⟨S192, .f32⟩ : BufTy).Contents (Elt F) := giR (StableHlo.launchContents m c (Proc.devRef .tc main_arg1)) (shapeCast S128 (StableHlo.launchContents m c (Proc.devRef .tc main_arg0)) shapeCasts_S1x128_S128) (StableHlo.launchContents m c (Proc.devRef .tc main_arg3))

set_option maxHeartbeats 2000000 in
/-- The buffers before trip `k`. -/
theorem atK_vals (c : Dev nD) (k : ℕ) :
    (atK m k c (Proc.devRef .tc main_arg0) = StableHlo.launchContents m c (Proc.devRef .tc main_arg0)
    ∧ atK m k c (Proc.devRef .tc main_arg1) = StableHlo.launchContents m c (Proc.devRef .tc main_arg1)
    ∧ atK m k c (Proc.devRef .tc main_arg2) = StableHlo.launchContents m c (Proc.devRef .tc main_arg2)
    ∧ atK m k c (Proc.devRef .tc main_arg3) = StableHlo.launchContents m c (Proc.devRef .tc main_arg3)
    ∧ atK m k c (Proc.devRef .tc main_arg4) = StableHlo.launchContents m c (Proc.devRef .tc main_arg4)
    ∧ atK m k c (Proc.devRef .tc main_arg5) = StableHlo.launchContents m c (Proc.devRef .tc main_arg5)
    ∧ atK m k c (Proc.devRef .tc main_arg6) = StableHlo.launchContents m c (Proc.devRef .tc main_arg6)
    ∧ atK m k c (Proc.devRef .tc main_arg7) = StableHlo.launchContents m c (Proc.devRef .tc main_arg7)
    ∧ atK m k c (Proc.devRef .tc main_arg8) = StableHlo.launchContents m c (Proc.devRef .tc main_arg8)
    ∧ atK m k c (Proc.devRef .tc main_arg9) = StableHlo.launchContents m c (Proc.devRef .tc main_arg9)
    ∧ atK m k c (Proc.devRef .tc main_arg10) = StableHlo.launchContents m c (Proc.devRef .tc main_arg10)
    ∧ atK m k c (Proc.devRef .tc main_arg11) = StableHlo.launchContents m c (Proc.devRef .tc main_arg11)
    ∧ atK m k c (Proc.devRef .tc main_arg12) = StableHlo.launchContents m c (Proc.devRef .tc main_arg12)
    ∧ atK m k c (Proc.devRef .tc main_arg13) = StableHlo.launchContents m c (Proc.devRef .tc main_arg13)
    ∧ atK m k c (Proc.devRef .tc main_arg14) = StableHlo.launchContents m c (Proc.devRef .tc main_arg14)
    ∧ atK m k c (Proc.devRef .tc main_arg15) = StableHlo.launchContents m c (Proc.devRef .tc main_arg15)
    ∧ atK m k c (Proc.devRef .tc main_arg16) = StableHlo.launchContents m c (Proc.devRef .tc main_arg16)
    ∧ atK m k c (Proc.devRef .tc main_arg17) = StableHlo.launchContents m c (Proc.devRef .tc main_arg17)
    ∧ atK m k c (Proc.devRef .tc main_arg18) = StableHlo.launchContents m c (Proc.devRef .tc main_arg18)
    ∧ atK m k c (Proc.devRef .tc main_arg19) = StableHlo.launchContents m c (Proc.devRef .tc main_arg19)
    ∧ atK m k c (Proc.devRef .tc main_arg20) = StableHlo.launchContents m c (Proc.devRef .tc main_arg20))
    ∧ atK m k c (Proc.devRef .tc main_v6_0) = (StableHlo.launchContents m c (Proc.devRef .tc main_arg2)) ∧ atK m k c (Proc.devRef .tc main_v6_1) = (StableHlo.launchContents m c (Proc.devRef .tc main_arg4))
    ∧ atK m k c (Proc.devRef .tc main_v6_2) = giM m c
    ∧ atK m k c (Proc.devRef .tc main_v6_4) = hR (giM m c) (StableHlo.launchContents m c (Proc.devRef .tc main_arg2)) (StableHlo.launchContents m c (Proc.devRef .tc main_arg4)) k
    ∧ atK m k c (Proc.devRef .tc main_v6_5) = nodesR (giM m c) (StableHlo.launchContents m c (Proc.devRef .tc main_arg2)) (StableHlo.launchContents m c (Proc.devRef .tc main_arg4)) k := by
  induction k with
  | zero =>
    exact ⟨pre_keep (StableHlo.launchContents m c), (pre_vals (StableHlo.launchContents m c)).1, (pre_vals (StableHlo.launchContents m c)).2.1, (pre_vals (StableHlo.launchContents m c)).2.2.1, (pre_vals (StableHlo.launchContents m c)).2.2.2.1, (pre_vals (StableHlo.launchContents m c)).2.2.2.2⟩
  | succ k ih =>
    obtain ⟨⟨h0, h1, h2, h3, h4, h5, h6, h7, h8, h9, h10, h11, h12, h13, h14, h15, h16, h17, h18, h19, h20⟩, i0, i1, i2, i4, i5⟩ := ih
    obtain ⟨t0, t1, t2, t3, t4, t5, t6, t7, t8, t9, t10, t11, t12, t13, t14, t15, t16, t17, t18, t19, t20, u0, u1, u2⟩ := trip_keep (atK m k c)
    have hn := trip_nodes (atK m k c)
    have hh := trip_h (atK m k c)
    rw [i0, i1, i2, i4] at hh
    rw [i0, i1, i2, i4, i5, ctr m c k] at hn
    exact ⟨⟨t0.trans h0, t1.trans h1, t2.trans h2, t3.trans h3, t4.trans h4, t5.trans h5, t6.trans h6, t7.trans h7, t8.trans h8, t9.trans h9, t10.trans h10, t11.trans h11, t12.trans h12, t13.trans h13, t14.trans h14, t15.trans h15, t16.trans h16, t17.trans h17, t18.trans h18, t19.trans h19, t20.trans h20⟩, u0.trans i0, u1.trans i1, u2.trans i2, hh, hn⟩

set_option maxHeartbeats 2000000 in
/-- The buffers at the end. -/
theorem final_vals (c : Dev nD) :
    (StableHlo.finalContents condOps preI bodyI postI 512 m c (Proc.devRef .tc main_v103) = outR (StableHlo.launchContents m c (Proc.devRef .tc main_arg0)) (StableHlo.launchContents m c (Proc.devRef .tc main_arg1)) (StableHlo.launchContents m c (Proc.devRef .tc main_arg2)) (StableHlo.launchContents m c (Proc.devRef .tc main_arg3)) (StableHlo.launchContents m c (Proc.devRef .tc main_arg4)) (StableHlo.launchContents m c (Proc.devRef .tc main_arg5)) (StableHlo.launchContents m c (Proc.devRef .tc main_arg6)) (StableHlo.launchContents m c (Proc.devRef .tc main_arg7)) (StableHlo.launchContents m c (Proc.devRef .tc main_arg8)) (StableHlo.launchContents m c (Proc.devRef .tc main_arg9)) (StableHlo.launchContents m c (Proc.devRef .tc main_arg10)) (StableHlo.launchContents m c (Proc.devRef .tc main_arg11)) (StableHlo.launchContents m c (Proc.devRef .tc main_arg12)) (StableHlo.launchContents m c (Proc.devRef .tc main_arg13)) (StableHlo.launchContents m c (Proc.devRef .tc main_arg14)) (StableHlo.launchContents m c (Proc.devRef .tc main_arg15)) (StableHlo.launchContents m c (Proc.devRef .tc main_arg16)) (StableHlo.launchContents m c (Proc.devRef .tc main_arg17)) (StableHlo.launchContents m c (Proc.devRef .tc main_arg18)) (StableHlo.launchContents m c (Proc.devRef .tc main_arg19)) (StableHlo.launchContents m c (Proc.devRef .tc main_arg20)))
    ∧ (StableHlo.finalContents condOps preI bodyI postI 512 m c (Proc.devRef .tc main_arg0) = StableHlo.launchContents m c (Proc.devRef .tc main_arg0)
    ∧ StableHlo.finalContents condOps preI bodyI postI 512 m c (Proc.devRef .tc main_arg1) = StableHlo.launchContents m c (Proc.devRef .tc main_arg1)
    ∧ StableHlo.finalContents condOps preI bodyI postI 512 m c (Proc.devRef .tc main_arg2) = StableHlo.launchContents m c (Proc.devRef .tc main_arg2)
    ∧ StableHlo.finalContents condOps preI bodyI postI 512 m c (Proc.devRef .tc main_arg3) = StableHlo.launchContents m c (Proc.devRef .tc main_arg3)
    ∧ StableHlo.finalContents condOps preI bodyI postI 512 m c (Proc.devRef .tc main_arg4) = StableHlo.launchContents m c (Proc.devRef .tc main_arg4)
    ∧ StableHlo.finalContents condOps preI bodyI postI 512 m c (Proc.devRef .tc main_arg5) = StableHlo.launchContents m c (Proc.devRef .tc main_arg5)
    ∧ StableHlo.finalContents condOps preI bodyI postI 512 m c (Proc.devRef .tc main_arg6) = StableHlo.launchContents m c (Proc.devRef .tc main_arg6)
    ∧ StableHlo.finalContents condOps preI bodyI postI 512 m c (Proc.devRef .tc main_arg7) = StableHlo.launchContents m c (Proc.devRef .tc main_arg7)
    ∧ StableHlo.finalContents condOps preI bodyI postI 512 m c (Proc.devRef .tc main_arg8) = StableHlo.launchContents m c (Proc.devRef .tc main_arg8)
    ∧ StableHlo.finalContents condOps preI bodyI postI 512 m c (Proc.devRef .tc main_arg9) = StableHlo.launchContents m c (Proc.devRef .tc main_arg9)
    ∧ StableHlo.finalContents condOps preI bodyI postI 512 m c (Proc.devRef .tc main_arg10) = StableHlo.launchContents m c (Proc.devRef .tc main_arg10)
    ∧ StableHlo.finalContents condOps preI bodyI postI 512 m c (Proc.devRef .tc main_arg11) = StableHlo.launchContents m c (Proc.devRef .tc main_arg11)
    ∧ StableHlo.finalContents condOps preI bodyI postI 512 m c (Proc.devRef .tc main_arg12) = StableHlo.launchContents m c (Proc.devRef .tc main_arg12)
    ∧ StableHlo.finalContents condOps preI bodyI postI 512 m c (Proc.devRef .tc main_arg13) = StableHlo.launchContents m c (Proc.devRef .tc main_arg13)
    ∧ StableHlo.finalContents condOps preI bodyI postI 512 m c (Proc.devRef .tc main_arg14) = StableHlo.launchContents m c (Proc.devRef .tc main_arg14)
    ∧ StableHlo.finalContents condOps preI bodyI postI 512 m c (Proc.devRef .tc main_arg15) = StableHlo.launchContents m c (Proc.devRef .tc main_arg15)
    ∧ StableHlo.finalContents condOps preI bodyI postI 512 m c (Proc.devRef .tc main_arg16) = StableHlo.launchContents m c (Proc.devRef .tc main_arg16)
    ∧ StableHlo.finalContents condOps preI bodyI postI 512 m c (Proc.devRef .tc main_arg17) = StableHlo.launchContents m c (Proc.devRef .tc main_arg17)
    ∧ StableHlo.finalContents condOps preI bodyI postI 512 m c (Proc.devRef .tc main_arg18) = StableHlo.launchContents m c (Proc.devRef .tc main_arg18)
    ∧ StableHlo.finalContents condOps preI bodyI postI 512 m c (Proc.devRef .tc main_arg19) = StableHlo.launchContents m c (Proc.devRef .tc main_arg19)
    ∧ StableHlo.finalContents condOps preI bodyI postI 512 m c (Proc.devRef .tc main_arg20) = StableHlo.launchContents m c (Proc.devRef .tc main_arg20)) := by
  obtain ⟨⟨h0, h1, h2, h3, h4, h5, h6, h7, h8, h9, h10, h11, h12, h13, h14, h15, h16, h17, h18, h19, h20⟩, i0, i1, i2, i4, i5⟩ := atK_vals m c 512
  obtain ⟨c0, c1, c2, c3, c4, c5, c6, c7, c8, c9, c10, c11, c12, c13, c14, c15, c16, c17, c18, c19, c20, cn⟩ := cond_keep (atK m 512 c)
  constructor
  · obtain ⟨ps, pd, p0, p1, p2, p3, p4, p5, p6, p7, p8, p9, p10, p11, p12, p13, p14, p15, p16, p17, p18, p19, p20, pn⟩ := ix_vals (after condOps (atK m 512 c))
    obtain ⟨ee, e0, e1, e2, e3, e4, e5, e6, e7, e8, e9, e10, e11, e12, e13, e14, e15, e16, e17, e18, e19, e20, en, es, ed⟩ := edge_vals (after postIx (after condOps (atK m 512 c)))
    obtain ⟨ff, f0, f1, f2, f3, f4, f5, f6, f7, f8, f9, f10, f11, f12, f13, f14, f15, f16, f17, f18, f19, f20, fe, fs, fd⟩ := conv0_vals (after postEdge (after postIx (after condOps (atK m 512 c))))
    have g := conv1_vals (after postConv0 (after postEdge (after postIx (after condOps (atK m 512 c)))))
    rw [ff, fe, fs, fd, f13, f14, f15, f16, f19, f20, ee, en, es, ed, e9, e10, e11, e12, e13, e14, e15, e16, e17, e18, e19, e20,
      ps, pd, pn, p5, p6, p7, p8, p9, p10, p11, p12, p13, p14, p15, p16, p17, p18, p19, p20, cn, c5, c6, c7, c8, c9, c10, c11, c12, c13, c14, c15, c16, c17, c18, c19, c20, i5, h5, h6, h7, h8, h9, h10, h11, h12, h13, h14, h15, h16, h17, h18, h19, h20] at g
    exact g
  · obtain ⟨q0, q1, q2, q3, q4, q5, q6, q7, q8, q9, q10, q11, q12, q13, q14, q15, q16, q17, q18, q19, q20⟩ := post_keep (after condOps (atK m 512 c))
    exact ⟨q0.trans (c0.trans h0), q1.trans (c1.trans h1), q2.trans (c2.trans h2), q3.trans (c3.trans h3), q4.trans (c4.trans h4), q5.trans (c5.trans h5), q6.trans (c6.trans h6), q7.trans (c7.trans h7), q8.trans (c8.trans h8), q9.trans (c9.trans h9), q10.trans (c10.trans h10), q11.trans (c11.trans h11), q12.trans (c12.trans h12), q13.trans (c13.trans h13), q14.trans (c14.trans h14), q15.trans (c15.trans h15), q16.trans (c16.trans h16), q17.trans (c17.trans h17), q18.trans (c18.trans h18), q19.trans (c19.trans h19), q20.trans (c20.trans h20)⟩

set_option maxHeartbeats 2000000 in
/-- The reference's run: its result, its arguments, its semaphores. -/
theorem run_main : θ_run defs (onTc (τ := τ) (main (F := F))) ⟨m, fun _ => 0, ρ⟩
    (fun r => (∀ c : Dev nD, r.2.mem ((c.tc : Thread nD τ).loc main_v103) = outR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11) ∧ r.2.mem ((c.tc : Thread nD τ).loc main_arg12) = m ((c.tc : Thread nD τ).loc main_arg12) ∧ r.2.mem ((c.tc : Thread nD τ).loc main_arg13) = m ((c.tc : Thread nD τ).loc main_arg13) ∧ r.2.mem ((c.tc : Thread nD τ).loc main_arg14) = m ((c.tc : Thread nD τ).loc main_arg14) ∧ r.2.mem ((c.tc : Thread nD τ).loc main_arg15) = m ((c.tc : Thread nD τ).loc main_arg15) ∧ r.2.mem ((c.tc : Thread nD τ).loc main_arg16) = m ((c.tc : Thread nD τ).loc main_arg16) ∧ r.2.mem ((c.tc : Thread nD τ).loc main_arg17) = m ((c.tc : Thread nD τ).loc main_arg17) ∧ r.2.mem ((c.tc : Thread nD τ).loc main_arg18) = m ((c.tc : Thread nD τ).loc main_arg18) ∧ r.2.mem ((c.tc : Thread nD τ).loc main_arg19) = m ((c.tc : Thread nD τ).loc main_arg19) ∧ r.2.mem ((c.tc : Thread nD τ).loc main_arg20) = m ((c.tc : Thread nD τ).loc main_arg20)) ∧ r.2.sem = fun _ => 0) := by
  refine (θ_run defs _ _).mono (fun r h => ⟨fun c => ?_, sem_eq_zero_of_no_sems rfl _⟩) (run_all m ρ)
  obtain ⟨hv, h0, h1, h2, h3, h4, h5, h6, h7, h8, h9, h10, h11, h12, h13, h14, h15, h16, h17, h18, h19, h20⟩ := final_vals m c
  exact ⟨(h c main_v103 rfl).trans hv, (h c main_arg0 rfl).trans h0, (h c main_arg1 rfl).trans h1, (h c main_arg2 rfl).trans h2, (h c main_arg3 rfl).trans h3, (h c main_arg4 rfl).trans h4, (h c main_arg5 rfl).trans h5, (h c main_arg6 rfl).trans h6, (h c main_arg7 rfl).trans h7, (h c main_arg8 rfl).trans h8, (h c main_arg9 rfl).trans h9, (h c main_arg10 rfl).trans h10, (h c main_arg11 rfl).trans h11, (h c main_arg12 rfl).trans h12, (h c main_arg13 rfl).trans h13, (h c main_arg14 rfl).trans h14, (h c main_arg15 rfl).trans h15, (h c main_arg16 rfl).trans h16, (h c main_arg17 rfl).trans h17, (h c main_arg18 rfl).trans h18, (h c main_arg19 rfl).trans h19, (h c main_arg20 rfl).trans h20⟩

end Cert.Proof.Ref

end

end
-- ==== Proof.RefNum.lean ====
module

public import proofs.«01_k».proof.Proof.RefFrame
public import proofs.«01_k».proof.Proof.Args
public import Idealize.ShloMosaic.Lib.Pointwise
public import Idealize.ShloMosaic.Lib.WordCmp

@[expose] public section

set_option maxRecDepth 65536

noncomputable section

namespace Cert.Proof.Ref

open Cert.ReferenceIdeal Cert.ReferenceIdeal.Gen
open Idealize.ShloMosaic Idealize.ShloMosaic.TcCoe Idealize.ShloMosaic.Tactic Idealize.SL.Sem
open Cert.Proof.Math

/-- A flat array of reals. -/
def R1 {a : ℕ} (x : (⟨1, ![a]⟩ : Shape).Idx → EReal) (r : Fin a → ℝ) : Prop := ∀ i, x (ix1 i) = ((r i : ℝ) : EReal)
/-- A matrix of reals. -/
def R2 {a b : ℕ} (x : (⟨2, ![a, b]⟩ : Shape).Idx → EReal) (r : Fin a → Fin b → ℝ) : Prop := ∀ i j, x (ix2 i j) = ((r i j : ℝ) : EReal)
/-- A cube of reals. -/
def R3 {a b c : ℕ} (x : (⟨3, ![a, b, c]⟩ : Shape).Idx → EReal) (r : Fin a → Fin b → Fin c → ℝ) : Prop := ∀ i j k, x (ix3 i j k) = ((r i j k : ℝ) : EReal)

/-- The logistic function as the reference writes it. -/
theorem logistic_div (r : ℝ) : Ideal.div 1 (1 + Ideal.exp (-(r : EReal))) = ((sg r : ℝ) : EReal) := Ideal.logistic_coe r

variable (W : Wt) (C D : Cv)

/-- The input part of the gates. -/
theorem giR_val (a1 : FVec Ideal S192x128 .f32) (a0 : FVec Ideal S128 .f32) (a3 : FVec Ideal S192 .f32)
    (h1 : R2 a1 W.wih) (h0 : R1 a0 W.z) (h3 : R1 a3 W.bih) : R1 (giR (F := Ideal) a1 a0 a3) (gi W) := by
  intro g
  pointwise [giR]
  simp only [h0 _, h1 _ _, h3 _, ← EReal.coe_mul, csum, ← EReal.coe_add]
  rfl

/-- One step of the recurrence. -/
theorem stepR_val (w : FVec Ideal S192x64 .f32) (h : FVec Ideal S64 .f32) (b gv : FVec Ideal S192 .f32) (v : Fin 64 → ℝ)
    (hw : R2 w W.whh) (hh : R1 h v) (hb : R1 b W.bhh) (hg : R1 gv (gi W)) : R1 (stepR (F := Ideal) w h b gv) (step W v) := by
  intro c
  pointwise [stepR]
  simp only [hw _ _, hh _, hb _, hg _, ← EReal.coe_mul, csum, ← EReal.coe_add, logistic_div, Ideal.tanh_coe, cone_sub]
  rfl

/-- The state after `k` steps. -/
theorem hR_val (gv : FVec Ideal S192 .f32) (w : FVec Ideal S192x64 .f32) (b : FVec Ideal S192 .f32)
    (hw : R2 w W.whh) (hb : R1 b W.bhh) (hg : R1 gv (gi W)) : ∀ k, R1 (hR (F := Ideal) gv w b k) (hv W k)
  | 0 => by
    intro c
    unfold hR
    pointwise []
    rfl
  | k + 1 => stepR_val W w _ b gv _ hw (hR_val gv w b hw hb hg k) hb hg

/-- A row written at `k`. -/
theorem setR_at (x : FVec Ideal S512x64 .f32) (h : FVec Ideal S64 .f32) (k : ℕ) (hk : k < 512) (d : Fin 512) (c : Fin 64) :
    setR (F := Ideal) x h (fun _ => Scf.iv 0#32 1#32 k) (ix2 d c) = if d.val = k then h (ix1 c) else x (ix2 d c) := by
  have hiv : (Scf.iv 0#32 1#32 k : BitVec 32) = BitVec.ofNat 32 k := by
    unfold Scf.iv; simp
  have hs : S512x64.Slices ![k, 0] S1x64 := ⟨rfl, fun a => match a with
    | ⟨0, _⟩ => (by show k + 1 ≤ 512; omega)
    | ⟨1, _⟩ => (by show 0 + 64 ≤ 64; omega)⟩
  unfold setR
  rw [WordCmp.dynamicUpdateSlice_eq_update _ _ _ _ ![k, 0] hs (fun a => match a with
    | ⟨0, _⟩ => (by show (Scf.iv 0#32 1#32 k : BitVec 32).toInt = (k : Int); rw [hiv]; exact WordCmp.toInt_ofNat_of_lt (by omega))
    | ⟨1, _⟩ => rfl)]
  pointwise []
  by_cases hd : d.val = k
  · rw [if_pos hd, dif_pos (by omega)]
  · rw [if_neg hd, dif_neg (by omega)]

/-- The source word is the source's number. -/
theorem srcR_at (s : Fin 512) (k : Fin 511) : srcR (F := Ideal) (ix2 s k) = BitVec.ofNat 32 s.val := by
  pointwise [srcR]

/-- The target word is the number of the target: every node but the source, in order. -/
theorem dstR_at (s : Fin 512) (k : Fin 511) : dstR (F := Ideal) (ix2 s k) = BitVec.ofNat 32 (s.succAbove k).val := by
  pointwise [dstR]
  rw [WordCmp.cmpi_sge_ofNat (by omega) (by omega)]
  by_cases h : s.val ≤ k.val
  · rw [decide_eq_true h, Fin.succAbove_of_le_castSucc _ _ (show s ≤ Fin.castSucc k from h)]
    exact WordCmp.addi_ofNat _ 1
  · rw [decide_eq_false h, Fin.succAbove_of_castSucc_lt _ _ (show Fin.castSucc k < s from Nat.lt_of_not_le h)]
    exact WordCmp.addi_ofNat _ 0

/-- The word a row is taken by: negative words count from the end, and these are not negative. -/
def wrap (i : IVec S512x511 32) : IVec S512x511x1 32 :=
  (broadcastInDim S512x511x1 ![0, 1] bcast_S512x511_S512x511x1_0_1 (select (cmpi .slt i (broadcastInDim S512x511 ![] bcast_S_S512x511 (constantI S_ 32 0#32)))
          (addi i (broadcastInDim S512x511 ![] bcast_S_S512x511 (constantI S_ 32 512#32))) i))

/-- That word is the number itself. -/
theorem wrap_at (i : IVec S512x511 32) (n : Fin 512 → Fin 511 → Fin 512) (hi : ∀ s k, i (ix2 s k) = BitVec.ofNat 32 (n s k).val) (s : Fin 512) (k : Fin 511) :
    wrap i (ix3 s k 0) = BitVec.ofNat 32 (n s k).val := by
  pointwise [wrap]
  rw [hi s k]
  have hc : IntOp.cmpi .slt (BitVec.ofNat 32 (n s k).val) 0#32 = 0#1 := by
    rw [show (0#32) = BitVec.ofNat 32 0 from rfl, WordCmp.cmpi_slt_ofNat (by omega) (by omega)]
    rfl
  rw [hc]
  rfl

/-- Rows taken by number. -/
theorem rowsR_at (i : IVec S512x511 32) (n : Fin 512 → Fin 511 → Fin 512) (hi : ∀ s k, i (ix2 s k) = BitVec.ofNat 32 (n s k).val)
    (x : FVec Ideal S512x64 .f32) (s : Fin 512) (k : Fin 511) (c : Fin 64) : rowsR (F := Ideal) i x (ix3 s k c) = x (ix2 (n s k) c) := by
  show Host.gather gather_S512x64_S512x511x1_S512x511x64_2_0_n_n_0_2_164 x (wrap i) (ix3 s k c) = _
  unfold Host.gather
  congr 1
  funext a
  refine Fin.ext ?_
  have hsi : ∀ h, gather_S512x64_S512x511x1_S512x511x64_2_0_n_n_0_2_164.siIdx (ix3 s k c) ⟨0, h⟩ = ix3 s k 0 := by
    intro h
    funext b; refine Fin.ext ?_
    match b with
    | ⟨0, _⟩ => rfl
    | ⟨1, _⟩ => rfl
    | ⟨2, _⟩ => rfl
  match a with
  | ⟨0, _⟩ =>
    refine (congrArg (fun j => min (wrap i j).toInt.toNat 511 + 0 + 0) (hsi Nat.zero_lt_one)).trans ?_
    rw [wrap_at i n hi, WordCmp.toInt_ofNat_of_lt (by omega)]
    show min (n s k).val 511 + 0 + 0 = (n s k).val
    omega
  | ⟨1, _⟩ => show 0 + 0 + c.val = c.val; omega

/-- Where an update lands. -/
theorem lands (i : IVec S512x511 32) (n : Fin 512 → Fin 511 → Fin 512) (hi : ∀ s k, i (ix2 s k) = BitVec.ofNat 32 (n s k).val)
    (s : Fin 512) (k : Fin 511) (b : Fin 64) : scatter_S512x64_S512x511x1_S512x511x64_2_0_0_2.resultIdx? (ix3 s k b) (wrap i) = some (ix2 (n s k) b) := by
  have hsi : ∀ h, scatter_S512x64_S512x511x1_S512x511x64_2_0_0_2.siIdx (ix3 s k b) ⟨0, h⟩ = ix3 s k 0 := by
    intro h
    funext b; refine Fin.ext ?_
    match b with
    | ⟨0, _⟩ => rfl
    | ⟨1, _⟩ => rfl
    | ⟨2, _⟩ => rfl
  have h0 : scatter_S512x64_S512x511x1_S512x511x64_2_0_0_2.start (ix3 s k b) (wrap i) 0 = ((n s k).val : Int) := by
    refine (congrArg (fun j => (wrap i j).toInt) (hsi Nat.zero_lt_one)).trans ?_
    rw [wrap_at i n hi, WordCmp.toInt_ofNat_of_lt (by omega)]
  have h1 : scatter_S512x64_S512x511x1_S512x511x64_2_0_0_2.start (ix3 s k b) (wrap i) 1 = 0 := rfl
  have w0 : scatter_S512x64_S512x511x1_S512x511x64_2_0_0_2.window (ix3 s k b) 0 = 0 := rfl
  have w1 : scatter_S512x64_S512x511x1_S512x511x64_2_0_0_2.window (ix3 s k b) 1 = b.val := rfl
  unfold ScatterDims.resultIdx?
  rw [dif_pos (fun a => match a with
    | ⟨0, _⟩ => (by
      show 0 ≤ scatter_S512x64_S512x511x1_S512x511x64_2_0_0_2.start (ix3 s k b) (wrap i) 0 + (scatter_S512x64_S512x511x1_S512x511x64_2_0_0_2.window (ix3 s k b) 0 : Int) ∧ scatter_S512x64_S512x511x1_S512x511x64_2_0_0_2.start (ix3 s k b) (wrap i) 0 + (scatter_S512x64_S512x511x1_S512x511x64_2_0_0_2.window (ix3 s k b) 0 : Int) < 512
      rw [h0, w0]; omega)
    | ⟨1, _⟩ => (by
      show 0 ≤ scatter_S512x64_S512x511x1_S512x511x64_2_0_0_2.start (ix3 s k b) (wrap i) 1 + (scatter_S512x64_S512x511x1_S512x511x64_2_0_0_2.window (ix3 s k b) 1 : Int) ∧ scatter_S512x64_S512x511x1_S512x511x64_2_0_0_2.start (ix3 s k b) (wrap i) 1 + (scatter_S512x64_S512x511x1_S512x511x64_2_0_0_2.window (ix3 s k b) 1 : Int) < 64
      rw [h1, w1]; omega))]
  refine congrArg some (funext fun a => Fin.ext ?_)
  match a with
  | ⟨0, _⟩ =>
    show (scatter_S512x64_S512x511x1_S512x511x64_2_0_0_2.start (ix3 s k b) (wrap i) 0 + (scatter_S512x64_S512x511x1_S512x511x64_2_0_0_2.window (ix3 s k b) 0 : Int)).toNat = (n s k).val
    rw [h0, w0]; omega
  | ⟨1, _⟩ =>
    show (scatter_S512x64_S512x511x1_S512x511x64_2_0_0_2.start (ix3 s k b) (wrap i) 1 + (scatter_S512x64_S512x511x1_S512x511x64_2_0_0_2.window (ix3 s k b) 1 : Int)).toNat = b.val
    rw [h1, w1]; omega

/-- The sum of messages into a target. -/
theorem addR_at (i : IVec S512x511 32) (n : Fin 512 → Fin 511 → Fin 512) (hi : ∀ s k, i (ix2 s k) = BitVec.ofNat 32 (n s k).val)
    (x : FVec Ideal S512x511x64 .f32) (d : Fin 512) (c : Fin 64) :
    addR (F := Ideal) i x (ix2 d c) = ∑ s : Fin 512, ∑ k : Fin 511, if n s k = d then (x (ix3 s k c) : EReal) else 0 := by
  have h0 : (broadcastInDim S512x64 ![] bcast_S_S512x64 (constant S_ .f32 0x00000000#32) : FVec Ideal S512x64 .f32) (ix2 d c) = (0 : EReal) := by
    pointwise []
  show (broadcastInDim S512x64 ![] bcast_S_S512x64 (constant S_ .f32 0x00000000#32) : FVec Ideal S512x64 .f32) (ix2 d c)
    + ∑ j ∈ Finset.univ.filter (fun j => scatter_S512x64_S512x511x1_S512x511x64_2_0_0_2.resultIdx? j (wrap i) = some (ix2 d c)), (x j : EReal) = _
  rw [h0, zero_add, Finset.sum_filter, sum_idx3]
  refine Finset.sum_congr rfl fun s _ => Finset.sum_congr rfl fun k _ => ?_
  refine (Finset.sum_eq_single c (fun b _ hb => ?_) (fun h => absurd (Finset.mem_univ _) h)).trans ?_
  · rw [if_neg]
    rw [lands i n hi]
    exact fun h => hb (congrFun (Option.some.inj h) 1)
  · rw [lands i n hi]
    refine if_congr ⟨fun h => congrFun (Option.some.inj h) 0, fun h => by rw [h]⟩ rfl rfl

/-- The nodes after `k` steps: the rows below `k` hold the states. -/
theorem nodesR_val (gv : FVec Ideal S192 .f32) (w : FVec Ideal S192x64 .f32) (b : FVec Ideal S192 .f32)
    (hw : R2 w W.whh) (hb : R1 b W.bhh) (hg : R1 gv (gi W)) (k : ℕ) (hk : k ≤ 512) (d : Fin 512) (c : Fin 64) (hd : d.val < k) :
    nodesR (F := Ideal) gv w b k (ix2 d c) = ((X W d c : ℝ) : EReal) := by
  induction k with
  | zero => omega
  | succ k ih =>
    show setR (F := Ideal) (nodesR gv w b k) (hR gv w b (k + 1)) (fun _ => Scf.iv 0#32 1#32 k) (ix2 d c) = _
    rw [setR_at _ _ k (by omega)]
    by_cases e : d.val = k
    · rw [if_pos e, hR_val W gv w b hw hb hg (k + 1) c]
      subst e; rfl
    · rw [if_neg e]
      exact ih (by omega) (by omega)

/-- The flattened latent vector. -/
theorem flat_val (a0 : FVec Ideal S1x128 .f32) (h0 : ∀ k, a0 (ix2 (0 : Fin 1) k) = ((W.z k : ℝ) : EReal)) :
    R1 (shapeCast S128 a0 shapeCasts_S1x128_S128) W.z := by
  intro k
  pointwise []
  exact h0 k

/-- The nodes. -/
theorem nodesAll_val (a0 : FVec Ideal S1x128 .f32) (a1 : FVec Ideal S192x128 .f32) (a2 : FVec Ideal S192x64 .f32) (a3 a4 : FVec Ideal S192 .f32)
    (h0 : ∀ k, a0 (ix2 (0 : Fin 1) k) = ((W.z k : ℝ) : EReal)) (h1 : R2 a1 W.wih) (h2 : R2 a2 W.whh) (h3 : R1 a3 W.bih) (h4 : R1 a4 W.bhh) :
    R2 (nodesAll (F := Ideal) a0 a1 a2 a3 a4) (X W) := fun d c =>
  nodesR_val W _ a2 a4 h2 h4 (giR_val W a1 _ a3 h1 (flat_val W a0 h0) h3) 512 (Nat.le_refl _) d c d.isLt

/-- The first edge layer with its sum in two halves. -/
theorem E1r_two (s d : Fin 512) (k : Fin 256) : E1r W s d k = max ((∑ c : Fin 64, X W s c * W.ew1 ⟨c, by omega⟩ k)
    + (∑ c : Fin 64, X W d c * W.ew1 ⟨64 + c, by omega⟩ k) + W.eb1 k) 0 := by
  unfold E1r
  rw [sum128]
  refine congrArg (fun y => max (y + W.eb1 k) 0) (congrArg₂ (fun a b => a + b) (Finset.sum_congr rfl fun c _ => ?_) (Finset.sum_congr rfl fun c _ => ?_))
  · rw [dif_pos (show c.val < 64 from c.isLt)]
  · rw [dif_neg (show ¬ (64 + c.val < 64) by omega)]
    refine congrArg (fun y => X W d y * _) (Fin.ext ?_)
    show 64 + c.val - 64 = c.val
    omega

/-- The edge features. -/
theorem edgeR_val (xs xd : FVec Ideal S512x511x64 .f32) (w1 : FVec Ideal S128x256 .f32) (b1 : FVec Ideal S256 .f32) (w2 : FVec Ideal S256x16 .f32) (b2 : FVec Ideal S16 .f32)
    (hs : R3 xs (fun s _ c => X W s c)) (hd : R3 xd (fun s k c => X W (s.succAbove k) c)) (h1 : R2 w1 W.ew1) (hb1 : R1 b1 W.eb1) (h2 : R2 w2 W.ew2) (hb2 : R1 b2 W.eb2) :
    R3 (edgeR (F := Ideal) xs xd w1 b1 w2 b2) (fun s k e => Er W s (s.succAbove k) e) := by
  intro s k e
  pointwise [edgeR]
  simp only [hs _ _ _, hd _ _ _, h1 _ _, hb1 _, h2 _ _, hb2 _, ← EReal.coe_mul, csum, ← EReal.coe_add, cmax0]
  unfold Er
  simp only [E1r_two]

/-- The attention's sum in two parts. -/
theorem alr_two (x : Fin 512 → Fin 64 → ℝ) (s d : Fin 512) : alr W C x s d = (∑ t : Fin 8, max ((∑ e : Fin 16, Er W s d e * C.aw1 ⟨e, by omega⟩ t)
    + (∑ c : Fin 64, x s c * C.aw1 ⟨16 + c, by omega⟩ t) + C.ab1 t) 0 * C.aw2 t) + C.ab2 := by
  unfold alr
  refine congrArg (fun y => y + C.ab2) (Finset.sum_congr rfl fun t _ => ?_)
  rw [sum80]
  refine congrArg (fun y => max (y + C.ab1 t) 0 * C.aw2 t) (congrArg₂ (fun a b => a + b) (Finset.sum_congr rfl fun c _ => ?_) (Finset.sum_congr rfl fun c _ => ?_))
  · rw [dif_pos (show c.val < 16 from c.isLt)]
  · rw [dif_neg (show ¬ (16 + c.val < 16) by omega)]
    refine congrArg (fun y => x s y * _) (Fin.ext ?_)
    show 16 + c.val - 16 = c.val
    omega

/-- The attention. -/
theorem alphaR_val (x : Fin 512 → Fin 64 → ℝ) (e : FVec Ideal S512x511x16 .f32) (xj : FVec Ideal S512x511x64 .f32) (w1 : FVec Ideal S80x8 .f32) (b1 : FVec Ideal S8 .f32) (w2 : FVec Ideal S8x1 .f32) (b2 : FVec Ideal S1 .f32)
    (he : R3 e (fun s k j => Er W s (s.succAbove k) j)) (hx : R3 xj (fun s _ c => x s c)) (h1 : R2 w1 C.aw1) (hb1 : R1 b1 C.ab1)
    (h2 : ∀ t, w2 (ix2 t 0) = ((C.aw2 t : ℝ) : EReal)) (hb2 : b2 (ix1 0) = ((C.ab2 : ℝ) : EReal)) :
    R3 (alphaR (F := Ideal) e xj w1 b1 w2 b2) (fun s k _ => alr W C x s (s.succAbove k)) := by
  intro s k u
  obtain rfl : u = 0 := Subsingleton.elim _ _
  pointwise [alphaR]
  simp only [he _ _ _, hx _ _ _, h1 _ _, hb1 _, h2 _, hb2, ← EReal.coe_mul, csum, ← EReal.coe_add, cmax0]
  rw [alr_two]

/-- The weighted messages. -/
theorem msgR_val (x : Fin 512 → Fin 64 → ℝ) (xj : FVec Ideal S512x511x64 .f32) (w : FVec Ideal S64x64 .f32) (b : FVec Ideal S64 .f32) (al : FVec Ideal S512x511x1 .f32)
    (hx : R3 xj (fun s _ c => x s c)) (hw : R2 w C.cw) (hb : R1 b C.cb) (ha : R3 al (fun s k _ => alr W C x s (s.succAbove k))) :
    R3 (msgR (F := Ideal) xj w b al) (fun s k c => alr W C x s (s.succAbove k) * Ms C x s c) := by
  intro s k c
  pointwise [msgR]
  simp only [hx _ _ _, hw _ _, hb _, ha _ _ _, ← EReal.coe_mul, csum, ← EReal.coe_add]
  rfl

/-- One convolution. -/
theorem convR_val (x : Fin 512 → Fin 64 → ℝ) (n : FVec Ideal S512x64 .f32) (e : FVec Ideal S512x511x16 .f32) (w1 : FVec Ideal S80x8 .f32) (b1 : FVec Ideal S8 .f32) (w2 : FVec Ideal S8x1 .f32) (b2 : FVec Ideal S1 .f32)
    (w : FVec Ideal S64x64 .f32) (b : FVec Ideal S64 .f32)
    (hn : R2 n x) (he : R3 e (fun s k j => Er W s (s.succAbove k) j)) (h1 : R2 w1 C.aw1) (hb1 : R1 b1 C.ab1)
    (h2 : ∀ t, w2 (ix2 t 0) = ((C.aw2 t : ℝ) : EReal)) (hb2 : b2 (ix1 0) = ((C.ab2 : ℝ) : EReal)) (hw : R2 w C.cw) (hb : R1 b C.cb) :
    R2 (convR (F := Ideal) n e w1 b1 w2 b2 w b) (convr W C x) := by
  have hx : R3 (rowsR (F := Ideal) (srcR (F := Ideal)) n) (fun s _ c => x s c) := fun s k c =>
    (rowsR_at _ (fun s _ => s) srcR_at n s k c).trans (hn s c)
  have hm := msgR_val W C x _ w b _ hx hw hb (alphaR_val W C x e _ w1 b1 w2 b2 he hx h1 hb1 h2 hb2)
  intro d c
  refine (addR_at _ (fun s k => s.succAbove k) dstR_at _ d c).trans ?_
  unfold convr
  refine (Finset.sum_congr rfl fun s _ => ?_).trans (csum _)
  refine (Finset.sum_congr rfl fun k _ => ?_).trans (csum _)
  rw [hm s k c]
  by_cases hd : s.succAbove k = d
  · subst hd; rw [if_pos rfl, if_pos rfl]
  · rw [if_neg hd, if_neg hd]; rfl

/-- The activation. -/
theorem actR_val (x : FVec Ideal S512x64 .f32) (r : Fin 512 → Fin 64 → ℝ) (h : R2 x r) : R2 (actR (F := Ideal) x) (fun i c => max (r i c) 0) := by
  intro i c
  pointwise [actR]
  rw [h i c, cmax0]

/-- The sum over the nodes. -/
theorem sumR_val (x : FVec Ideal S512x64 .f32) (r : Fin 512 → Fin 64 → ℝ) (h : R2 x r) : R1 (sumR (F := Ideal) x) (fun c => ∑ d, r d c) := by
  intro c
  pointwise [sumR]
  exact (Finset.sum_congr rfl fun d _ => h d c).trans (csum _)

/-- THE VALUE: the reference's result on real weights. -/
theorem outR_val (a0 : FVec Ideal S1x128 .f32) (a1 : FVec Ideal S192x128 .f32) (a2 : FVec Ideal S192x64 .f32) (a3 : FVec Ideal S192 .f32) (a4 : FVec Ideal S192 .f32) (a5 : FVec Ideal S128x256 .f32) (a6 : FVec Ideal S256 .f32) (a7 : FVec Ideal S256x16 .f32) (a8 : FVec Ideal S16 .f32) (a9 : FVec Ideal S80x8 .f32) (a10 : FVec Ideal S8 .f32) (a11 : FVec Ideal S8x1 .f32) (a12 : FVec Ideal S1 .f32) (a13 : FVec Ideal S80x8 .f32) (a14 : FVec Ideal S8 .f32) (a15 : FVec Ideal S8x1 .f32) (a16 : FVec Ideal S1 .f32) (a17 : FVec Ideal S64x64 .f32) (a18 : FVec Ideal S64 .f32) (a19 : FVec Ideal S64x64 .f32) (a20 : FVec Ideal S64 .f32) (h : IsArgs W C D a0 a1 a2 a3 a4 a5 a6 a7 a8 a9 a10 a11 a12 a13 a14 a15 a16 a17 a18 a19 a20) : R1 (outR (F := Ideal) a0 a1 a2 a3 a4 a5 a6 a7 a8 a9 a10 a11 a12 a13 a14 a15 a16 a17 a18 a19 a20) (res W C D) := by
  have hn : R2 (nodesAll (F := Ideal) a0 a1 a2 a3 a4) (X W) := nodesAll_val W a0 a1 a2 a3 a4 h.z h.wih h.whh h.bih h.bhh
  have he : R3 (edgeR (F := Ideal) (rowsR (srcR (F := Ideal)) (nodesAll (F := Ideal) a0 a1 a2 a3 a4)) (rowsR (dstR (F := Ideal)) (nodesAll (F := Ideal) a0 a1 a2 a3 a4)) a5 a6 a7 a8)
      (fun s k e => Er W s (s.succAbove k) e) :=
    edgeR_val W _ _ a5 a6 a7 a8 (fun s k c => (rowsR_at _ (fun s _ => s) srcR_at _ s k c).trans (hn s c))
      (fun s k c => (rowsR_at _ (fun s k => s.succAbove k) dstR_at _ s k c).trans (hn _ c)) h.ew1 h.eb1 h.ew2 h.eb2
  have h1 := convR_val W C (X W) _ _ a9 a10 a11 a12 a17 a18 hn he h.aw10 h.ab10 h.aw20 h.ab20 h.cw0 h.cb0
  have h2 := convR_val W D _ _ _ a13 a14 a15 a16 a19 a20 (actR_val _ _ h1) he h.aw11 h.ab11 h.aw21 h.ab21 h.cw1 h.cb1
  intro c
  rw [← resr_eq]
  exact sumR_val _ _ h2 c

end Cert.Proof.Ref
end
end
-- ==== Proof.Finite.lean ====
module

public import proofs.«01_k».proof.Defs
public import proofs.«01_k».proof.Proof.Args
public import proofs.«01_k».proof.Proof.Gen.Pre_finite

@[expose] public section

noncomputable section

namespace Cert.Proof.Fin

open Idealize.ShloMosaic
open Cert.Proof.Math

/-- An element whose absolute value is below infinity is a real number. -/
theorem real_of {S : Shape} (a : FVec Ideal S .f32) (hb : Cert.Pre_finite.S_.BroadcastsInDim S ![])
    (h : cmpf .olt (Host.absf a) (broadcastInDim S ![] hb (constant Cert.Pre_finite.S_ .f32 0x7F800000#32)) = fun _ => 1#1) (i : S.Idx) :
    a i = (((a i : EReal).toReal : ℝ) : EReal) := by
  have ht : Ideal.ofBits .f32 0x7F800000#32 = ⊤ := by simp [Ideal.ofBits, Ideal.ieee]
  have h1 : BitVec.ofBool (decide (max (a i : EReal) (-(a i : EReal)) < Ideal.ofBits .f32 0x7F800000#32)) = 1#1 := congrFun h i
  rw [ht] at h1
  have h2 : max (a i : EReal) (-(a i : EReal)) < ⊤ := by
    by_contra hn
    rw [decide_eq_false hn] at h1
    exact absurd h1 (by decide)
  refine (EReal.coe_toReal (fun e => ?_) (fun e => ?_)).symm
  · rw [e] at h2; exact absurd h2 (by simp)
  · rw [e] at h2; exact absurd h2 (by simp)

local instance : Cert.Pre_finite.Facts := Cert.Pre_finite.Gen.facts

/-- Finite arguments are real weights. -/
theorem isArgs_of (a0 : FVec Ideal ⟨2, ![1,128]⟩ .f32) (a1 : FVec Ideal ⟨2, ![192,128]⟩ .f32) (a2 : FVec Ideal ⟨2, ![192,64]⟩ .f32) (a3 : FVec Ideal ⟨1, ![192]⟩ .f32) (a4 : FVec Ideal ⟨1, ![192]⟩ .f32) (a5 : FVec Ideal ⟨2, ![128,256]⟩ .f32) (a6 : FVec Ideal ⟨1, ![256]⟩ .f32) (a7 : FVec Ideal ⟨2, ![256,16]⟩ .f32) (a8 : FVec Ideal ⟨1, ![16]⟩ .f32) (a9 : FVec Ideal ⟨2, ![80,8]⟩ .f32) (a10 : FVec Ideal ⟨1, ![8]⟩ .f32) (a11 : FVec Ideal ⟨2, ![8,1]⟩ .f32) (a12 : FVec Ideal ⟨1, ![1]⟩ .f32) (a13 : FVec Ideal ⟨2, ![80,8]⟩ .f32) (a14 : FVec Ideal ⟨1, ![8]⟩ .f32) (a15 : FVec Ideal ⟨2, ![8,1]⟩ .f32) (a16 : FVec Ideal ⟨1, ![1]⟩ .f32) (a17 : FVec Ideal ⟨2, ![64,64]⟩ .f32) (a18 : FVec Ideal ⟨1, ![64]⟩ .f32) (a19 : FVec Ideal ⟨2, ![64,64]⟩ .f32) (a20 : FVec Ideal ⟨1, ![64]⟩ .f32)
    (h : (Cert.Pre_finite.fn (F := Ideal) a0 a1 a2 a3 a4 a5 a6 a7 a8 a9 a10 a11 a12 a13 a14 a15 a16 a17 a18 a19 a20).1 = (fun _ => 1#1) ∧ (Cert.Pre_finite.fn (F := Ideal) a0 a1 a2 a3 a4 a5 a6 a7 a8 a9 a10 a11 a12 a13 a14 a15 a16 a17 a18 a19 a20).2.1 = (fun _ => 1#1) ∧ (Cert.Pre_finite.fn (F := Ideal) a0 a1 a2 a3 a4 a5 a6 a7 a8 a9 a10 a11 a12 a13 a14 a15 a16 a17 a18 a19 a20).2.2.1 = (fun _ => 1#1) ∧ (Cert.Pre_finite.fn (F := Ideal) a0 a1 a2 a3 a4 a5 a6 a7 a8 a9 a10 a11 a12 a13 a14 a15 a16 a17 a18 a19 a20).2.2.2.1 = (fun _ => 1#1) ∧ (Cert.Pre_finite.fn (F := Ideal) a0 a1 a2 a3 a4 a5 a6 a7 a8 a9 a10 a11 a12 a13 a14 a15 a16 a17 a18 a19 a20).2.2.2.2.1 = (fun _ => 1#1) ∧ (Cert.Pre_finite.fn (F := Ideal) a0 a1 a2 a3 a4 a5 a6 a7 a8 a9 a10 a11 a12 a13 a14 a15 a16 a17 a18 a19 a20).2.2.2.2.2.1 = (fun _ => 1#1) ∧ (Cert.Pre_finite.fn (F := Ideal) a0 a1 a2 a3 a4 a5 a6 a7 a8 a9 a10 a11 a12 a13 a14 a15 a16 a17 a18 a19 a20).2.2.2.2.2.2.1 = (fun _ => 1#1) ∧ (Cert.Pre_finite.fn (F := Ideal) a0 a1 a2 a3 a4 a5 a6 a7 a8 a9 a10 a11 a12 a13 a14 a15 a16 a17 a18 a19 a20).2.2.2.2.2.2.2.1 = (fun _ => 1#1) ∧ (Cert.Pre_finite.fn (F := Ideal) a0 a1 a2 a3 a4 a5 a6 a7 a8 a9 a10 a11 a12 a13 a14 a15 a16 a17 a18 a19 a20).2.2.2.2.2.2.2.2.1 = (fun _ => 1#1) ∧ (Cert.Pre_finite.fn (F := Ideal) a0 a1 a2 a3 a4 a5 a6 a7 a8 a9 a10 a11 a12 a13 a14 a15 a16 a17 a18 a19 a20).2.2.2.2.2.2.2.2.2.1 = (fun _ => 1#1) ∧ (Cert.Pre_finite.fn (F := Ideal) a0 a1 a2 a3 a4 a5 a6 a7 a8 a9 a10 a11 a12 a13 a14 a15 a16 a17 a18 a19 a20).2.2.2.2.2.2.2.2.2.2.1 = (fun _ => 1#1) ∧ (Cert.Pre_finite.fn (F := Ideal) a0 a1 a2 a3 a4 a5 a6 a7 a8 a9 a10 a11 a12 a13 a14 a15 a16 a17 a18 a19 a20).2.2.2.2.2.2.2.2.2.2.2.1 = (fun _ => 1#1) ∧ (Cert.Pre_finite.fn (F := Ideal) a0 a1 a2 a3 a4 a5 a6 a7 a8 a9 a10 a11 a12 a13 a14 a15 a16 a17 a18 a19 a20).2.2.2.2.2.2.2.2.2.2.2.2.1 = (fun _ => 1#1) ∧ (Cert.Pre_finite.fn (F := Ideal) a0 a1 a2 a3 a4 a5 a6 a7 a8 a9 a10 a11 a12 a13 a14 a15 a16 a17 a18 a19 a20).2.2.2.2.2.2.2.2.2.2.2.2.2.1 = (fun _ => 1#1) ∧ (Cert.Pre_finite.fn (F := Ideal) a0 a1 a2 a3 a4 a5 a6 a7 a8 a9 a10 a11 a12 a13 a14 a15 a16 a17 a18 a19 a20).2.2.2.2.2.2.2.2.2.2.2.2.2.2.1 = (fun _ => 1#1) ∧ (Cert.Pre_finite.fn (F := Ideal) a0 a1 a2 a3 a4 a5 a6 a7 a8 a9 a10 a11 a12 a13 a14 a15 a16 a17 a18 a19 a20).2.2.2.2.2.2.2.2.2.2.2.2.2.2.2.1 = (fun _ => 1#1) ∧ (Cert.Pre_finite.fn (F := Ideal) a0 a1 a2 a3 a4 a5 a6 a7 a8 a9 a10 a11 a12 a13 a14 a15 a16 a17 a18 a19 a20).2.2.2.2.2.2.2.2.2.2.2.2.2.2.2.2.1 = (fun _ => 1#1) ∧ (Cert.Pre_finite.fn (F := Ideal) a0 a1 a2 a3 a4 a5 a6 a7 a8 a9 a10 a11 a12 a13 a14 a15 a16 a17 a18 a19 a20).2.2.2.2.2.2.2.2.2.2.2.2.2.2.2.2.2.1 = (fun _ => 1#1) ∧ (Cert.Pre_finite.fn (F := Ideal) a0 a1 a2 a3 a4 a5 a6 a7 a8 a9 a10 a11 a12 a13 a14 a15 a16 a17 a18 a19 a20).2.2.2.2.2.2.2.2.2.2.2.2.2.2.2.2.2.2.1 = (fun _ => 1#1) ∧ (Cert.Pre_finite.fn (F := Ideal) a0 a1 a2 a3 a4 a5 a6 a7 a8 a9 a10 a11 a12 a13 a14 a15 a16 a17 a18 a19 a20).2.2.2.2.2.2.2.2.2.2.2.2.2.2.2.2.2.2.2.1 = (fun _ => 1#1) ∧ (Cert.Pre_finite.fn (F := Ideal) a0 a1 a2 a3 a4 a5 a6 a7 a8 a9 a10 a11 a12 a13 a14 a15 a16 a17 a18 a19 a20).2.2.2.2.2.2.2.2.2.2.2.2.2.2.2.2.2.2.2.2 = (fun _ => 1#1)) :
    ∃ (W : Wt) (C D : Cv), IsArgs W C D a0 a1 a2 a3 a4 a5 a6 a7 a8 a9 a10 a11 a12 a13 a14 a15 a16 a17 a18 a19 a20 :=
  ⟨⟨fun k => (a0 (ix2 (0 : Fin 1) k) : EReal).toReal, fun g k => (a1 (ix2 g k) : EReal).toReal, fun g k => (a2 (ix2 g k) : EReal).toReal, fun g => (a3 (ix1 g) : EReal).toReal, fun g => (a4 (ix1 g) : EReal).toReal, fun i k => (a5 (ix2 i k) : EReal).toReal, fun k => (a6 (ix1 k) : EReal).toReal, fun k e => (a7 (ix2 k e) : EReal).toReal, fun e => (a8 (ix1 e) : EReal).toReal⟩,
    ⟨fun i t => (a9 (ix2 i t) : EReal).toReal, fun t => (a10 (ix1 t) : EReal).toReal, fun t => (a11 (ix2 t (0 : Fin 1)) : EReal).toReal, (a12 (ix1 (0 : Fin 1)) : EReal).toReal, fun i c => (a17 (ix2 i c) : EReal).toReal, fun c => (a18 (ix1 c) : EReal).toReal⟩,
    ⟨fun i t => (a13 (ix2 i t) : EReal).toReal, fun t => (a14 (ix1 t) : EReal).toReal, fun t => (a15 (ix2 t (0 : Fin 1)) : EReal).toReal, (a16 (ix1 (0 : Fin 1)) : EReal).toReal, fun i c => (a19 (ix2 i c) : EReal).toReal, fun c => (a20 (ix1 c) : EReal).toReal⟩,
    ⟨(fun _ => real_of a0 _ (h.1) _), (fun _ _ => real_of a1 _ (h.2.1) _), (fun _ _ => real_of a2 _ (h.2.2.1) _), (fun _ => real_of a3 _ (h.2.2.2.1) _), (fun _ => real_of a4 _ (h.2.2.2.2.1) _), (fun _ _ => real_of a5 _ (h.2.2.2.2.2.1) _), (fun _ => real_of a6 _ (h.2.2.2.2.2.2.1) _), (fun _ _ => real_of a7 _ (h.2.2.2.2.2.2.2.1) _), (fun _ => real_of a8 _ (h.2.2.2.2.2.2.2.2.1) _), (fun _ _ => real_of a9 _ (h.2.2.2.2.2.2.2.2.2.1) _), (fun _ => real_of a10 _ (h.2.2.2.2.2.2.2.2.2.2.1) _), (fun _ => real_of a11 _ (h.2.2.2.2.2.2.2.2.2.2.2.1) _), (real_of a12 _ (h.2.2.2.2.2.2.2.2.2.2.2.2.1) _), (fun _ _ => real_of a13 _ (h.2.2.2.2.2.2.2.2.2.2.2.2.2.1) _), (fun _ => real_of a14 _ (h.2.2.2.2.2.2.2.2.2.2.2.2.2.2.1) _), (fun _ => real_of a15 _ (h.2.2.2.2.2.2.2.2.2.2.2.2.2.2.2.1) _), (real_of a16 _ (h.2.2.2.2.2.2.2.2.2.2.2.2.2.2.2.2.1) _), (fun _ _ => real_of a17 _ (h.2.2.2.2.2.2.2.2.2.2.2.2.2.2.2.2.2.1) _), (fun _ => real_of a18 _ (h.2.2.2.2.2.2.2.2.2.2.2.2.2.2.2.2.2.2.1) _), (fun _ _ => real_of a19 _ (h.2.2.2.2.2.2.2.2.2.2.2.2.2.2.2.2.2.2.2.1) _), (fun _ => real_of a20 _ (h.2.2.2.2.2.2.2.2.2.2.2.2.2.2.2.2.2.2.2.2) _)⟩⟩

end Cert.Proof.Fin
end
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Same
public import proofs.«01_k».proof.Proof.KerRun
public import proofs.«01_k».proof.Proof.RefNum
public import proofs.«01_k».proof.Proof.Finite
public import Idealize.ShloMosaic.Lib.Claim

@[expose] public section

set_option maxRecDepth 65536

noncomputable section

namespace Cert.Proof

open Idealize.ShloMosaic Idealize.ShloMosaic.TcCoe Idealize.SL.Sem
open Cert.Proof.Math

local instance : Cert.Kernel.Facts := Cert.Kernel.Gen.facts
local instance : Cert.KernelIdeal.Facts := Cert.KernelIdeal.Gen.facts
local instance : Cert.ReferenceIdeal.Facts := Cert.ReferenceIdeal.Gen.facts
local instance : Cert.Pre_finite.Facts := Cert.Pre_finite.Gen.facts

/-- The reference's frame at the extended reals. -/
theorem frame_reference : Cert.quiescent_ReferenceIdeal := fun m ρ _ =>
  (θ_run Cert.ReferenceIdeal.defs _ _).mono (fun _ h => ⟨fun c => (h.1 c).2, h.2⟩) (Ref.run_main (F := Ideal) m ρ)

/-- The kernel and the reference end with the same result, from finite arguments. -/
theorem same_result : Cert.algebraic_KernelIdeal_ReferenceIdeal_pre_finite := by
  intro m g m' g' hpre hsame
  refine ⟨fun c => Ref.outR (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)), ?_, ?_⟩
  · refine (θ_run Cert.KernelIdeal.defs _ _).mono (fun r h c => ⟨?_, h.1.1 c⟩)
      (θ_run_and (KernelIdeal.run_main (F := Ideal) m g) (KernelIdeal.run_value m g))
    obtain ⟨W, C, D, hW⟩ := Fin.isArgs_of _ _ _ _ _ _ _ _ _ _ _ _ _ _ _ _ _ _ _ _ _ (hpre c)
    have hr := Ref.outR_val W C D _ _ _ _ _ _ _ _ _ _ _ _ _ _ _ _ _ _ _ _ _ hW
    funext i
    have hi : i = ix1 (i 0) := eq_ix1 i
    rw [hi]
    exact (h.2 c W C D hW (i 0)).trans (hr (i 0)).symm
  · refine (θ_run Cert.ReferenceIdeal.defs _ _).mono (fun r h c => ⟨(h.1 c).1.trans ?_, (h.1 c).2⟩) (Ref.run_main (F := Ideal) m' g')
    obtain ⟨e0, e1, e2, e3, e4, e5, e6, e7, e8, e9, e10, e11, e12, e13, e14, e15, e16, e17, e18, e19, e20⟩ := hsame c
    rw [e0, e1, e2, e3, e4, e5, e6, e7, e8, e9, e10, e11, e12, e13, e14, e15, e16, e17, e18, e19, e20]

/-- Everything the certificate claims. -/
theorem claim : Cert.Claim :=
  ⟨Cert.Kernel.Gen.facts, Cert.KernelIdeal.Gen.facts, Cert.ReferenceIdeal.Gen.facts, Cert.Pre_finite.Gen.facts,
    frame_kernel, frame_ideal, fun m ρ _ => frame_ideal m ρ trivial, frame_reference, fun m ρ _ => frame_reference m ρ trivial, trivial, same_result⟩

end Cert.Proof

end
end
